-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .bf16 0x3DB5#16 (((Real.sqrt 128)⁻¹ : ℝ) : EReal)
  ∧ IdealRules.named_const.Statement Cert.KernelIdeal.κ "mask" .f32 0xC6EA6000#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S4x2048x32x128 : S_.BroadcastsInDim S4x2048x32x128 (![] : Fin 0 → Fin S4x2048x32x128.rank)

variable [Facts]

def fn {F : FTy → Type} [FloatOps F] (main_arg0 : FVec F S1x2048x1024 .bf16) (main_arg1 : FVec F S1024x1024 .bf16) (main_arg2 : FVec F S4x2048x32x128 .bf16) (main_arg3 : FVec F S4x2048x32x128 .bf16) (main_arg4 : FVec F S1024x1024 .bf16) : IVec S1x2048x1024 1 × IVec S1024x1024 1 × IVec S4x2048x32x128 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4x2048x32x128 .f32 := (extf .f32 · bitsLt_bf16_f32) main_arg2
  let main_v9 : FVec F S4x2048x32x128 .f32 := Host.absf main_v8
  let main_cst_1 : FVec F S_ .f32 := constant S_ .f32 0x7F800000#32
  let main_v10 : FVec F S4x2048x32x128 .f32 := broadcastInDim S4x2048x32x128 ![] bcast_S_S4x2048x32x128 main_cst_1
  let main_v11 : IVec S4x2048x32x128 1 := cmpf .olt main_v9 main_v10
  (main_v3, main_v7, main_v11)
-- ==== Pre_finite_ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  bcast_S_S1024x4096 : S_.BroadcastsInDim S1024x4096 (![] : Fin 0 → Fin S1024x4096.rank)
  bcast_S_S4x2048x32x128 : S_.BroadcastsInDim S4x2048x32x128 (![] : Fin 0 → Fin S4x2048x32x128.rank)

variable [Facts]

def fn {F : FTy → Type} [FloatOps F] (main_arg0 : FVec F S4x2048x1024 .bf16) (main_arg1 : FVec F S1024x4096 .bf16) (main_arg2 : FVec F S4x2048x32x128 .bf16) (main_arg3 : FVec F S4x2048x32x128 .bf16) (main_arg4 : FVec F S4096x1024 .bf16) : IVec S4x2048x1024 1 × IVec S1024x4096 1 × IVec S4x2048x32x128 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S4x2048x32x128 .f32 := (extf .f32 · bitsLt_bf16_f32) main_arg2
  let main_v9 : FVec F S4x2048x32x128 .f32 := Host.absf main_v8
  let main_cst_1 : FVec F S_ .f32 := constant S_ .f32 0x7F800000#32
  let main_v10 : FVec F S4x2048x32x128 .f32 := broadcastInDim S4x2048x32x128 ![] bcast_S_S4x2048x32x128 main_cst_1
  let main_v11 : IVec S4x2048x32x128 1 := cmpf .olt main_v9 main_v10
  (main_v3, main_v7, main_v11)
-- ==== Kernel.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S2048x1024 : Shape := ⟨2, ![2048, 1024]⟩
abbrev S_ : Shape := ⟨0, ![]⟩
abbrev S1x2048x32x128 : Shape := ⟨4, ![1, 2048, 32, 128]⟩
abbrev S2048x32x128 : Shape := ⟨3, ![2048, 32, 128]⟩
abbrev S2048x4096 : Shape := ⟨2, ![2048, 4096]⟩
abbrev S4x1024x1024 : Shape := ⟨3, ![4, 1024, 1024]⟩
abbrev S2x2048x1024 : Shape := ⟨3, ![2, 2048, 1024]⟩
abbrev S2048x640 : Shape := ⟨2, ![2048, 640]⟩
abbrev S4 : Shape := ⟨1, ![4]⟩
abbrev S2 : Shape := ⟨1, ![2]⟩
abbrev S1x1024x1024 : Shape := ⟨3, ![1, 1024, 1024]⟩
abbrev S1 : Shape := ⟨1, ![1]⟩
abbrev S256x640 : Shape := ⟨2, ![256, 640]⟩
abbrev S32x1024 : Shape := ⟨2, ![32, 1024]⟩
abbrev S32x128 : Shape := ⟨2, ![32, 128]⟩
abbrev S1x2048x128 : Shape := ⟨3, ![1, 2048, 128]⟩
abbrev S2048x128 : Shape := ⟨2, ![2048, 128]⟩
abbrev S32x2048 : Shape := ⟨2, ![32, 2048]⟩
abbrev S32 : Shape := ⟨1, ![32]⟩
abbrev S32x1 : Shape := ⟨2, ![32, 1]⟩
abbrev S1x32x1024 : Shape := ⟨3, ![1, 32, 1024]⟩
abbrev S256x1024 : Shape := ⟨2, ![256, 1024]⟩
abbrev S1x128x1024 : Shape := ⟨3, ![1, 128, 1024]⟩
abbrev S128x1024 : Shape := ⟨2, ![128, 1024]⟩
abbrev S1x512x1024 : Shape := ⟨3, ![1, 512, 1024]⟩
abbrev S512x1024 : Shape := ⟨2, ![512, 1024]⟩
abbrev S640x1024 : Shape := ⟨2, ![640, 1024]⟩
abbrev S256x128 : Shape := ⟨2, ![256, 128]⟩
abbrev S640x128 : Shape := ⟨2, ![640, 128]⟩
abbrev S256 : Shape := ⟨1, ![256]⟩
abbrev S256x1 : Shape := ⟨2, ![256, 1]⟩
abbrev S224x1024 : Shape := ⟨2, ![224, 1024]⟩
abbrev S1x224x1024 : Shape := ⟨3, ![1, 224, 1024]⟩
abbrev S1x256x1024 : Shape := ⟨3, ![1, 256, 1024]⟩

abbrev nBuf : Space → Nat
  | .hbm => 35
  | .vmem => 9
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S4x2048x32x128, .bf16⟩
  | .hbm, ⟨3, _⟩ => ⟨S4x2048x32x128, .bf16⟩
  | .hbm, ⟨4, _⟩ => ⟨S1024x1024, .bf16⟩
  | .hbm, ⟨5, _⟩ => ⟨S2048x1024, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1x2048x32x128, .bf16⟩
  | .hbm, ⟨21, _⟩ => ⟨S2048x32x128, .bf16⟩
  | .hbm, ⟨22, _⟩ => ⟨S2048x4096, .bf16⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x2048x32x128, .bf16⟩
  | .hbm, ⟨32, _⟩ => ⟨S2048x32x128, .bf16⟩
  | .hbm, ⟨33, _⟩ => ⟨S2048x4096, .bf16⟩
  | .hbm, ⟨34, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S2x2048x1024, .bf16⟩
  | .local _ .vmem, ⟨7, _⟩ => ⟨S2x2048x1024, .bf16⟩
  | .local _ .vmem, ⟨8, _⟩ => ⟨S2048x640, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 2 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_c_0 : Ref sig .tc := ⟨.hbm, 14, rfl⟩
abbrev main_call0_v1 : Ref sig .tc := ⟨.hbm, 15, rfl⟩
abbrev main_call0_v2 : Ref sig .tc := ⟨.hbm, 16, rfl⟩
abbrev main_call0_c_1 : Ref sig .tc := ⟨.hbm, 17, rfl⟩
abbrev main_call0_c_2 : Ref sig .tc := ⟨.hbm, 18, rfl⟩
abbrev main_call0_c_3 : Ref sig .tc := ⟨.hbm, 19, rfl⟩
abbrev main_call0_v3 : Ref sig .tc := ⟨.hbm, 20, rfl⟩
abbrev main_v6 : Ref sig .tc := ⟨.hbm, 21, rfl⟩
abbrev main_v7 : Ref sig .tc := ⟨.hbm, 22, rfl⟩
abbrev main_call1_c : Ref sig .tc := ⟨.hbm, 23, rfl⟩
abbrev main_call1_v0 : Ref sig .tc := ⟨.hbm, 24, rfl⟩
abbrev main_call1_c_0 : Ref sig .tc := ⟨.hbm, 25, rfl⟩
abbrev main_call1_v1 : Ref sig .tc := ⟨.hbm, 26, rfl⟩
abbrev main_call1_v2 : Ref sig .tc := ⟨.hbm, 27, rfl⟩
abbrev main_call1_c_1 : Ref sig .tc := ⟨.hbm, 28, rfl⟩
abbrev main_call1_c_2 : Ref sig .tc := ⟨.hbm, 29, rfl⟩
abbrev main_call1_c_3 : Ref sig .tc := ⟨.hbm, 30, rfl⟩
abbrev main_call1_v3 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : Index := Scalar.indexCast v2
  let c0_29 : Index := 0#32
  let c0_30 : Index := 0#32
  ![v47.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_46 : BitVec 32 := 0#32
  let c0_i32_47 : BitVec 32 := 0#32
  ![v2.toNat, 0, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v57 : BitVec 32 := Scalar.addi v2 c1_i32_35
  let c4_i32_36 : BitVec 32 := 4#32
  let c0_i32_37 : BitVec 32 := 0#32
  let v58 : BitVec 1 := Scalar.cmpi .eq c4_i32_36 c0_i32_37
  let c1_i32_38 : BitVec 32 := 1#32
  let v59 : BitVec 32 := Scalar.select v58 c1_i32_38 c4_i32_36
  let v60 : BitVec 32 := Scalar.remsi v57 v59
  let c0_i32_40 : BitVec 32 := 0#32
  let v62 : BitVec 1 := Scalar.cmpi .slt v60 c0_i32_40
  let c0_i32_41 : BitVec 32 := 0#32
  let v63 : BitVec 1 := Scalar.cmpi .slt v59 c0_i32_41
  let v64 : BitVec 1 := Scalar.xori v62 v63
  let c0_i32_39 : BitVec 32 := 0#32
  let v61 : BitVec 1 := Scalar.cmpi .ne v60 c0_i32_39
  let v65 : BitVec 1 := Scalar.andi v64 v61
  let v66 : BitVec 32 := Scalar.addi v60 v59
  let v67 : BitVec 32 := Scalar.select v65 v66 v60
  let c1_i32_44 : BitVec 32 := 1#32
  let v68 : BitVec 32 := Scalar.muli v67 c1_i32_44
  let v69 : BitVec 32 := Scalar.addi c0_i32_45 v68
  v69.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v78 : BitVec 32 := Scalar.addi v2 c1_i32_50
  let c4_i32_51 : BitVec 32 := 4#32
  let c0_i32_52 : BitVec 32 := 0#32
  let v79 : BitVec 1 := Scalar.cmpi .eq c4_i32_51 c0_i32_52
  let c1_i32_53 : BitVec 32 := 1#32
  let v80 : BitVec 32 := Scalar.select v79 c1_i32_53 c4_i32_51
  let v81 : BitVec 32 := Scalar.remsi v78 v80
  let c0_i32_55 : BitVec 32 := 0#32
  let v83 : BitVec 1 := Scalar.cmpi .slt v81 c0_i32_55
  let c0_i32_56 : BitVec 32 := 0#32
  let v84 : BitVec 1 := Scalar.cmpi .slt v80 c0_i32_56
  let v85 : BitVec 1 := Scalar.xori v83 v84
  let c0_i32_54 : BitVec 32 := 0#32
  let v82 : BitVec 1 := Scalar.cmpi .ne v81 c0_i32_54
  let v86 : BitVec 1 := Scalar.andi v85 v82
  let v87 : BitVec 32 := Scalar.addi v81 v80
  let v88 : BitVec 32 := Scalar.select v86 v87 v81
  let c1_i32_59 : BitVec 32 := 1#32
  let v89 : BitVec 32 := Scalar.muli v88 c1_i32_59
  let v90 : BitVec 32 := Scalar.addi c0_i32_60 v89
  v90.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v99 : BitVec 32 := Scalar.addi v2 c2_i32_65
  let c4_i32_66 : BitVec 32 := 4#32
  let c0_i32_67 : BitVec 32 := 0#32
  let v100 : BitVec 1 := Scalar.cmpi .eq c4_i32_66 c0_i32_67
  let c1_i32_68 : BitVec 32 := 1#32
  let v101 : BitVec 32 := Scalar.select v100 c1_i32_68 c4_i32_66
  let v102 : BitVec 32 := Scalar.remsi v99 v101
  let c0_i32_70 : BitVec 32 := 0#32
  let v104 : BitVec 1 := Scalar.cmpi .slt v102 c0_i32_70
  let c0_i32_71 : BitVec 32 := 0#32
  let v105 : BitVec 1 := Scalar.cmpi .slt v101 c0_i32_71
  let v106 : BitVec 1 := Scalar.xori v104 v105
  let c0_i32_69 : BitVec 32 := 0#32
  let v103 : BitVec 1 := Scalar.cmpi .ne v102 c0_i32_69
  let v107 : BitVec 1 := Scalar.andi v106 v103
  let v108 : BitVec 32 := Scalar.addi v102 v101
  let v109 : BitVec 32 := Scalar.select v107 v108 v102
  let c1_i32_74 : BitVec 32 := 1#32
  let v110 : BitVec 32 := Scalar.muli v109 c1_i32_74
  let v111 : BitVec 32 := Scalar.addi c0_i32_75 v110
  v111.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_80 : BitVec 32 := 2#32
  let v120 : BitVec 32 := Scalar.addi v2 c2_i32_80
  let c4_i32_81 : BitVec 32 := 4#32
  let c0_i32_82 : BitVec 32 := 0#32
  let v121 : BitVec 1 := Scalar.cmpi .eq c4_i32_81 c0_i32_82
  let c1_i32_83 : BitVec 32 := 1#32
  let v122 : BitVec 32 := Scalar.select v121 c1_i32_83 c4_i32_81
  let v123 : BitVec 32 := Scalar.remsi v120 v122
  let c0_i32_85 : BitVec 32 := 0#32
  let v125 : BitVec 1 := Scalar.cmpi .slt v123 c0_i32_85
  let c0_i32_86 : BitVec 32 := 0#32
  let v126 : BitVec 1 := Scalar.cmpi .slt v122 c0_i32_86
  let v127 : BitVec 1 := Scalar.xori v125 v126
  let c0_i32_84 : BitVec 32 := 0#32
  let v124 : BitVec 1 := Scalar.cmpi .ne v123 c0_i32_84
  let v128 : BitVec 1 := Scalar.andi v127 v124
  let v129 : BitVec 32 := Scalar.addi v123 v122
  let v130 : BitVec 32 := Scalar.select v128 v129 v123
  let c1_i32_89 : BitVec 32 := 1#32
  let v131 : BitVec 32 := Scalar.muli v130 c1_i32_89
  let v132 : BitVec 32 := Scalar.addi c0_i32_90 v131
  v132.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v141 : BitVec 32 := Scalar.addi v2 c3_i32_95
  let c4_i32_96 : BitVec 32 := 4#32
  let c0_i32_97 : BitVec 32 := 0#32
  let v142 : BitVec 1 := Scalar.cmpi .eq c4_i32_96 c0_i32_97
  let c1_i32_98 : BitVec 32 := 1#32
  let v143 : BitVec 32 := Scalar.select v142 c1_i32_98 c4_i32_96
  let v144 : BitVec 32 := Scalar.remsi v141 v143
  let c0_i32_100 : BitVec 32 := 0#32
  let v146 : BitVec 1 := Scalar.cmpi .slt v144 c0_i32_100
  let c0_i32_101 : BitVec 32 := 0#32
  let v147 : BitVec 1 := Scalar.cmpi .slt v143 c0_i32_101
  let v148 : BitVec 1 := Scalar.xori v146 v147
  let c0_i32_99 : BitVec 32 := 0#32
  let v145 : BitVec 1 := Scalar.cmpi .ne v144 c0_i32_99
  let v149 : BitVec 1 := Scalar.andi v148 v145
  let v150 : BitVec 32 := Scalar.addi v144 v143
  let v151 : BitVec 32 := Scalar.select v149 v150 v144
  let c1_i32_104 : BitVec 32 := 1#32
  let v152 : BitVec 32 := Scalar.muli v151 c1_i32_104
  let v153 : BitVec 32 := Scalar.addi c0_i32_105 v152
  v153.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_110 : BitVec 32 := 3#32
  let v162 : BitVec 32 := Scalar.addi v2 c3_i32_110
  let c4_i32_111 : BitVec 32 := 4#32
  let c0_i32_112 : BitVec 32 := 0#32
  let v163 : BitVec 1 := Scalar.cmpi .eq c4_i32_111 c0_i32_112
  let c1_i32_113 : BitVec 32 := 1#32
  let v164 : BitVec 32 := Scalar.select v163 c1_i32_113 c4_i32_111
  let v165 : BitVec 32 := Scalar.remsi v162 v164
  let c0_i32_115 : BitVec 32 := 0#32
  let v167 : BitVec 1 := Scalar.cmpi .slt v165 c0_i32_115
  let c0_i32_116 : BitVec 32 := 0#32
  let v168 : BitVec 1 := Scalar.cmpi .slt v164 c0_i32_116
  let v169 : BitVec 1 := Scalar.xori v167 v168
  let c0_i32_114 : BitVec 32 := 0#32
  let v166 : BitVec 1 := Scalar.cmpi .ne v165 c0_i32_114
  let v170 : BitVec 1 := Scalar.andi v169 v166
  let v171 : BitVec 32 := Scalar.addi v165 v164
  let v172 : BitVec 32 := Scalar.select v170 v171 v165
  let c1_i32_119 : BitVec 32 := 1#32
  let v173 : BitVec 32 := Scalar.muli v172 c1_i32_119
  let v174 : BitVec 32 := Scalar.addi c0_i32_120 v173
  v174.toNat
def k0_off3 (d0 : Dev nD) (c0_i32_125 : BitVec 32) : Fin 2 → Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v183 : BitVec 32 := Scalar.addi v2 c0_i32_125
  let c4_i32_126 : BitVec 32 := 4#32
  let c0_i32_127 : BitVec 32 := 0#32
  let v184 : BitVec 1 := Scalar.cmpi .eq c4_i32_126 c0_i32_127
  let c1_i32_128 : BitVec 32 := 1#32
  let v185 : BitVec 32 := Scalar.select v184 c1_i32_128 c4_i32_126
  let v186 : BitVec 32 := Scalar.remsi v183 v185
  let c0_i32_130 : BitVec 32 := 0#32
  let v188 : BitVec 1 := Scalar.cmpi .slt v186 c0_i32_130
  let c0_i32_131 : BitVec 32 := 0#32
  let v189 : BitVec 1 := Scalar.cmpi .slt v185 c0_i32_131
  let v190 : BitVec 1 := Scalar.xori v188 v189
  let c0_i32_129 : BitVec 32 := 0#32
  let v187 : BitVec 1 := Scalar.cmpi .ne v186 c0_i32_129
  let v191 : BitVec 1 := Scalar.andi v190 v187
  let v192 : BitVec 32 := Scalar.addi v186 v185
  let v193 : BitVec 32 := Scalar.select v191 v192 v186
  let c1024_i32 : BitVec 32 := 1024#32
  let v194 : BitVec 32 := Scalar.muli v193 c1024_i32
  ![0, v194.toNat]
def k0_off4 (d0 : Dev nD) (c0_i32_217 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v450 : BitVec 32 := Scalar.addi v2 c0_i32_217
  let c4_i32_218 : BitVec 32 := 4#32
  let c0_i32_219 : BitVec 32 := 0#32
  let v451 : BitVec 1 := Scalar.cmpi .eq c4_i32_218 c0_i32_219
  let c1_i32_220 : BitVec 32 := 1#32
  let v452 : BitVec 32 := Scalar.select v451 c1_i32_220 c4_i32_218
  let v453 : BitVec 32 := Scalar.remsi v450 v452
  let c0_i32_222 : BitVec 32 := 0#32
  let v455 : BitVec 1 := Scalar.cmpi .slt v453 c0_i32_222
  let c0_i32_223 : BitVec 32 := 0#32
  let v456 : BitVec 1 := Scalar.cmpi .slt v452 c0_i32_223
  let v457 : BitVec 1 := Scalar.xori v455 v456
  let c0_i32_221 : BitVec 32 := 0#32
  let v454 : BitVec 1 := Scalar.cmpi .ne v453 c0_i32_221
  let v458 : BitVec 1 := Scalar.andi v457 v454
  let v459 : BitVec 32 := Scalar.addi v453 v452
  let v460 : BitVec 32 := Scalar.select v458 v459 v453
  let v507 : Index := Scalar.indexCast v460
  let c0_262 : Index := 0#32
  let c0_263 : Index := 0#32
  ![v507.toNat, 0, 0]
@[reducible] def k0_t1_loop : Scf.Loop 32 :=
  let c0_i32_347 : BitVec 32 := 0#32
  let c8_i32 : BitVec 32 := 8#32
  let v648 : BitVec 32 := Scalar.addi c0_i32_347 c8_i32
  let c1_i32_348 : BitVec 32 := 1#32
  ⟨c0_i32_347, v648, c1_i32_348⟩
def k0_mult1 (k0_t1 : Fin k0_t1_loop.trips) : BitVec 32 :=
  let c0_i32_847 : BitVec 32 := 0#32
  let c0_i32_347 : BitVec 32 := 0#32
  let c1_i32_348 : BitVec 32 := 1#32
  let arg17 : BitVec 32 := Scf.iv c0_i32_347 c1_i32_348 k0_t1
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  v1320
def k0_off5 (k0_t1 : Fin k0_t1_loop.trips) : Fin 2 → Nat :=
  let c0_i32_347 : BitVec 32 := 0#32
  let c1_i32_348 : BitVec 32 := 1#32
  let arg17 : BitVec 32 := Scf.iv c0_i32_347 c1_i32_348 k0_t1
  let c256_i32_844 : BitVec 32 := 256#32
  let v1317 : BitVec 32 := Scalar.muli arg17 c256_i32_844
  let v1322 : Index := Scalar.indexCast v1317
  let c0_848 : Index := 0#32
  ![v1322.toNat, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_217 : BitVec 32 := 0#32
  let v450 : BitVec 32 := Scalar.addi v2 c0_i32_217
  let c4_i32_218 : BitVec 32 := 4#32
  let c0_i32_219 : BitVec 32 := 0#32
  let v451 : BitVec 1 := Scalar.cmpi .eq c4_i32_218 c0_i32_219
  let c1_i32_220 : BitVec 32 := 1#32
  let v452 : BitVec 32 := Scalar.select v451 c1_i32_220 c4_i32_218
  let v453 : BitVec 32 := Scalar.remsi v450 v452
  let c0_i32_222 : BitVec 32 := 0#32
  let v455 : BitVec 1 := Scalar.cmpi .slt v453 c0_i32_222
  let c0_i32_223 : BitVec 32 := 0#32
  let v456 : BitVec 1 := Scalar.cmpi .slt v452 c0_i32_223
  let v457 : BitVec 1 := Scalar.xori v455 v456
  let c0_i32_221 : BitVec 32 := 0#32
  let v454 : BitVec 1 := Scalar.cmpi .ne v453 c0_i32_221
  let v458 : BitVec 1 := Scalar.andi v457 v454
  let v459 : BitVec 32 := Scalar.addi v453 v452
  let v460 : BitVec 32 := Scalar.select v458 v459 v453
  let v1325 : Index := Scalar.indexCast v460
  let c0_849 : Index := 0#32
  let c0_850 : Index := 0#32
  ![v1325.toNat, 0, 0]
def k0_off7 (k0_t1 : Fin k0_t1_loop.trips) : Fin 2 → Nat :=
  let c0_i32_347 : BitVec 32 := 0#32
  let c1_i32_348 : BitVec 32 := 1#32
  let arg17 : BitVec 32 := Scf.iv c0_i32_347 c1_i32_348 k0_t1
  let c256_i32_844 : BitVec 32 := 256#32
  let v1317 : BitVec 32 := Scalar.muli arg17 c256_i32_844
  let v1330 : Index := Scalar.indexCast v1317
  let c0_852 : Index := 0#32
  ![v1330.toNat, 0]
def k0_off8 (k0_t1 : Fin k0_t1_loop.trips) : Fin 3 → Nat :=
  let c0_856 : Index := 0#32
  let c0_i32_847 : BitVec 32 := 0#32
  let c0_i32_347 : BitVec 32 := 0#32
  let c1_i32_348 : BitVec 32 := 1#32
  let arg17 : BitVec 32 := Scf.iv c0_i32_347 c1_i32_348 k0_t1
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  let v1321 : BitVec 32 := v1320
  let v1334 : Index := Scalar.indexCast v1321
  let c0_857 : Index := 0#32
  ![0, v1334.toNat, 0]
def k0_cond2 (k0_t1 : Fin k0_t1_loop.trips) : BitVec 1 :=
  let c0_i32_347 : BitVec 32 := 0#32
  let c1_i32_348 : BitVec 32 := 1#32
  let arg17 : BitVec 32 := Scf.iv c0_i32_347 c1_i32_348 k0_t1
  let c0_i32_900 : BitVec 32 := 0#32
  let v1480 : BitVec 1 := Scalar.cmpi .sgt arg17 c0_i32_900
  let v1481 : BitVec 32 := Scalar.extui v1480
  let c0_i32_901 : BitVec 32 := 0#32
  let v1482 : BitVec 1 := Scalar.cmpi .ne v1481 c0_i32_901
  v1482

def k0_off9 (k0_t1 : Fin k0_t1_loop.trips) : Fin 3 → Nat :=
  let c0_902 : Index := 0#32
  let c0_i32_347 : BitVec 32 := 0#32
  let c1_i32_348 : BitVec 32 := 1#32
  let arg17 : BitVec 32 := Scf.iv c0_i32_347 c1_i32_348 k0_t1
  let c256_i32_844 : BitVec 32 := 256#32
  let v1317 : BitVec 32 := Scalar.muli arg17 c256_i32_844
  let v1483 : Index := Scalar.indexCast v1317
  let c0_903 : Index := 0#32
  ![0, v1483.toNat, 0]
def k0_off10 (d0 : Dev nD) (c1_i32_350 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v649 : BitVec 32 := Scalar.addi v2 c1_i32_350
  let c4_i32_351 : BitVec 32 := 4#32
  let c0_i32_352 : BitVec 32 := 0#32
  let v650 : BitVec 1 := Scalar.cmpi .eq c4_i32_351 c0_i32_352
  let c1_i32_353 : BitVec 32 := 1#32
  let v651 : BitVec 32 := Scalar.select v650 c1_i32_353 c4_i32_351
  let v652 : BitVec 32 := Scalar.remsi v649 v651
  let c0_i32_355 : BitVec 32 := 0#32
  let v654 : BitVec 1 := Scalar.cmpi .slt v652 c0_i32_355
  let c0_i32_356 : BitVec 32 := 0#32
  let v655 : BitVec 1 := Scalar.cmpi .slt v651 c0_i32_356
  let v656 : BitVec 1 := Scalar.xori v654 v655
  let c0_i32_354 : BitVec 32 := 0#32
  let v653 : BitVec 1 := Scalar.cmpi .ne v652 c0_i32_354
  let v657 : BitVec 1 := Scalar.andi v656 v653
  let v658 : BitVec 32 := Scalar.addi v652 v651
  let v659 : BitVec 32 := Scalar.select v657 v658 v652
  let c0_i32_379 : BitVec 32 := 0#32
  let c0_i32_380 : BitVec 32 := 0#32
  ![v659.toNat, 0, 0]
@[reducible] def k0_t2_loop : Scf.Loop 32 :=
  let c0_i32_502 : BitVec 32 := 0#32
  let c8_i32_503 : BitVec 32 := 8#32
  let v866 : BitVec 32 := Scalar.addi c0_i32_502 c8_i32_503
  let c1_i32_504 : BitVec 32 := 1#32
  ⟨c0_i32_502, v866, c1_i32_504⟩
def k0_mult2 (k0_t2 : Fin k0_t2_loop.trips) : BitVec 32 :=
  let c0_i32_847 : BitVec 32 := 0#32
  let c0_i32_502 : BitVec 32 := 0#32
  let c1_i32_504 : BitVec 32 := 1#32
  let arg17 : BitVec 32 := Scf.iv c0_i32_502 c1_i32_504 k0_t2
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  v1320
def k0_off11 (k0_t2 : Fin k0_t2_loop.trips) : Fin 2 → Nat :=
  let c0_i32_502 : BitVec 32 := 0#32
  let c1_i32_504 : BitVec 32 := 1#32
  let arg17 : BitVec 32 := Scf.iv c0_i32_502 c1_i32_504 k0_t2
  let c256_i32_844 : BitVec 32 := 256#32
  let v1317 : BitVec 32 := Scalar.muli arg17 c256_i32_844
  let v1322 : Index := Scalar.indexCast v1317
  let c0_848 : Index := 0#32
  ![v1322.toNat, 0]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_350 : BitVec 32 := 1#32
  let v649 : BitVec 32 := Scalar.addi v2 c1_i32_350
  let c4_i32_351 : BitVec 32 := 4#32
  let c0_i32_352 : BitVec 32 := 0#32
  let v650 : BitVec 1 := Scalar.cmpi .eq c4_i32_351 c0_i32_352
  let c1_i32_353 : BitVec 32 := 1#32
  let v651 : BitVec 32 := Scalar.select v650 c1_i32_353 c4_i32_351
  let v652 : BitVec 32 := Scalar.remsi v649 v651
  let c0_i32_355 : BitVec 32 := 0#32
  let v654 : BitVec 1 := Scalar.cmpi .slt v652 c0_i32_355
  let c0_i32_356 : BitVec 32 := 0#32
  let v655 : BitVec 1 := Scalar.cmpi .slt v651 c0_i32_356
  let v656 : BitVec 1 := Scalar.xori v654 v655
  let c0_i32_354 : BitVec 32 := 0#32
  let v653 : BitVec 1 := Scalar.cmpi .ne v652 c0_i32_354
  let v657 : BitVec 1 := Scalar.andi v656 v653
  let v658 : BitVec 32 := Scalar.addi v652 v651
  let v659 : BitVec 32 := Scalar.select v657 v658 v652
  let v1325 : Index := Scalar.indexCast v659
  let c0_849 : Index := 0#32
  let c0_850 : Index := 0#32
  ![v1325.toNat, 0, 0]
def k0_off13 (k0_t2 : Fin k0_t2_loop.trips) : Fin 2 → Nat :=
  let c0_i32_502 : BitVec 32 := 0#32
  let c1_i32_504 : BitVec 32 := 1#32
  let arg17 : BitVec 32 := Scf.iv c0_i32_502 c1_i32_504 k0_t2
  let c256_i32_844 : BitVec 32 := 256#32
  let v1317 : BitVec 32 := Scalar.muli arg17 c256_i32_844
  let v1330 : Index := Scalar.indexCast v1317
  let c0_852 : Index := 0#32
  ![v1330.toNat, 0]
def k0_off14 (k0_t2 : Fin k0_t2_loop.trips) : Fin 3 → Nat :=
  let c1_856 : Index := 1#32
  let c0_i32_847 : BitVec 32 := 0#32
  let c0_i32_502 : BitVec 32 := 0#32
  let c1_i32_504 : BitVec 32 := 1#32
  let arg17 : BitVec 32 := Scf.iv c0_i32_502 c1_i32_504 k0_t2
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  let v1321 : BitVec 32 := v1320
  let v1334 : Index := Scalar.indexCast v1321
  let c0_857 : Index := 0#32
  ![1, v1334.toNat, 0]
def k0_cond4 (k0_t2 : Fin k0_t2_loop.trips) : BitVec 1 :=
  let c0_i32_502 : BitVec 32 := 0#32
  let c1_i32_504 : BitVec 32 := 1#32
  let arg17 : BitVec 32 := Scf.iv c0_i32_502 c1_i32_504 k0_t2
  let c0_i32_900 : BitVec 32 := 0#32
  let v1480 : BitVec 1 := Scalar.cmpi .sgt arg17 c0_i32_900
  let v1481 : BitVec 32 := Scalar.extui v1480
  let c0_i32_901 : BitVec 32 := 0#32
  let v1482 : BitVec 1 := Scalar.cmpi .ne v1481 c0_i32_901
  v1482

def k0_off15 (k0_t2 : Fin k0_t2_loop.trips) : Fin 3 → Nat :=
  let c0_902 : Index := 0#32
  let c0_i32_502 : BitVec 32 := 0#32
  let c1_i32_504 : BitVec 32 := 1#32
  let arg17 : BitVec 32 := Scf.iv c0_i32_502 c1_i32_504 k0_t2
  let c256_i32_844 : BitVec 32 := 256#32
  let v1317 : BitVec 32 := Scalar.muli arg17 c256_i32_844
  let v1483 : Index := Scalar.indexCast v1317
  let c0_903 : Index := 0#32
  ![0, v1483.toNat, 0]
@[reducible] def k0_t3_loop : Scf.Loop 32 :=
  let c0_i32_659 : BitVec 32 := 0#32
  let c8_i32_660 : BitVec 32 := 8#32
  let v1084 : BitVec 32 := Scalar.addi c0_i32_659 c8_i32_660
  let c1_i32_661 : BitVec 32 := 1#32
  ⟨c0_i32_659, v1084, c1_i32_661⟩
def k0_mult3 (k0_t3 : Fin k0_t3_loop.trips) : BitVec 32 :=
  let c0_i32_847 : BitVec 32 := 0#32
  let c0_i32_659 : BitVec 32 := 0#32
  let c1_i32_661 : BitVec 32 := 1#32
  let arg17 : BitVec 32 := Scf.iv c0_i32_659 c1_i32_661 k0_t3
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  v1320
def k0_off16 (k0_t3 : Fin k0_t3_loop.trips) : Fin 2 → Nat :=
  let c0_i32_659 : BitVec 32 := 0#32
  let c1_i32_661 : BitVec 32 := 1#32
  let arg17 : BitVec 32 := Scf.iv c0_i32_659 c1_i32_661 k0_t3
  let c256_i32_844 : BitVec 32 := 256#32
  let v1317 : BitVec 32 := Scalar.muli arg17 c256_i32_844
  let v1322 : Index := Scalar.indexCast v1317
  let c0_848 : Index := 0#32
  ![v1322.toNat, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_506 : BitVec 32 := 3#32
  let v867 : BitVec 32 := Scalar.addi v2 c3_i32_506
  let c4_i32_507 : BitVec 32 := 4#32
  let c0_i32_508 : BitVec 32 := 0#32
  let v868 : BitVec 1 := Scalar.cmpi .eq c4_i32_507 c0_i32_508
  let c1_i32_509 : BitVec 32 := 1#32
  let v869 : BitVec 32 := Scalar.select v868 c1_i32_509 c4_i32_507
  let v870 : BitVec 32 := Scalar.remsi v867 v869
  let c0_i32_511 : BitVec 32 := 0#32
  let v872 : BitVec 1 := Scalar.cmpi .slt v870 c0_i32_511
  let c0_i32_512 : BitVec 32 := 0#32
  let v873 : BitVec 1 := Scalar.cmpi .slt v869 c0_i32_512
  let v874 : BitVec 1 := Scalar.xori v872 v873
  let c0_i32_510 : BitVec 32 := 0#32
  let v871 : BitVec 1 := Scalar.cmpi .ne v870 c0_i32_510
  let v875 : BitVec 1 := Scalar.andi v874 v871
  let v876 : BitVec 32 := Scalar.addi v870 v869
  let v877 : BitVec 32 := Scalar.select v875 v876 v870
  let v1325 : Index := Scalar.indexCast v877
  let c0_849 : Index := 0#32
  let c0_850 : Index := 0#32
  ![v1325.toNat, 0, 0]
def k0_off18 (k0_t3 : Fin k0_t3_loop.trips) : Fin 2 → Nat :=
  let c0_i32_659 : BitVec 32 := 0#32
  let c1_i32_661 : BitVec 32 := 1#32
  let arg17 : BitVec 32 := Scf.iv c0_i32_659 c1_i32_661 k0_t3
  let c256_i32_844 : BitVec 32 := 256#32
  let v1317 : BitVec 32 := Scalar.muli arg17 c256_i32_844
  let v1330 : Index := Scalar.indexCast v1317
  let c0_852 : Index := 0#32
  ![v1330.toNat, 0]
def k0_off19 (k0_t3 : Fin k0_t3_loop.trips) : Fin 3 → Nat :=
  let c0_856 : Index := 0#32
  let c0_i32_847 : BitVec 32 := 0#32
  let c0_i32_659 : BitVec 32 := 0#32
  let c1_i32_661 : BitVec 32 := 1#32
  let arg17 : BitVec 32 := Scf.iv c0_i32_659 c1_i32_661 k0_t3
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  let v1321 : BitVec 32 := v1320
  let v1334 : Index := Scalar.indexCast v1321
  let c0_857 : Index := 0#32
  ![0, v1334.toNat, 0]
def k0_cond6 (k0_t3 : Fin k0_t3_loop.trips) : BitVec 1 :=
  let c0_i32_659 : BitVec 32 := 0#32
  let c1_i32_661 : BitVec 32 := 1#32
  let arg17 : BitVec 32 := Scf.iv c0_i32_659 c1_i32_661 k0_t3
  let c0_i32_900 : BitVec 32 := 0#32
  let v1480 : BitVec 1 := Scalar.cmpi .sgt arg17 c0_i32_900
  let v1481 : BitVec 32 := Scalar.extui v1480
  let c0_i32_901 : BitVec 32 := 0#32
  let v1482 : BitVec 1 := Scalar.cmpi .ne v1481 c0_i32_901
  v1482

def k0_off20 (k0_t3 : Fin k0_t3_loop.trips) : Fin 3 → Nat :=
  let c0_902 : Index := 0#32
  let c0_i32_659 : BitVec 32 := 0#32
  let c1_i32_661 : BitVec 32 := 1#32
  let arg17 : BitVec 32 := Scf.iv c0_i32_659 c1_i32_661 k0_t3
  let c256_i32_844 : BitVec 32 := 256#32
  let v1317 : BitVec 32 := Scalar.muli arg17 c256_i32_844
  let v1483 : Index := Scalar.indexCast v1317
  let c0_903 : Index := 0#32
  ![0, v1483.toNat, 0]
@[reducible] def k0_t4_loop : Scf.Loop 32 :=
  let c0_i32_798 : BitVec 32 := 0#32
  let c8_i32_799 : BitVec 32 := 8#32
  let v1280 : BitVec 32 := Scalar.addi c0_i32_798 c8_i32_799
  let c1_i32_800 : BitVec 32 := 1#32
  ⟨c0_i32_798, v1280, c1_i32_800⟩
def k0_mult4 (k0_t4 : Fin k0_t4_loop.trips) : BitVec 32 :=
  let c0_i32_847 : BitVec 32 := 0#32
  let c0_i32_798 : BitVec 32 := 0#32
  let c1_i32_800 : BitVec 32 := 1#32
  let arg17 : BitVec 32 := Scf.iv c0_i32_798 c1_i32_800 k0_t4
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  v1320
def k0_off21 (k0_t4 : Fin k0_t4_loop.trips) : Fin 2 → Nat :=
  let c0_i32_798 : BitVec 32 := 0#32
  let c1_i32_800 : BitVec 32 := 1#32
  let arg17 : BitVec 32 := Scf.iv c0_i32_798 c1_i32_800 k0_t4
  let c256_i32_844 : BitVec 32 := 256#32
  let v1317 : BitVec 32 := Scalar.muli arg17 c256_i32_844
  let v1322 : Index := Scalar.indexCast v1317
  let c0_848 : Index := 0#32
  ![v1322.toNat, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_663 : BitVec 32 := 2#32
  let v1085 : BitVec 32 := Scalar.addi v2 c2_i32_663
  let c4_i32_664 : BitVec 32 := 4#32
  let c0_i32_665 : BitVec 32 := 0#32
  let v1086 : BitVec 1 := Scalar.cmpi .eq c4_i32_664 c0_i32_665
  let c1_i32_666 : BitVec 32 := 1#32
  let v1087 : BitVec 32 := Scalar.select v1086 c1_i32_666 c4_i32_664
  let v1088 : BitVec 32 := Scalar.remsi v1085 v1087
  let c0_i32_668 : BitVec 32 := 0#32
  let v1090 : BitVec 1 := Scalar.cmpi .slt v1088 c0_i32_668
  let c0_i32_669 : BitVec 32 := 0#32
  let v1091 : BitVec 1 := Scalar.cmpi .slt v1087 c0_i32_669
  let v1092 : BitVec 1 := Scalar.xori v1090 v1091
  let c0_i32_667 : BitVec 32 := 0#32
  let v1089 : BitVec 1 := Scalar.cmpi .ne v1088 c0_i32_667
  let v1093 : BitVec 1 := Scalar.andi v1092 v1089
  let v1094 : BitVec 32 := Scalar.addi v1088 v1087
  let v1095 : BitVec 32 := Scalar.select v1093 v1094 v1088
  let v1325 : Index := Scalar.indexCast v1095
  let c0_849 : Index := 0#32
  let c0_850 : Index := 0#32
  ![v1325.toNat, 0, 0]
def k0_off23 (k0_t4 : Fin k0_t4_loop.trips) : Fin 2 → Nat :=
  let c0_i32_798 : BitVec 32 := 0#32
  let c1_i32_800 : BitVec 32 := 1#32
  let arg17 : BitVec 32 := Scf.iv c0_i32_798 c1_i32_800 k0_t4
  let c256_i32_844 : BitVec 32 := 256#32
  let v1317 : BitVec 32 := Scalar.muli arg17 c256_i32_844
  let v1330 : Index := Scalar.indexCast v1317
  let c0_852 : Index := 0#32
  ![v1330.toNat, 0]
def k0_off24 (k0_t4 : Fin k0_t4_loop.trips) : Fin 3 → Nat :=
  let c1_856 : Index := 1#32
  let c0_i32_847 : BitVec 32 := 0#32
  let c0_i32_798 : BitVec 32 := 0#32
  let c1_i32_800 : BitVec 32 := 1#32
  let arg17 : BitVec 32 := Scf.iv c0_i32_798 c1_i32_800 k0_t4
  let c256_i32_844 : BitVec 32 := 256#32
  let v1317 : BitVec 32 := Scalar.muli arg17 c256_i32_844
  let c128_i32_845 : BitVec 32 := 128#32
  let v1318 : BitVec 32 := Scalar.subi v1317 c128_i32_845
  let c1536_i32_846 : BitVec 32 := 1536#32
  let v1319 : BitVec 32 := Scalar.minsi v1318 c1536_i32_846
  let v1320 : BitVec 32 := Scalar.maxsi c0_i32_847 v1319
  let v1321 : BitVec 32 := v1320
  let v1334 : Index := Scalar.indexCast v1321
  let c0_857 : Index := 0#32
  ![1, v1334.toNat, 0]
def k0_cond8 (k0_t4 : Fin k0_t4_loop.trips) : BitVec 1 :=
  let c0_i32_798 : BitVec 32 := 0#32
  let c1_i32_800 : BitVec 32 := 1#32
  let arg17 : BitVec 32 := Scf.iv c0_i32_798 c1_i32_800 k0_t4
  let c0_i32_900 : BitVec 32 := 0#32
  let v1480 : BitVec 1 := Scalar.cmpi .sgt arg17 c0_i32_900
  let v1481 : BitVec 32 := Scalar.extui v1480
  let c0_i32_901 : BitVec 32 := 0#32
  let v1482 : BitVec 1 := Scalar.cmpi .ne v1481 c0_i32_901
  v1482

def k0_off25 (k0_t4 : Fin k0_t4_loop.trips) : Fin 3 → Nat :=
  let c0_902 : Index := 0#32
  let c0_i32_798 : BitVec 32 := 0#32
  let c1_i32_800 : BitVec 32 := 1#32
  let arg17 : BitVec 32 := Scf.iv c0_i32_798 c1_i32_800 k0_t4
  let c256_i32_844 : BitVec 32 := 256#32
  let v1317 : BitVec 32 := Scalar.muli arg17 c256_i32_844
  let v1483 : Index := Scalar.indexCast v1317
  let c0_903 : Index := 0#32
  ![0, v1483.toNat, 0]
def k0_dev10 (d0 : Dev nD) : Nat :=
  let c0_i32_853_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_844_r0 : BitVec 32 := 1#32
  let v1318_r0 : BitVec 32 := Scalar.addi v2 c1_i32_844_r0
  let c4_i32_845_r0 : BitVec 32 := 4#32
  let c0_i32_846_r0 : BitVec 32 := 0#32
  let v1319_r0 : BitVec 1 := Scalar.cmpi .eq c4_i32_845_r0 c0_i32_846_r0
  let c1_i32_847_r0 : BitVec 32 := 1#32
  let v1320_r0 : BitVec 32 := Scalar.select v1319_r0 c1_i32_847_r0 c4_i32_845_r0
  let v1321_r0 : BitVec 32 := Scalar.remsi v1318_r0 v1320_r0
  let c0_i32_849_r0 : BitVec 32 := 0#32
  let v1323_r0 : BitVec 1 := Scalar.cmpi .slt v1321_r0 c0_i32_849_r0
  let c0_i32_850_r0 : BitVec 32 := 0#32
  let v1324_r0 : BitVec 1 := Scalar.cmpi .slt v1320_r0 c0_i32_850_r0
  let v1325_r0 : BitVec 1 := Scalar.xori v1323_r0 v1324_r0
  let c0_i32_848_r0 : BitVec 32 := 0#32
  let v1322_r0 : BitVec 1 := Scalar.cmpi .ne v1321_r0 c0_i32_848_r0
  let v1326_r0 : BitVec 1 := Scalar.andi v1325_r0 v1322_r0
  let v1327_r0 : BitVec 32 := Scalar.addi v1321_r0 v1320_r0
  let v1328_r0 : BitVec 32 := Scalar.select v1326_r0 v1327_r0 v1321_r0
  let c1_i32_852_r0 : BitVec 32 := 1#32
  let v1329_r0 : BitVec 32 := Scalar.muli v1328_r0 c1_i32_852_r0
  let v1330_r0 : BitVec 32 := Scalar.addi c0_i32_853_r0 v1329_r0
  v1330_r0.toNat
def k0_dev11 (d0 : Dev nD) : Nat :=
  let c0_i32_863_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_854_r0 : BitVec 32 := 2#32
  let v1331_r0 : BitVec 32 := Scalar.addi v2 c2_i32_854_r0
  let c4_i32_855_r0 : BitVec 32 := 4#32
  let c0_i32_856_r0 : BitVec 32 := 0#32
  let v1332_r0 : BitVec 1 := Scalar.cmpi .eq c4_i32_855_r0 c0_i32_856_r0
  let c1_i32_857_r0 : BitVec 32 := 1#32
  let v1333_r0 : BitVec 32 := Scalar.select v1332_r0 c1_i32_857_r0 c4_i32_855_r0
  let v1334_r0 : BitVec 32 := Scalar.remsi v1331_r0 v1333_r0
  let c0_i32_859_r0 : BitVec 32 := 0#32
  let v1336_r0 : BitVec 1 := Scalar.cmpi .slt v1334_r0 c0_i32_859_r0
  let c0_i32_860_r0 : BitVec 32 := 0#32
  let v1337_r0 : BitVec 1 := Scalar.cmpi .slt v1333_r0 c0_i32_860_r0
  let v1338_r0 : BitVec 1 := Scalar.xori v1336_r0 v1337_r0
  let c0_i32_858_r0 : BitVec 32 := 0#32
  let v1335_r0 : BitVec 1 := Scalar.cmpi .ne v1334_r0 c0_i32_858_r0
  let v1339_r0 : BitVec 1 := Scalar.andi v1338_r0 v1335_r0
  let v1340_r0 : BitVec 32 := Scalar.addi v1334_r0 v1333_r0
  let v1341_r0 : BitVec 32 := Scalar.select v1339_r0 v1340_r0 v1334_r0
  let c1_i32_862_r0 : BitVec 32 := 1#32
  let v1342_r0 : BitVec 32 := Scalar.muli v1341_r0 c1_i32_862_r0
  let v1343_r0 : BitVec 32 := Scalar.addi c0_i32_863_r0 v1342_r0
  v1343_r0.toNat
def k0_dev12 (d0 : Dev nD) : Nat :=
  let c0_i32_873_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_864_r0 : BitVec 32 := 3#32
  let v1344_r0 : BitVec 32 := Scalar.addi v2 c3_i32_864_r0
  let c4_i32_865_r0 : BitVec 32 := 4#32
  let c0_i32_866_r0 : BitVec 32 := 0#32
  let v1345_r0 : BitVec 1 := Scalar.cmpi .eq c4_i32_865_r0 c0_i32_866_r0
  let c1_i32_867_r0 : BitVec 32 := 1#32
  let v1346_r0 : BitVec 32 := Scalar.select v1345_r0 c1_i32_867_r0 c4_i32_865_r0
  let v1347_r0 : BitVec 32 := Scalar.remsi v1344_r0 v1346_r0
  let c0_i32_869_r0 : BitVec 32 := 0#32
  let v1349_r0 : BitVec 1 := Scalar.cmpi .slt v1347_r0 c0_i32_869_r0
  let c0_i32_870_r0 : BitVec 32 := 0#32
  let v1350_r0 : BitVec 1 := Scalar.cmpi .slt v1346_r0 c0_i32_870_r0
  let v1351_r0 : BitVec 1 := Scalar.xori v1349_r0 v1350_r0
  let c0_i32_868_r0 : BitVec 32 := 0#32
  let v1348_r0 : BitVec 1 := Scalar.cmpi .ne v1347_r0 c0_i32_868_r0
  let v1352_r0 : BitVec 1 := Scalar.andi v1351_r0 v1348_r0
  let v1353_r0 : BitVec 32 := Scalar.addi v1347_r0 v1346_r0
  let v1354_r0 : BitVec 32 := Scalar.select v1352_r0 v1353_r0 v1347_r0
  let c1_i32_872_r0 : BitVec 32 := 1#32
  let v1355_r0 : BitVec 32 := Scalar.muli v1354_r0 c1_i32_872_r0
  let v1356_r0 : BitVec 32 := Scalar.addi c0_i32_873_r0 v1355_r0
  v1356_r0.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S4x2048x4096 : Shape := ⟨3, ![4, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S1024x4096, .bf16⟩
  | .hbm, ⟨2, _⟩ => ⟨S4x2048x32x128, .bf16⟩
  | .hbm, ⟨3, _⟩ => ⟨S4x2048x32x128, .bf16⟩
  | .hbm, ⟨4, _⟩ => ⟨S4096x1024, .bf16⟩
  | .hbm, ⟨5, _⟩ => ⟨S4x2048x4096, .f32⟩
  | .hbm, ⟨6, _⟩ => ⟨S4x2048x4096, .bf16⟩
  | .hbm, ⟨7, _⟩ => ⟨S4x2048x32x128, .bf16⟩
  | .hbm, ⟨8, _⟩ => ⟨S2048, .i32⟩
  | .hbm, ⟨9, _⟩ => ⟨S2048x1, .i32⟩
  | .hbm, ⟨10, _⟩ => ⟨S2048, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S_, .i32⟩
  | .hbm, ⟨20, _⟩ => ⟨S1x2048, .i32⟩
  | .hbm, ⟨21, _⟩ => ⟨S1x2048, .i1⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S2048x2048, .i1⟩
  | .hbm, ⟨29, _⟩ => ⟨S4x32x2048x2048, .f32⟩
  | .hbm, ⟨30, _⟩ => ⟨S4x32x2048x2048, .bf16⟩
  | .hbm, ⟨31, _⟩ => ⟨S4x32x2048x2048, .f32⟩
  | .hbm, ⟨32, _⟩ => ⟨S_, .f32⟩
  | .hbm, ⟨33, _⟩ => ⟨S_, .f32⟩
  | .hbm, ⟨34, _⟩ => ⟨S4x32x2048x2048, .f32⟩
  | .hbm, ⟨35, _⟩ => ⟨S4x32x2048x2048, .f32⟩
  | .hbm, ⟨36, _⟩ => ⟨S1x1x2048x2048, .i1⟩
  | .hbm, ⟨37, _⟩ => ⟨S_, .f32⟩
  | .hbm, ⟨38, _⟩ => ⟨S_, .f32⟩
  | .hbm, ⟨39, _⟩ => ⟨S4x32x2048x2048, .i1⟩
  | .hbm, ⟨40, _⟩ => ⟨S4x32x2048x2048, .f32⟩
  | .hbm, ⟨41, _⟩ => ⟨S4x32x2048x2048, .f32⟩
  | .hbm, ⟨42, _⟩ => ⟨S_, .f32⟩
  | .hbm, ⟨43, _⟩ => ⟨S4x32x2048, .f32⟩
  | .hbm, ⟨44, _⟩ => ⟨S4x32x2048x1, .f32⟩
  | .hbm, ⟨45, _⟩ => ⟨S4x32x2048x2048, .f32⟩
  | .hbm, ⟨46, _⟩ => ⟨S4x32x2048x2048, .f32⟩
  | .hbm, ⟨47, _⟩ => ⟨S4x32x2048x2048, .f32⟩
  | .hbm, ⟨48, _⟩ => ⟨S_, .i1⟩
  | .hbm, ⟨49, _⟩ => ⟨S2048, .i1⟩
  | .hbm, ⟨50, _⟩ => ⟨S1x1x2048x1, .i1⟩
  | .hbm, ⟨51, _⟩ => ⟨S_, .f32⟩
  | .hbm, ⟨52, _⟩ => ⟨S4x32x2048, .f32⟩
  | .hbm, ⟨53, _⟩ => ⟨S4x32x2048x1, .f32⟩
  | .hbm, ⟨54, _⟩ => ⟨S_, .f32⟩
  | .hbm, ⟨55, _⟩ => ⟨S_, .f32⟩
  | .hbm, ⟨56, _⟩ => ⟨S4x32x2048x1, .i1⟩
  | .hbm, ⟨57, _⟩ => ⟨S4x32x2048x1, .f32⟩
  | .hbm, ⟨58, _⟩ => ⟨S4x32x2048x1, .f32⟩
  | .hbm, ⟨59, _⟩ => ⟨S4x32x2048x2048, .f32⟩
  | .hbm, ⟨60, _⟩ => ⟨S4x32x2048x2048, .f32⟩
  | .hbm, ⟨61, _⟩ => ⟨S1x1x2048x1, .i1⟩
  | .hbm, ⟨62, _⟩ => ⟨S_, .f32⟩
  | .hbm, ⟨63, _⟩ => ⟨S_, .f32⟩
  | .hbm, ⟨64, _⟩ => ⟨S4x32x2048x2048, .i1⟩
  | .hbm, ⟨65, _⟩ => ⟨S4x32x2048x2048, .f32⟩
  | .hbm, ⟨66, _⟩ => ⟨S4x32x2048x2048, .f32⟩
  | .hbm, ⟨67, _⟩ => ⟨S4x32x128x2048, .f32⟩
  | .hbm, ⟨68, _⟩ => ⟨S4x2048x32x128, .f32⟩
  | .hbm, ⟨69, _⟩ => ⟨S4x2048x4096, .f32⟩
  | .hbm, ⟨70, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Proof.Basic.lean ====
/-
The resources of one device's run of the kernel: the memrefs it is called with, the sets of elements that
it holds apart (the four slots of each gathered weight buffer, the two slots of each of the key and value
buffers), and loads and stores under these sets.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The algebra of the cross-device protocol: one name per duty is a number below four. -/
abbrev UB : Type := URounds (GSem nD τ sig) (Fin 4)
/-- The user algebra: the launch's, the protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's algebra inside the whole. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The memrefs -/

abbrev xM : Memref sig .tc .vmem S2048x1024 .bf16 := Memref.whole cc0_stg0_0
abbrev qM : Memref sig .tc .vmem S1024x1024 .bf16 := Memref.whole cc0_stg1_0
abbrev oM : Memref sig .tc .vmem S1024x1024 .bf16 := Memref.whole cc0_stg2_0
abbrev outM : Memref sig .tc .vmem S1x2048x1024 .f32 := Memref.whole cc0_stg3_0
abbrev kH : Memref sig .tc .hbm S2048x4096 .bf16 := Memref.whole main_v7
abbrev vH : Memref sig .tc .hbm S2048x4096 .bf16 := Memref.whole main_v9
abbrev qB : Memref sig .tc .vmem S4x1024x1024 .bf16 := Memref.whole cc0_scratch0
abbrev oB : Memref sig .tc .vmem S4x1024x1024 .bf16 := Memref.whole cc0_scratch1
abbrev kB : Memref sig .tc .vmem S2x2048x1024 .bf16 := Memref.whole cc0_scratch2
abbrev vB : Memref sig .tc .vmem S2x2048x1024 .bf16 := Memref.whole cc0_scratch3
abbrev bM : Memref sig .tc .vmem S2048x640 .bf16 := Memref.whole cc0_scratch4

end Cert.Attn
-- ==== Proof.Vals.lean ====
/-
The values of one step of the kernel, as functions of what the step reads: `denseCore` for the thirty-two rows that attend to
every key, `tileCore` for a tile of 256 rows that attends to the 128 global keys and a window of 512.
Every step's payloads are these functions: the four steps share them.
-/
module

public import proofs.«01_k».proof.Proof.Basic

@[expose] public section

set_option maxRecDepth 16384

noncomputable section

namespace Cert.Attn

open Cert.KernelIdeal Cert.KernelIdeal.Gen
open Idealize.ShloMosaic

variable {F : FTy → Type} [FloatOps F] [Named F]

/-- One head of a tile: the softmax without its maximum, the bias added to the scores. -/
def tileHead (b : Vec F S256x640 .bf16) (qh : FVec F S256x128 .bf16) (kh vh : FVec F S640x128 .bf16) : FVec F S256x128 .bf16 :=
  have e : FVec F S256x640 .f32 := exp (addf (matmul dot_S256x128_S640x128_S256x640_1_1_0_0_n_n none qh kh (constant S256x640 .f32 0x00000000#32)) (extf .f32 b bitsLt_bf16_f32))
  have d : FVec F S256x1 .f32 := shapeCast S256x1 (multiReduction .add [1] S256 e 0x00000000#32 reduces_S256x640_S256 (.inl rfl) rfl) shapeCasts_S256_S256x1
  have w : FVec F S256x640 .f32 := mulf e (broadcastTo S256x640 (divf (broadcast S256x1 (Scalar.ofBits .f32 0x3F800000#32)) d) broadcasts_S256x1_S256x640)
  truncf .bf16 (matmul dot_S256x640_S640x128_S256x128_1_0_0_1_n_n none (truncf .bf16 w bitsLt_bf16_f32) vh (constant S256x128 .f32 0x00000000#32)) bitsLt_bf16_f32

/-- The projected queries of a tile. -/
def tileQ (x : Vec F S256x1024 .bf16) (wq : Vec F S1x1024x1024 .bf16) : FVec F S256x1024 .bf16 :=
  truncf .bf16 (matmul dot_S256x1024_S1024x1024_S256x1024_1_0_0_1_n_n none (shapeCast S256x1024 x shapeCasts_S256x1024_S256x1024)
    (shapeCast S1024x1024 wq shapeCasts_S1x1024x1024_S1024x1024) (constant S256x1024 .f32 0x00000000#32)) bitsLt_bf16_f32

/-- The global rows and the window's rows, one above the other. -/
def tileKV (g : Vec F S1x128x1024 .bf16) (w : Vec F S1x512x1024 .bf16) : FVec F S640x1024 .bf16 :=
  concatenate S640x1024 0 [⟨S128x1024, shapeCast S128x1024 g shapeCasts_S1x128x1024_S128x1024⟩, ⟨S512x1024, shapeCast S512x1024 w shapeCasts_S1x512x1024_S512x1024⟩] concatenates_S128x1024_S512x1024_S640x1024_d0

/-- A tile's eight heads side by side, times the block of the output projection. -/
def tileCore (x : Vec F S256x1024 .bf16) (wq : Vec F S1x1024x1024 .bf16) (b : Vec F S256x640 .bf16)
    (kg : Vec F S1x128x1024 .bf16) (kw : Vec F S1x512x1024 .bf16) (vg : Vec F S1x128x1024 .bf16) (vw : Vec F S1x512x1024 .bf16)
    (wo : Vec F S1x1024x1024 .bf16) : FVec F S256x1024 .f32 :=
  matmul dot_S256x1024_S1024x1024_S256x1024_1_0_0_1_n_n none
    (concatenate S256x1024 1 [
      ⟨S256x128, tileHead b (extractStridedSlice S256x128 ![0, 0] (tileQ x wq) slices_S256x1024_o0_0_S256x128) (extractStridedSlice S640x128 ![0, 0] (tileKV kg kw) slices_S640x1024_o0_0_S640x128) (extractStridedSlice S640x128 ![0, 0] (tileKV vg vw) slices_S640x1024_o0_0_S640x128)⟩,
      ⟨S256x128, tileHead b (extractStridedSlice S256x128 ![0, 128] (tileQ x wq) slices_S256x1024_o0_128_S256x128) (extractStridedSlice S640x128 ![0, 128] (tileKV kg kw) slices_S640x1024_o0_128_S640x128) (extractStridedSlice S640x128 ![0, 128] (tileKV vg vw) slices_S640x1024_o0_128_S640x128)⟩,
      ⟨S256x128, tileHead b (extractStridedSlice S256x128 ![0, 256] (tileQ x wq) slices_S256x1024_o0_256_S256x128) (extractStridedSlice S640x128 ![0, 256] (tileKV kg kw) slices_S640x1024_o0_256_S640x128) (extractStridedSlice S640x128 ![0, 256] (tileKV vg vw) slices_S640x1024_o0_256_S640x128)⟩,
      ⟨S256x128, tileHead b (extractStridedSlice S256x128 ![0, 384] (tileQ x wq) slices_S256x1024_o0_384_S256x128) (extractStridedSlice S640x128 ![0, 384] (tileKV kg kw) slices_S640x1024_o0_384_S640x128) (extractStridedSlice S640x128 ![0, 384] (tileKV vg vw) slices_S640x1024_o0_384_S640x128)⟩,
      ⟨S256x128, tileHead b (extractStridedSlice S256x128 ![0, 512] (tileQ x wq) slices_S256x1024_o0_512_S256x128) (extractStridedSlice S640x128 ![0, 512] (tileKV kg kw) slices_S640x1024_o0_512_S640x128) (extractStridedSlice S640x128 ![0, 512] (tileKV vg vw) slices_S640x1024_o0_512_S640x128)⟩,
      ⟨S256x128, tileHead b (extractStridedSlice S256x128 ![0, 640] (tileQ x wq) slices_S256x1024_o0_640_S256x128) (extractStridedSlice S640x128 ![0, 640] (tileKV kg kw) slices_S640x1024_o0_640_S640x128) (extractStridedSlice S640x128 ![0, 640] (tileKV vg vw) slices_S640x1024_o0_640_S640x128)⟩,
      ⟨S256x128, tileHead b (extractStridedSlice S256x128 ![0, 768] (tileQ x wq) slices_S256x1024_o0_768_S256x128) (extractStridedSlice S640x128 ![0, 768] (tileKV kg kw) slices_S640x1024_o0_768_S640x128) (extractStridedSlice S640x128 ![0, 768] (tileKV vg vw) slices_S640x1024_o0_768_S640x128)⟩,
      ⟨S256x128, tileHead b (extractStridedSlice S256x128 ![0, 896] (tileQ x wq) slices_S256x1024_o0_896_S256x128) (extractStridedSlice S640x128 ![0, 896] (tileKV kg kw) slices_S640x1024_o0_896_S640x128) (extractStridedSlice S640x128 ![0, 896] (tileKV vg vw) slices_S640x1024_o0_896_S640x128)⟩] concatenates_S256x128_S256x128_S256x128_S256x128_S256x128_S256x128_S256x128_S256x128_S256x1024_d1)
    (shapeCast S1024x1024 wo shapeCasts_S1x1024x1024_S1024x1024) (constant S256x1024 .f32 0x00000000#32)

/-- One head of the dense rows. -/
def denseHead (qh : FVec F S32x128 .bf16) (k v : Vec F S1x2048x128 .bf16) : FVec F S32x128 .bf16 :=
  have e : FVec F S32x2048 .f32 := exp (matmul dot_S32x128_S2048x128_S32x2048_1_1_0_0_n_n none qh (shapeCast S2048x128 k shapeCasts_S1x2048x128_S2048x128) (constant S32x2048 .f32 0x00000000#32))
  have d : FVec F S32x1 .f32 := shapeCast S32x1 (multiReduction .add [1] S32 e 0x00000000#32 reduces_S32x2048_S32 (.inl rfl) rfl) shapeCasts_S32_S32x1
  have w : FVec F S32x2048 .f32 := mulf e (broadcastTo S32x2048 (divf (broadcast S32x1 (Scalar.ofBits .f32 0x3F800000#32)) d) broadcasts_S32x1_S32x2048)
  truncf .bf16 (matmul dot_S32x2048_S2048x128_S32x128_1_0_0_1_n_n none (truncf .bf16 w bitsLt_bf16_f32) (shapeCast S2048x128 v shapeCasts_S1x2048x128_S2048x128) (constant S32x128 .f32 0x00000000#32)) bitsLt_bf16_f32

/-- The projected queries of the dense rows. -/
def denseQ (x : Vec F S32x1024 .bf16) (wq : Vec F S1x1024x1024 .bf16) : FVec F S32x1024 .bf16 :=
  truncf .bf16 (matmul dot_S32x1024_S1024x1024_S32x1024_1_0_0_1_n_n none (shapeCast S32x1024 x shapeCasts_S32x1024_S32x1024)
    (shapeCast S1024x1024 wq shapeCasts_S1x1024x1024_S1024x1024) (constant S32x1024 .f32 0x00000000#32)) bitsLt_bf16_f32

/-- The dense rows' eight heads side by side, times the block of the output projection. -/
def denseCore (x : Vec F S32x1024 .bf16) (wq : Vec F S1x1024x1024 .bf16) (k v : Fin 8 → Vec F S1x2048x128 .bf16)
    (wo : Vec F S1x1024x1024 .bf16) : FVec F S32x1024 .f32 :=
  matmul dot_S32x1024_S1024x1024_S32x1024_1_0_0_1_n_n none
    (concatenate S32x1024 1 [
      ⟨S32x128, denseHead (extractStridedSlice S32x128 ![0, 0] (denseQ x wq) slices_S32x1024_o0_0_S32x128) (k 0) (v 0)⟩,
      ⟨S32x128, denseHead (extractStridedSlice S32x128 ![0, 128] (denseQ x wq) slices_S32x1024_o0_128_S32x128) (k 1) (v 1)⟩,
      ⟨S32x128, denseHead (extractStridedSlice S32x128 ![0, 256] (denseQ x wq) slices_S32x1024_o0_256_S32x128) (k 2) (v 2)⟩,
      ⟨S32x128, denseHead (extractStridedSlice S32x128 ![0, 384] (denseQ x wq) slices_S32x1024_o0_384_S32x128) (k 3) (v 3)⟩,
      ⟨S32x128, denseHead (extractStridedSlice S32x128 ![0, 512] (denseQ x wq) slices_S32x1024_o0_512_S32x128) (k 4) (v 4)⟩,
      ⟨S32x128, denseHead (extractStridedSlice S32x128 ![0, 640] (denseQ x wq) slices_S32x1024_o0_640_S32x128) (k 5) (v 5)⟩,
      ⟨S32x128, denseHead (extractStridedSlice S32x128 ![0, 768] (denseQ x wq) slices_S32x1024_o0_768_S32x128) (k 6) (v 6)⟩,
      ⟨S32x128, denseHead (extractStridedSlice S32x128 ![0, 896] (denseQ x wq) slices_S32x1024_o0_896_S32x128) (k 7) (v 7)⟩] concatenates_S32x128_S32x128_S32x128_S32x128_S32x128_S32x128_S32x128_S32x128_S32x1024_d1)
    (shapeCast S1024x1024 wo shapeCasts_S1x1024x1024_S1024x1024) (constant S32x1024 .f32 0x00000000#32)

/-! ## What is stored -/

/-- The dense rows' first store, and the later ones, which add to what the rows hold. -/
def dst0 (T : FVec F S32x1024 .f32) : FVec F S1x32x1024 .f32 := shapeCast S1x32x1024 T shapeCasts_S32x1024_S1x32x1024
def dst1 (T : FVec F S32x1024 .f32) (a : Vec F S1x32x1024 .f32) : FVec F S1x32x1024 .f32 :=
  shapeCast S1x32x1024 (addf (shapeCast S32x1024 a shapeCasts_S1x32x1024_S32x1024) T) shapeCasts_S32x1024_S1x32x1024
/-- The first tile's store, without its first thirty-two rows, -/
def fst0 (T : FVec F S256x1024 .f32) : FVec F S1x224x1024 .f32 :=
  shapeCast S1x224x1024 (extractStridedSlice S224x1024 ![32, 0] T slices_S256x1024_o32_0_S224x1024) shapeCasts_S224x1024_S1x224x1024
def fst1 (T : FVec F S256x1024 .f32) (a : Vec F S1x224x1024 .f32) : FVec F S1x224x1024 .f32 :=
  shapeCast S1x224x1024 (addf (shapeCast S224x1024 a shapeCasts_S1x224x1024_S224x1024) (extractStridedSlice S224x1024 ![32, 0] T slices_S256x1024_o32_0_S224x1024)) shapeCasts_S224x1024_S1x224x1024
/-- and a later tile's. -/
def tst0 (T : FVec F S256x1024 .f32) : FVec F S1x256x1024 .f32 := shapeCast S1x256x1024 T shapeCasts_S256x1024_S1x256x1024
def tst1 (T : FVec F S256x1024 .f32) (a : Vec F S1x256x1024 .f32) : FVec F S1x256x1024 .f32 :=
  shapeCast S1x256x1024 (addf (shapeCast S256x1024 a shapeCasts_S1x256x1024_S256x1024) T) shapeCasts_S256x1024_S1x256x1024

end Cert.Attn
-- ==== Proof.Loop.lean ====
module

public import proofs.«01_k».proof.Proof.Vals

/-!
What one tile of 256 rows does to the result, and what the four loops over the eight tiles leave in it.
-/

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The rectangles -/

/-- The first key row of the window of tile `n`. -/
abbrev winOff (n : ℕ) : ℕ := min (256 * n - 128) 1536

/-- The rows of a tile in the activations, -/
abbrev rX (t : Fin 8) : Rect S2048x1024 := Rect.unit (s := S2048x1024) ![256 * t.val, 0] S256x1024.size (by
  have := t.isLt; intro a; fin_cases a <;> simp [S256x1024, S2048x1024] <;> omega)
/-- and in the biases; -/
abbrev rB (t : Fin 8) : Rect S2048x640 := Rect.unit (s := S2048x640) ![256 * t.val, 0] S256x640.size (by
  have := t.isLt; intro a; fin_cases a <;> simp [S256x640, S2048x640] <;> omega)
/-- the block `o` of a gathered weight; -/
abbrev rW (o : Fin 4) : Rect S4x1024x1024 := Rect.unit (s := S4x1024x1024) ![o.val, 0, 0] S1x1024x1024.size (by
  have := o.isLt; intro a; fin_cases a <;> simp [S1x1024x1024, S4x1024x1024] <;> omega)
/-- the slot `p` of the keys or values, -/
abbrev rKV (p : Fin 2) : Rect S2x2048x1024 := Rect.unit (s := S2x2048x1024) ![p.val, 0, 0] S1x2048x1024.size (by
  have := p.isLt; intro a; fin_cases a <;> simp [S1x2048x1024, S2x2048x1024] <;> omega)
/-- its global rows, -/
abbrev rG (p : Fin 2) : Rect S2x2048x1024 := Rect.unit (s := S2x2048x1024) ![p.val, 0, 0] S1x128x1024.size (by
  have := p.isLt; intro a; fin_cases a <;> simp [S1x128x1024, S2x2048x1024] <;> omega)
/-- and a tile's window of it; -/
abbrev rN (p : Fin 2) (t : Fin 8) : Rect S2x2048x1024 := Rect.unit (s := S2x2048x1024) ![p.val, winOff t.val, 0] S1x512x1024.size (by
  have := p.isLt; have := t.isLt; intro a; fin_cases a <;> simp [S1x512x1024, S2x2048x1024, winOff] <;> omega)
/-- one head's columns of a slot; -/
abbrev rH (p : Fin 2) (h : Fin 8) : Rect S2x2048x1024 := Rect.unit (s := S2x2048x1024) ![p.val, 0, 128 * h.val] S1x2048x128.size (by
  have := p.isLt; have := h.isLt; intro a; fin_cases a <;> simp [S1x2048x128, S2x2048x1024] <;> omega)
/-- the dense rows of the activations, -/
abbrev rX32 : Rect S2048x1024 := Rect.unit (s := S2048x1024) ![0, 0] S32x1024.size inb_S2048x1024_S32x1024_0_0
/-- and of the result; -/
abbrev rO32 : Rect S1x2048x1024 := Rect.unit (s := S1x2048x1024) ![0, 0, 0] S1x32x1024.size inb_S1x2048x1024_S1x32x1024_0_0_0
/-- the first tile's other rows of the result, -/
abbrev rO224 : Rect S1x2048x1024 := Rect.unit (s := S1x2048x1024) ![0, 32, 0] S1x224x1024.size inb_S1x2048x1024_S1x224x1024_0_32_0
/-- and the rows of a tile. -/
abbrev rO (t : Fin 8) : Rect S1x2048x1024 := Rect.unit (s := S1x2048x1024) ![0, 256 * t.val, 0] S1x256x1024.size (by
  have := t.isLt; intro a; fin_cases a <;> simp [S1x256x1024, S1x2048x1024] <;> omega)

/-! ## A tile's value, the dense rows' value, and their stores -/

/-- The tile `t` of block `o`, the keys and values in slot `p`. -/
def tileV (o : Fin 4) (p : Fin 2) (t : Fin 8) (X : Vec F S2048x1024 .bf16) (WQ WO : Vec F S4x1024x1024 .bf16)
    (K V : Vec F S2x2048x1024 .bf16) (B : Vec F S2048x640 .bf16) : FVec F S256x1024 .f32 :=
  tileCore (xM.view.readAt (Elt F) (rX t).toLoadRect X) (qB.view.readAt (Elt F) (rW o).toLoadRect WQ)
    (bM.view.readAt (Elt F) (rB t).toLoadRect B)
    (kB.view.readAt (Elt F) (rG p).toLoadRect K) (kB.view.readAt (Elt F) (rN p t).toLoadRect K)
    (vB.view.readAt (Elt F) (rG p).toLoadRect V) (vB.view.readAt (Elt F) (rN p t).toLoadRect V)
    (oB.view.readAt (Elt F) (rW o).toLoadRect WO)

/-- The dense rows of block `o`, the keys and values in slot `p`. -/
def denseV (o : Fin 4) (p : Fin 2) (X : Vec F S2048x1024 .bf16) (WQ WO : Vec F S4x1024x1024 .bf16)
    (K V : Vec F S2x2048x1024 .bf16) : FVec F S32x1024 .f32 :=
  denseCore (xM.view.readAt (Elt F) rX32.toLoadRect X) (qB.view.readAt (Elt F) (rW o).toLoadRect WQ)
    (fun h => kB.view.readAt (Elt F) (rH p h).toLoadRect K) (fun h => vB.view.readAt (Elt F) (rH p h).toLoadRect V)
    (oB.view.readAt (Elt F) (rW o).toLoadRect WO)

/-- The result after tile `t` of the first block is stored in it, -/
def tile0 (T : Fin 8 → FVec F S256x1024 .f32) (t : Fin 8) (O : Vec F S1x2048x1024 .f32) : Vec F S1x2048x1024 .f32 :=
  if t.val = 0 then outM.view.writes (Elt F) O [⟨rO224, fst0 (T t)⟩]
  else outM.view.writes (Elt F) O [⟨rO t, tst0 (T t)⟩]
/-- and after tile `t` of a later block is added to it. -/
def tile1 (T : Fin 8 → FVec F S256x1024 .f32) (t : Fin 8) (O : Vec F S1x2048x1024 .f32) : Vec F S1x2048x1024 .f32 :=
  if t.val = 0 then outM.view.writes (Elt F) O [⟨rO224, fst1 (T t) (outM.view.readAt (Elt F) rO224.toLoadRect O)⟩]
  else outM.view.writes (Elt F) O [⟨rO t, tst1 (T t) (outM.view.readAt (Elt F) (rO t).toLoadRect O)⟩]
/-- The result after the dense rows of the first block, and of a later one. -/
def dense0 (T : FVec F S32x1024 .f32) (O : Vec F S1x2048x1024 .f32) : Vec F S1x2048x1024 .f32 :=
  outM.view.writes (Elt F) O [⟨rO32, dst0 T⟩]
def dense1 (T : FVec F S32x1024 .f32) (O : Vec F S1x2048x1024 .f32) : Vec F S1x2048x1024 .f32 :=
  outM.view.writes (Elt F) O [⟨rO32, dst1 T (outM.view.readAt (Elt F) rO32.toLoadRect O)⟩]

/-- The result after `n` of eight tiles, each storing by `f`. -/
def upTo (f : Fin 8 → Vec F S1x2048x1024 .f32 → Vec F S1x2048x1024 .f32) (O : Vec F S1x2048x1024 .f32) : ℕ → Vec F S1x2048x1024 .f32
  | 0 => O
  | n + 1 => if h : n < 8 then f ⟨n, h⟩ (upTo f O n) else upTo f O n

theorem upTo_succ (f : Fin 8 → Vec F S1x2048x1024 .f32 → Vec F S1x2048x1024 .f32) (O : Vec F S1x2048x1024 .f32) (t : Fin 8) :
    upTo f O (t.val + 1) = f t (upTo f O t.val) := by
  rw [upTo, dif_pos t.isLt]

/-- Stores at equal offsets are equal. -/
theorem store0_unit {off off' : Fin 3 → ℕ} (h : off = off') (inb : ∀ a, off a + S1x256x1024.size a ≤ S1x2048x1024.size a)
    (inb' : ∀ a, off' a + S1x256x1024.size a ≤ S1x2048x1024.size a) (T : FVec F S256x1024 .f32) (O : Vec F S1x2048x1024 .f32) :
    outM.view.writes (Elt F) O [⟨Rect.unit (s := S1x2048x1024) off' S1x256x1024.size inb', tst0 T⟩]
      = outM.view.writes (Elt F) O [⟨Rect.unit (s := S1x2048x1024) off S1x256x1024.size inb, tst0 T⟩] := by
  subst h; rfl
theorem store1_unit {off off' : Fin 3 → ℕ} (h : off = off') (inb : ∀ a, off a + S1x256x1024.size a ≤ S1x2048x1024.size a)
    (inb' : ∀ a, off' a + S1x256x1024.size a ≤ S1x2048x1024.size a) (T : FVec F S256x1024 .f32) (O : Vec F S1x2048x1024 .f32) :
    outM.view.writes (Elt F) O [⟨Rect.unit (s := S1x2048x1024) off' S1x256x1024.size inb', tst1 T (outM.view.readAt (Elt F) (Rect.unit (s := S1x2048x1024) off' S1x256x1024.size inb').toLoadRect O)⟩]
      = outM.view.writes (Elt F) O [⟨Rect.unit (s := S1x2048x1024) off S1x256x1024.size inb, tst1 T (outM.view.readAt (Elt F) (Rect.unit (s := S1x2048x1024) off S1x256x1024.size inb).toLoadRect O)⟩] := by
  subst h; rfl

/-! ## What a tile holds -/

/-- What a tile of block `o` touches: the activations, the two weights' block, the keys' and values' slot `p`, the
    biases and the result. -/
abbrev Tile (c : Dev nD) (o : Fin 4) (p : Fin 2) (q : PosShare TreeShare) (X : Vec F S2048x1024 .bf16) (WQ WO : Vec F S4x1024x1024 .bf16)
    (K V : Vec F S2x2048x1024 .bf16) (B : Vec F S2048x640 .bf16) (O : Vec F S1x2048x1024 .f32) : sProp 𝕄 :=
  iprop((xM.view.loc (c : Thread nD τ) ↦{fullShare} X) ∗ (qB.view.loc (c : Thread nD τ) ↦[qB.view.setOn (rW o).set]{q} WQ)
    ∗ (oB.view.loc (c : Thread nD τ) ↦[oB.view.setOn (rW o).set]{q} WO)
    ∗ (kB.view.loc (c : Thread nD τ) ↦[kB.view.setOn (rKV p).set]{fullShare} K) ∗ (vB.view.loc (c : Thread nD τ) ↦[vB.view.setOn (rKV p).set]{fullShare} V)
    ∗ (bM.view.loc (c : Thread nD τ) ↦{fullShare} B) ∗ (outM.view.loc (c : Thread nD τ) ↦{fullShare} O))

/-- A tile's value, its operands read at offsets that are those of tile `t` of block `o` in slot `p`. -/
theorem tileV_of (o : Fin 4) (p : Fin 2) (t : Fin 8) {ox ob : Fin 2 → ℕ} {ow on : Fin 3 → ℕ} (hx : ox = ![256 * t.val, 0])
    (hb : ob = ![256 * t.val, 0]) (hw : ow = ![o.val, 0, 0]) (hn : on = ![p.val, winOff t.val, 0])
    (ix : ∀ a, ox a + S256x1024.size a ≤ S2048x1024.size a) (ib : ∀ a, ob a + S256x640.size a ≤ S2048x640.size a)
    (iw : ∀ a, ow a + S1x1024x1024.size a ≤ S4x1024x1024.size a) (i_n : ∀ a, on a + S1x512x1024.size a ≤ S2x2048x1024.size a)
    (X : Vec F S2048x1024 .bf16) (WQ WO : Vec F S4x1024x1024 .bf16) (K V : Vec F S2x2048x1024 .bf16) (B : Vec F S2048x640 .bf16) :
    tileV o p t X WQ WO K V B
      = tileCore (xM.view.readAt (Elt F) (Rect.unit (s := S2048x1024) ox S256x1024.size ix).toLoadRect X)
        (qB.view.readAt (Elt F) (Rect.unit (s := S4x1024x1024) ow S1x1024x1024.size iw).toLoadRect WQ)
        (bM.view.readAt (Elt F) (Rect.unit (s := S2048x640) ob S256x640.size ib).toLoadRect B)
        (kB.view.readAt (Elt F) (rG p).toLoadRect K)
        (kB.view.readAt (Elt F) (Rect.unit (s := S2x2048x1024) on S1x512x1024.size i_n).toLoadRect K)
        (vB.view.readAt (Elt F) (rG p).toLoadRect V)
        (vB.view.readAt (Elt F) (Rect.unit (s := S2x2048x1024) on S1x512x1024.size i_n).toLoadRect V)
        (oB.view.readAt (Elt F) (Rect.unit (s := S4x1024x1024) ow S1x1024x1024.size iw).toLoadRect WO) := by
  subst hx hb hw hn
  rfl

/-- A loop of eight trips, each of which stores its tile by `f`, stores the eight tiles. -/
theorem tiles {c : Dev nD} {o : Fin 4} {p : Fin 2} {q : PosShare TreeShare} {X : Vec F S2048x1024 .bf16} {WQ WO : Vec F S4x1024x1024 .bf16}
    {K V : Vec F S2x2048x1024 .bf16} {B : Vec F S2048x640 .bf16} (f : Fin 8 → Vec F S1x2048x1024 .f32 → Vec F S1x2048x1024 .f32)
    {l : Scf.Loop 32} (ok : l.OK) (hl : l.trips = 8) {body : Fin l.trips → Unit → Prog (TpuEff nD τ sig (Elt F) Λ₀ .tc) Unit}
    (h : ∀ (t : Fin l.trips) (t' : Fin 8), t'.val = t.val → ∀ O, Tile c o p q X WQ WO K V B O
      ⊢ wp frame (wpE (defs₀ (F := F)) 𝒱₀ (c : Thread nD τ) none) Set.univ (body t ()) (fun _ => Tile c o p q X WQ WO K V B (f t' O)))
    (O : Vec F S1x2048x1024 .f32) :
    Tile c o p q X WQ WO K V B O
      ⊢ wp frame (wpE (defs₀ (F := F)) 𝒱₀ (c : Thread nD τ) none) Set.univ (Scf.Loop.for l ok ⟨⟩ body)
        (fun _ => Tile c o p q X WQ WO K V B (upTo f O 8)) := by
  iintro H
  iapply (Scf.wp_for (Fr := frame) (wpE := wpE (defs₀ (F := F)) 𝒱₀ (c : Thread nD τ) none) (Es := Set.univ)
    l.lb l.ub l.st ok (⟨⟩ : Unit) body (fun n _ => Tile c o p q X WQ WO K V B (upTo f O n)) (fun t _ => ?_))
  · have hlt : t.val < 8 := lt_of_lt_of_eq t.isLt hl
    rw [upTo_succ f O ⟨t.val, hlt⟩]
    exact h t ⟨t.val, hlt⟩ rfl _
  · rw [show Scf.trips l.lb l.ub l.st = 8 from hl]
    isplitl [H]; · iexact H
    iintro %acc H
    iexact H

/-! ## The tiles of step 1 -/

instance (t : Fin k0_t1_loop.trips) : ClosedOff (k0_off8 t) := ⟨![0, min (256 * t.val - 128) 1536, 0], by revert t; decide⟩
instance (c : Dev nD) : ClosedOff (k0_off6 c) := ⟨![(c : Fin 4).val, 0, 0], by revert c; decide⟩

theorem tile_facts1 (t : Fin k0_t1_loop.trips) : t.val < 8 ∧ k0_off5 t = ![256 * t.val, 0] ∧ k0_off7 t = ![256 * t.val, 0]
    ∧ k0_off8 t = ![0, winOff t.val, 0]
    ∧ (Scalar.cmpi CmpIPredicate.ne (Scalar.extui (Scalar.cmpi CmpIPredicate.eq (Scf.iv 0#32 1#32 t.val) 0#32)) 0#32 = 1#1 ↔ t.val = 0)
    ∧ (k0_cond2 t = 1#1 ↔ ¬ t.val = 0) ∧ k0_off9 t = ![0, 256 * t.val, 0] := by
  revert t; decide

/-- One tile of step 1. -/
theorem trip1 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32)
    (v2 v460 : BitVec 32) (a b e g h i j k : FVec F S32x128 .bf16) (l : Vec F S1x2048x128 .bf16) (t : Fin k0_t1_loop.trips) (t' : Fin 8) (ht : t'.val = t.val) :
    Tile c (c) 0 q X WQ WO K V B O
   ⊢ wp frame (wpE (defs₀ (F := F)) 𝒱₀ (c : Thread nD τ) none) Set.univ
     (k0_t1_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v2 v460 a b e g h i j k l t ())
     (fun _ => Tile c (c) 0 q X WQ WO K V B (tile0 (fun t => tileV (c) 0 t X WQ WO K V B) t' O)) := by
  obtain ⟨hlt, e1, e2, e3, e4, e5, e6⟩ := tile_facts1 t
  have e7 : k0_off6 c = ![(c : Fin 4).val, 0, 0] := by revert c; decide
  conv in (k0_t1_body ..) => simp only [k0_t1_body, k0_part1_eq_skeleton, k0_part2_eq_skeleton, k0_part3_eq_skeleton, k0_part1_skel, k0_part2_skel, k0_part3_skel]
  rw [← ht] at e1 e2 e3
  have he := tileV_of (c) 0 t' e1 e2 e7 e3 (k0_off5_inb t) (k0_off7_inb t) (k0_off6_inb c) (k0_off8_inb t) X WQ WO K V B
  unfold Tile
  by_cases h0 : t.val = 0
  · have h1 := e4.mpr h0
    have h2 : ¬ k0_cond2 t = 1#1 := fun h => e5.mp h h0
    iintro ⟨Hx, Hq, Ho, Hk, Hv, Hb, Hout⟩
    sl_exec
    rw [wp_ret]
    imodintro
    rw [tile0, if_pos (ht.trans h0), he]
    isplitl [Hx]; · iexact Hx
    isplitl [Hq]; · iexact Hq
    isplitl [Ho]; · iexact Ho
    isplitl [Hk]; · iexact Hk
    isplitl [Hv]; · iexact Hv
    isplitl [Hb]; · iexact Hb
    iexact Hout
  · have h1 : ¬ _ := fun h => h0 (e4.mp h)
    have h2 := e5.mpr h0
    rw [← ht] at e6
    iintro ⟨Hx, Hq, Ho, Hk, Hv, Hb, Hout⟩
    sl_exec
    rw [wp_ret]
    imodintro
    rw [tile0, if_neg (fun h => h0 (ht.symm.trans h)), he, store0_unit e6 (k0_off9_inb t h2)]
    isplitl [Hx]; · iexact Hx
    isplitl [Hq]; · iexact Hq
    isplitl [Ho]; · iexact Ho
    isplitl [Hk]; · iexact Hk
    isplitl [Hv]; · iexact Hv
    isplitl [Hb]; · iexact Hb
    iexact Hout

/-- The tiles of step 1. -/
theorem loop1 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32) (v2 v460 : BitVec 32) (a b e g h i j k : FVec F S32x128 .bf16) (l : Vec F S1x2048x128 .bf16) :
    Tile c (c) 0 q X WQ WO K V B O
   ⊢ wp frame (wpE (defs₀ (F := F)) 𝒱₀ (c : Thread nD τ) none) Set.univ
     (Scf.Loop.for k0_t1_loop k0_t1_ok ⟨⟩ (k0_t1_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v2 v460 a b e g h i j k l))
     (fun _ => Tile c (c) 0 q X WQ WO K V B (upTo (tile0 (fun t => tileV (c) 0 t X WQ WO K V B)) O 8)) :=
  tiles _ k0_t1_ok (by decide) (fun t t' ht O => trip1 c q X WQ WO K V B O v2 v460 a b e g h i j k l t t' ht) O

/-! ## The tiles of step 2 -/

instance (t : Fin k0_t2_loop.trips) : ClosedOff (k0_off14 t) := ⟨![1, min (256 * t.val - 128) 1536, 0], by revert t; decide⟩
instance (c : Dev nD) : ClosedOff (k0_off12 c) := ⟨![(c + 1 : Fin 4).val, 0, 0], by revert c; decide⟩

theorem tile_facts2 (t : Fin k0_t2_loop.trips) : t.val < 8 ∧ k0_off11 t = ![256 * t.val, 0] ∧ k0_off13 t = ![256 * t.val, 0]
    ∧ k0_off14 t = ![1, winOff t.val, 0]
    ∧ (Scalar.cmpi CmpIPredicate.ne (Scalar.extui (Scalar.cmpi CmpIPredicate.eq (Scf.iv 0#32 1#32 t.val) 0#32)) 0#32 = 1#1 ↔ t.val = 0)
    ∧ (k0_cond4 t = 1#1 ↔ ¬ t.val = 0) ∧ k0_off15 t = ![0, 256 * t.val, 0] := by
  revert t; decide

/-- One tile of step 2. -/
theorem trip2 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32)
    (v2 v659 : BitVec 32) (t : Fin k0_t2_loop.trips) (t' : Fin 8) (ht : t'.val = t.val) :
    Tile c (c + 1) 1 q X WQ WO K V B O
   ⊢ wp frame (wpE (defs₀ (F := F)) 𝒱₀ (c : Thread nD τ) none) Set.univ
     (k0_t2_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v2 v659 0#32 t ())
     (fun _ => Tile c (c + 1) 1 q X WQ WO K V B (tile1 (fun t => tileV (c + 1) 1 t X WQ WO K V B) t' O)) := by
  obtain ⟨hlt, e1, e2, e3, e4, e5, e6⟩ := tile_facts2 t
  have e7 : k0_off12 c = ![(c + 1 : Fin 4).val, 0, 0] := by revert c; decide
  conv in (k0_t2_body ..) => simp only [k0_t2_body, k0_part4_eq_skeleton, k0_part5_eq_skeleton, k0_part6_eq_skeleton, k0_part4_skel, k0_part5_skel, k0_part6_skel]
  rw [← ht] at e1 e2 e3
  have he := tileV_of (c + 1) 1 t' e1 e2 e7 e3 (k0_off11_inb t) (k0_off13_inb t) (k0_off12_inb c) (k0_off14_inb t) X WQ WO K V B
  unfold Tile
  by_cases h0 : t.val = 0
  · have h1 := e4.mpr h0
    have h2 : ¬ k0_cond4 t = 1#1 := fun h => e5.mp h h0
    iintro ⟨Hx, Hq, Ho, Hk, Hv, Hb, Hout⟩
    sl_exec
    rw [wp_ret]
    imodintro
    rw [tile1, if_pos (ht.trans h0), he]
    isplitl [Hx]; · iexact Hx
    isplitl [Hq]; · iexact Hq
    isplitl [Ho]; · iexact Ho
    isplitl [Hk]; · iexact Hk
    isplitl [Hv]; · iexact Hv
    isplitl [Hb]; · iexact Hb
    iexact Hout
  · have h1 : ¬ _ := fun h => h0 (e4.mp h)
    have h2 := e5.mpr h0
    rw [← ht] at e6
    iintro ⟨Hx, Hq, Ho, Hk, Hv, Hb, Hout⟩
    sl_exec
    rw [wp_ret]
    imodintro
    rw [tile1, if_neg (fun h => h0 (ht.symm.trans h)), he, store1_unit e6 (k0_off15_inb t h2)]
    isplitl [Hx]; · iexact Hx
    isplitl [Hq]; · iexact Hq
    isplitl [Ho]; · iexact Ho
    isplitl [Hk]; · iexact Hk
    isplitl [Hv]; · iexact Hv
    isplitl [Hb]; · iexact Hb
    iexact Hout

/-- The tiles of step 2. -/
theorem loop2 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32) (v2 v659 : BitVec 32) :
    Tile c (c + 1) 1 q X WQ WO K V B O
   ⊢ wp frame (wpE (defs₀ (F := F)) 𝒱₀ (c : Thread nD τ) none) Set.univ
     (Scf.Loop.for k0_t2_loop k0_t2_ok ⟨⟩ (k0_t2_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v2 v659 0#32))
     (fun _ => Tile c (c + 1) 1 q X WQ WO K V B (upTo (tile1 (fun t => tileV (c + 1) 1 t X WQ WO K V B)) O 8)) :=
  tiles _ k0_t2_ok (by decide) (fun t t' ht O => trip2 c q X WQ WO K V B O v2 v659 t t' ht) O

/-! ## The tiles of step 3 -/

instance (t : Fin k0_t3_loop.trips) : ClosedOff (k0_off19 t) := ⟨![0, min (256 * t.val - 128) 1536, 0], by revert t; decide⟩
instance (c : Dev nD) : ClosedOff (k0_off17 c) := ⟨![(c + 3 : Fin 4).val, 0, 0], by revert c; decide⟩

theorem tile_facts3 (t : Fin k0_t3_loop.trips) : t.val < 8 ∧ k0_off16 t = ![256 * t.val, 0] ∧ k0_off18 t = ![256 * t.val, 0]
    ∧ k0_off19 t = ![0, winOff t.val, 0]
    ∧ (Scalar.cmpi CmpIPredicate.ne (Scalar.extui (Scalar.cmpi CmpIPredicate.eq (Scf.iv 0#32 1#32 t.val) 0#32)) 0#32 = 1#1 ↔ t.val = 0)
    ∧ (k0_cond6 t = 1#1 ↔ ¬ t.val = 0) ∧ k0_off20 t = ![0, 256 * t.val, 0] := by
  revert t; decide

/-- One tile of step 3. -/
theorem trip3 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32)
    (v2 v877 : BitVec 32) (a b e g h i j : FVec F S32x128 .bf16) (k : FVec F S32x128 .f32) (t : Fin k0_t3_loop.trips) (t' : Fin 8) (ht : t'.val = t.val) :
    Tile c (c + 3) 0 q X WQ WO K V B O
   ⊢ wp frame (wpE (defs₀ (F := F)) 𝒱₀ (c : Thread nD τ) none) Set.univ
     (k0_t3_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v2 v877 a b e g h i j k t ())
     (fun _ => Tile c (c + 3) 0 q X WQ WO K V B (tile1 (fun t => tileV (c + 3) 0 t X WQ WO K V B) t' O)) := by
  obtain ⟨hlt, e1, e2, e3, e4, e5, e6⟩ := tile_facts3 t
  have e7 : k0_off17 c = ![(c + 3 : Fin 4).val, 0, 0] := by revert c; decide
  conv in (k0_t3_body ..) => simp only [k0_t3_body, k0_part7_eq_skeleton, k0_part8_eq_skeleton, k0_part9_eq_skeleton, k0_part7_skel, k0_part8_skel, k0_part9_skel]
  rw [← ht] at e1 e2 e3
  have he := tileV_of (c + 3) 0 t' e1 e2 e7 e3 (k0_off16_inb t) (k0_off18_inb t) (k0_off17_inb c) (k0_off19_inb t) X WQ WO K V B
  unfold Tile
  by_cases h0 : t.val = 0
  · have h1 := e4.mpr h0
    have h2 : ¬ k0_cond6 t = 1#1 := fun h => e5.mp h h0
    iintro ⟨Hx, Hq, Ho, Hk, Hv, Hb, Hout⟩
    sl_exec
    rw [wp_ret]
    imodintro
    rw [tile1, if_pos (ht.trans h0), he]
    isplitl [Hx]; · iexact Hx
    isplitl [Hq]; · iexact Hq
    isplitl [Ho]; · iexact Ho
    isplitl [Hk]; · iexact Hk
    isplitl [Hv]; · iexact Hv
    isplitl [Hb]; · iexact Hb
    iexact Hout
  · have h1 : ¬ _ := fun h => h0 (e4.mp h)
    have h2 := e5.mpr h0
    rw [← ht] at e6
    iintro ⟨Hx, Hq, Ho, Hk, Hv, Hb, Hout⟩
    sl_exec
    rw [wp_ret]
    imodintro
    rw [tile1, if_neg (fun h => h0 (ht.symm.trans h)), he, store1_unit e6 (k0_off20_inb t h2)]
    isplitl [Hx]; · iexact Hx
    isplitl [Hq]; · iexact Hq
    isplitl [Ho]; · iexact Ho
    isplitl [Hk]; · iexact Hk
    isplitl [Hv]; · iexact Hv
    isplitl [Hb]; · iexact Hb
    iexact Hout

/-- The tiles of step 3. -/
theorem loop3 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32) (v2 v877 : BitVec 32) (a b e g h i j : FVec F S32x128 .bf16) (k : FVec F S32x128 .f32) :
    Tile c (c + 3) 0 q X WQ WO K V B O
   ⊢ wp frame (wpE (defs₀ (F := F)) 𝒱₀ (c : Thread nD τ) none) Set.univ
     (Scf.Loop.for k0_t3_loop k0_t3_ok ⟨⟩ (k0_t3_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v2 v877 a b e g h i j k))
     (fun _ => Tile c (c + 3) 0 q X WQ WO K V B (upTo (tile1 (fun t => tileV (c + 3) 0 t X WQ WO K V B)) O 8)) :=
  tiles _ k0_t3_ok (by decide) (fun t t' ht O => trip3 c q X WQ WO K V B O v2 v877 a b e g h i j k t t' ht) O

/-! ## The tiles of step 4 -/

instance (t : Fin k0_t4_loop.trips) : ClosedOff (k0_off24 t) := ⟨![1, min (256 * t.val - 128) 1536, 0], by revert t; decide⟩
instance (c : Dev nD) : ClosedOff (k0_off22 c) := ⟨![(c + 2 : Fin 4).val, 0, 0], by revert c; decide⟩

theorem tile_facts4 (t : Fin k0_t4_loop.trips) : t.val < 8 ∧ k0_off21 t = ![256 * t.val, 0] ∧ k0_off23 t = ![256 * t.val, 0]
    ∧ k0_off24 t = ![1, winOff t.val, 0]
    ∧ (Scalar.cmpi CmpIPredicate.ne (Scalar.extui (Scalar.cmpi CmpIPredicate.eq (Scf.iv 0#32 1#32 t.val) 0#32)) 0#32 = 1#1 ↔ t.val = 0)
    ∧ (k0_cond8 t = 1#1 ↔ ¬ t.val = 0) ∧ k0_off25 t = ![0, 256 * t.val, 0] := by
  revert t; decide

/-- One tile of step 4. -/
theorem trip4 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32)
    (v1095 : BitVec 32) (a : FVec F S32x1024 .f32) (b : Vec F S1x32x1024 .f32) (t : Fin k0_t4_loop.trips) (t' : Fin 8) (ht : t'.val = t.val) :
    Tile c (c + 2) 1 q X WQ WO K V B O
   ⊢ wp frame (wpE (defs₀ (F := F)) 𝒱₀ (c : Thread nD τ) none) Set.univ
     (k0_t4_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v1095 a b t ())
     (fun _ => Tile c (c + 2) 1 q X WQ WO K V B (tile1 (fun t => tileV (c + 2) 1 t X WQ WO K V B) t' O)) := by
  obtain ⟨hlt, e1, e2, e3, e4, e5, e6⟩ := tile_facts4 t
  have e7 : k0_off22 c = ![(c + 2 : Fin 4).val, 0, 0] := by revert c; decide
  conv in (k0_t4_body ..) => simp only [k0_t4_body, k0_part10_eq_skeleton, k0_part11_eq_skeleton, k0_part12_eq_skeleton, k0_part10_skel, k0_part11_skel, k0_part12_skel]
  rw [← ht] at e1 e2 e3
  have he := tileV_of (c + 2) 1 t' e1 e2 e7 e3 (k0_off21_inb t) (k0_off23_inb t) (k0_off22_inb c) (k0_off24_inb t) X WQ WO K V B
  unfold Tile
  by_cases h0 : t.val = 0
  · have h1 := e4.mpr h0
    have h2 : ¬ k0_cond8 t = 1#1 := fun h => e5.mp h h0
    iintro ⟨Hx, Hq, Ho, Hk, Hv, Hb, Hout⟩
    sl_exec
    rw [wp_ret]
    imodintro
    rw [tile1, if_pos (ht.trans h0), he]
    isplitl [Hx]; · iexact Hx
    isplitl [Hq]; · iexact Hq
    isplitl [Ho]; · iexact Ho
    isplitl [Hk]; · iexact Hk
    isplitl [Hv]; · iexact Hv
    isplitl [Hb]; · iexact Hb
    iexact Hout
  · have h1 : ¬ _ := fun h => h0 (e4.mp h)
    have h2 := e5.mpr h0
    rw [← ht] at e6
    iintro ⟨Hx, Hq, Ho, Hk, Hv, Hb, Hout⟩
    sl_exec
    rw [wp_ret]
    imodintro
    rw [tile1, if_neg (fun h => h0 (ht.symm.trans h)), he, store1_unit e6 (k0_off25_inb t h2)]
    isplitl [Hx]; · iexact Hx
    isplitl [Hq]; · iexact Hq
    isplitl [Ho]; · iexact Ho
    isplitl [Hk]; · iexact Hk
    isplitl [Hv]; · iexact Hv
    isplitl [Hb]; · iexact Hb
    iexact Hout

/-- The tiles of step 4. -/
theorem loop4 (c : Dev nD) (q : PosShare TreeShare) (X : Vec F S2048x1024 .bf16) (WQ WO : Vec F S4x1024x1024 .bf16)
    (K V : Vec F S2x2048x1024 .bf16) (B : Vec F S2048x640 .bf16) (O : Vec F S1x2048x1024 .f32) (v1095 : BitVec 32) (a : FVec F S32x1024 .f32) (b : Vec F S1x32x1024 .f32) :
    Tile c (c + 2) 1 q X WQ WO K V B O
   ⊢ wp frame (wpE (defs₀ (F := F)) 𝒱₀ (c : Thread nD τ) none) Set.univ
     (Scf.Loop.for k0_t4_loop k0_t4_ok ⟨⟩ (k0_t4_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0 c v1095 a b))
     (fun _ => Tile c (c + 2) 1 q X WQ WO K V B (upTo (tile1 (fun t => tileV (c + 2) 1 t X WQ WO K V B)) O 8)) :=
  tiles _ k0_t4_ok (by decide) (fun t t' ht O => trip4 c q X WQ WO K V B O v1095 a b t t' ht) O

end Cert.Attn
-- ==== Proof.Sched.lean ====
module

public import proofs.«01_k».proof.Proof.Loop

/-!
The protocol between the four devices: the cells, who owes what to which, what each unit hands over.

Every device `c` has a barrier cell and an exit cell, each raised once by each of the three other devices, and for each
distance `d = 1, 2, 3` and each of the two weights a receive cell (the copy from device `c + d` completes on it) and a
send cell (the copy it sends `d` devices further completes on it). A unit is named by its distance.
-/

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Cells -/

/-- The barrier semaphore and the semaphore of the exit. -/
abbrev barS : Sem sig := barrier0
abbrev exS : Sem sig := cc0_scoped0.sem
/-- The semaphores of the sends of the two weights, -/
abbrev sqS (d : Fin 4) : DmaSem sig := ⟨4 + d.val, by have := d.isLt; show 4 + d.val < 24; omega⟩
abbrev soS (d : Fin 4) : DmaSem sig := ⟨8 + d.val, by have := d.isLt; show 8 + d.val < 24; omega⟩
/-- and of their receipts. -/
abbrev rqS (d : Fin 4) : DmaSem sig := ⟨12 + d.val, by have := d.isLt; show 12 + d.val < 24; omega⟩
abbrev roS (d : Fin 4) : DmaSem sig := ⟨16 + d.val, by have := d.isLt; show 16 + d.val < 24; omega⟩

abbrev cell (c : Dev nD) (s : SemLoc sig) : GSem nD τ sig := ((c : Thread nD τ), s)

/-- The units that one copied block raises its semaphores by. -/
abbrev N : ℕ := (qM : Memref sig .tc .vmem S1024x1024 .bf16).view.dmaCredit
theorem N_pos : 0 < N := View.dmaCredit_pos _ (by decide)

/-- The parts that a device cuts its own block into: the ones lent to the copies, and (at `0`) the one that it reads. -/
abbrev sh (d : Fin 4) : PosShare TreeShare :=
  match d with
  | 0 => fullShare.right.right
  | 1 => fullShare.left.left
  | 2 => fullShare.left.right
  | 3 => fullShare.right.left

/-- Block `o` of a gathered weight on device `c`. -/
abbrev qSl (c : Dev nD) (o : Fin 4) (q : PosShare TreeShare) (W : Vec F S4x1024x1024 .bf16) : sProp 𝕄 :=
  qB.view.loc (c : Thread nD τ) ↦[qB.view.setOn (rW o).set]{q} W
abbrev oSl (c : Dev nD) (o : Fin 4) (q : PosShare TreeShare) (W : Vec F S4x1024x1024 .bf16) : sProp 𝕄 :=
  oB.view.loc (c : Thread nD τ) ↦[oB.view.setOn (rW o).set]{q} W

/-! ## The schedule -/

/-- What device `c - d` hands device `c` at the barrier: the room for `c`'s blocks, and that its cells are in use. -/
def barPay (c : Dev nD) (d : Fin 4) : sProp 𝕄 :=
  iprop((∃ f, qSl (F := F) (c - d) c fullShare f) ∗ (∃ f, oSl (F := F) (c - d) c fullShare f)
    ∗ reached ER (cell (c - d) (.dma (rqS d))) 0 ∗ reached ER (cell (c - d) (.dma (roS d))) 0
    ∗ reached ER (cell (c - d) (.reg exS)) 0)

/-- The distances of the units that raise a semaphore in its one round. -/
def dutiesOf : SemLoc sig → Finset (Fin 4)
  | .reg _ => {1, 2, 3}
  | .dma s => if 4 ≤ s.val ∧ s.val < 20 then {⟨s.val % 4, Nat.mod_lt _ (by decide)⟩} else ∅

def payOf (WQ WO : Vec F S4x1024x1024 .bf16) (c : Dev nD) (d : Fin 4) : SemLoc sig → sProp 𝕄
  | .reg s => if s = barS then barPay c d else iprop(emp)
  | .dma s => if s.val < 8 then qSl c c (sh d) WQ else if s.val < 12 then oSl c c (sh d) WO
      else if s.val < 16 then qSl c (c + d) fullShare WQ else oSl c (c + d) fullShare WO

def amtOf : SemLoc sig → ℕ
  | .reg _ => 1
  | .dma _ => N

def sched (WQ WO : Vec F S4x1024x1024 .bf16) : Rounds.Schedule (GSem nD τ sig) (Fin 4) 𝕄 where
  duties g r := if r = 0 ∧ g.1.2 = .tc then dutiesOf g.2 else ∅
  unitless _ := False
  amount g _ _ := amtOf g.2
  payload g _ d := payOf WQ WO g.1.1 d g.2
  amount_pos g _ _ _ := by
    obtain ⟨t, s⟩ := g
    cases s with
    | reg s => exact Nat.one_pos
    | dma s => exact N_pos

variable (WQ WO : Vec F S4x1024x1024 .bf16)

instance sched_storable (g : GSem nD τ sig) (r : ℕ) (d : Fin 4) :
    BI.Storable (upEmb : UEmb _ 𝕄) ((sched WQ WO).payload g r d) := by
  obtain ⟨t, s⟩ := g
  show BI.Storable upEmb (payOf WQ WO t.1 d s)
  cases s <;> unfold payOf barPay <;> (try dsimp only) <;> (repeat' split) <;> infer_instance

theorem duties_reg (c : Dev nD) (s : Sem sig) : (sched WQ WO).duties (cell c (.reg s)) 0 = {1, 2, 3} := rfl
theorem duties_of (c : Dev nD) (s : DmaSem sig) (d : Fin 4) (h : dutiesOf (.dma s) = {d} := by decide) :
    (sched WQ WO).duties (cell c (.dma s)) 0 = {d} := h
theorem duties_later (g : GSem nD τ sig) : ∀ r, 1 ≤ r → (sched WQ WO).duties g r = ∅ :=
  fun r hr => by dsimp only [sched]; rw [if_neg (fun h => by omega)]
theorem amount_reg (c : Dev nD) (s : Sem sig) (d : Fin 4) : (sched WQ WO).amount (cell c (.reg s)) 0 d = 1 := rfl
theorem amount_dma (c : Dev nD) (s : DmaSem sig) (d : Fin 4) : (sched WQ WO).amount (cell c (.dma s)) 0 d = N := rfl
theorem expect_reg (c : Dev nD) (s : Sem sig) : (sched WQ WO).expect (cell c (.reg s)) 0 = 3 := by
  unfold Schedule.expect Schedule.amountOf; rw [duties_reg]; simp only [amount_reg]; decide
theorem expect_dma (c : Dev nD) (s : DmaSem sig) (d : Fin 4) (h : dutiesOf (.dma s) = {d}) : (sched WQ WO).expect (cell c (.dma s)) 0 = N := by
  unfold Schedule.expect Schedule.amountOf; rw [duties_of WQ WO c s d h, Finset.sum_singleton, amount_dma]

theorem pay_bar (c : Dev nD) (d : Fin 4) : (sched WQ WO).payload (cell c (.reg barS)) 0 d = barPay c d := by
  show (if (barS : Sem sig) = barS then barPay c d else iprop(emp)) = _; exact if_pos rfl
theorem exS_ne : ¬ (exS = barS) := by decide
theorem pay_ex (c : Dev nD) (d : Fin 4) : (sched WQ WO).payload (cell c (.reg exS)) 0 d = iprop(emp) := by
  show (if (exS : Sem sig) = barS then barPay c d else iprop(emp)) = _; exact if_neg exS_ne
theorem pay_sq (c : Dev nD) (d e : Fin 4) : (sched WQ WO).payload (cell c (.dma (sqS e))) 0 d = qSl c c (sh d) WQ :=
  if_pos (by show 4 + e.val < 8; omega)
theorem pay_so (c : Dev nD) (d e : Fin 4) : (sched WQ WO).payload (cell c (.dma (soS e))) 0 d = oSl c c (sh d) WO :=
  (if_neg (by show ¬ 8 + e.val < 8; omega)).trans (if_pos (by show 8 + e.val < 12; omega))
theorem pay_rq (c : Dev nD) (d e : Fin 4) : (sched WQ WO).payload (cell c (.dma (rqS e))) 0 d = qSl c (c + d) fullShare WQ :=
  (if_neg (by show ¬ 12 + e.val < 8; omega)).trans ((if_neg (by show ¬ 12 + e.val < 12; omega)).trans (if_pos (by show 12 + e.val < 16; omega)))
theorem pay_ro (c : Dev nD) (d e : Fin 4) : (sched WQ WO).payload (cell c (.dma (roS e))) 0 d = oSl c (c + d) fullShare WO :=
  (if_neg (by show ¬ 16 + e.val < 8; omega)).trans ((if_neg (by show ¬ 16 + e.val < 12; omega)).trans (if_neg (by show ¬ 16 + e.val < 16; omega)))

/-! ## What each device owes; the levels -/

abbrev ow (c : Dev nD) (s : SemLoc sig) (n : ℕ) : CellTallies nD τ sig Unit := tallyAt (cell c s) () n

/-- The units of the exit, -/
def oweE (c : Dev nD) : CellTallies nD τ sig Unit := ow (c + 3) (.reg exS) 1 + ow (c + 2) (.reg exS) 1 + ow (c + 1) (.reg exS) 1
/-- with those of the copies, last first, -/
def oweC (c : Dev nD) : CellTallies nD τ sig Unit :=
  oweE c + ow (c + 3) (.dma (roS 1)) N + ow (c + 3) (.dma (rqS 1)) N + ow (c + 2) (.dma (roS 2)) N + ow (c + 2) (.dma (rqS 2)) N
    + ow (c + 1) (.dma (roS 3)) N + ow (c + 1) (.dma (rqS 3)) N
/-- and with those of the barrier. -/
def owe (c : Dev nD) : CellTallies nD τ sig Unit :=
  oweC c + ow (c + 3) (.reg barS) 1 + ow (c + 2) (.reg barS) 1 + ow (c + 1) (.reg barS) 1

def L (g : GSem nD τ sig) : Finset Unit := if g.1.2 = .tc then {()} else ∅
/-- Barrier, receipts, exit: in this order; everything else below. -/
def lvOf : SemLoc sig → ℕ
  | .reg s => if s = barS then 1 else 3
  | .dma s => if 12 ≤ s.val ∧ s.val < 20 then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L (cell c sm) = {()} := if_pos rfl

/-- A debt all of whose cells lie above a level. -/
def Above (n : ℕ) (O : CellTallies nD τ sig Unit) : Prop := ∀ g u, 0 < O g u → g.1.2 = .tc ∧ n < lvOf g.2
theorem above_ow (n : ℕ) (c : Dev nD) (s : SemLoc sig) (k : ℕ) (h : n < lvOf s) : Above n (ow c s k) := fun g u hg => by
  rw [tallyAt_apply] at hg
  by_cases e : g = cell c s ∧ u = ()
  · rw [e.1]; exact ⟨rfl, h⟩
  · rw [if_neg e] at hg; exact absurd hg (Nat.lt_irrefl 0)
theorem above_add (n : ℕ) (O P : CellTallies nD τ sig Unit) (h : Above n O) (h' : Above n P) : Above n (O + P) := fun g u hg => by
  rw [Pi.add_apply, Finsupp.add_apply] at hg
  rcases Nat.add_pos_iff_pos_or_pos.mp hg with hg | hg
  · exact h g u hg
  · exact h' g u hg
theorem above_mono {n m : ℕ} (h : m ≤ n) {O : CellTallies nD τ sig Unit} (hO : Above n O) : Above m O :=
  fun g u hg => ⟨(hO g u hg).1, lt_of_le_of_lt h (hO g u hg).2⟩
theorem above_zero (n : ℕ) : Above n 0 := fun _ _ hg => absurd hg (Nat.lt_irrefl 0)
theorem above_E (c : Dev nD) : Above 2 (oweE c) := by
  unfold oweE
  exact above_add _ _ _ (above_add _ _ _ (above_ow _ _ _ _ (by decide)) (above_ow _ _ _ _ (by decide))) (above_ow _ _ _ _ (by decide))
theorem above_C (c : Dev nD) : Above 1 (oweC c) := by
  unfold oweC
  repeat' first
    | exact above_mono (by decide) (above_E c)
    | exact above_ow _ _ _ _ (by decide)
    | apply above_add
theorem above_O (c : Dev nD) : Above 0 (owe c) := by
  unfold owe
  repeat' first
    | exact above_mono (by decide) (above_C c)
    | exact above_ow _ _ _ _ (by decide)
    | apply above_add

/-- A device may wait on a cell while all that it owes lies above it. -/
theorem mayWait (c : Dev nD) (s : SemLoc sig) (O : CellTallies nD τ sig Unit) (h : Above (lvOf s) O) :
    (levAts L lv : sProp 𝕄) ⊢ MayWait (c : Thread nD τ) s () O :=
  MayOwe.of_cut (L := L) (lev := lv) (lvOf s) (fun p hp => by rw [Finset.mem_singleton.mp hp, L_tc]; exact Finset.mem_singleton_self _)
    (fun g u hg => by
      unfold L; rw [if_pos (h g u hg).1]; exact Finset.mem_singleton_self _)
    (fun p hp => by rw [Finset.mem_singleton.mp hp]; exact le_refl _)
    (fun g u hg => (h g u hg).2)

end Cert.Attn
end
-- ==== Proof.Send.lean ====
module

public import proofs.«01_k».proof.Proof.Sched

/-! # The copies between the devices -/

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (WQ WO : Vec F S4x1024x1024 .bf16)

/-- The invariant of a cell, under its name. -/
abbrev inv (κ : GSem nD τ sig → ℕ) (c : Dev nD) (s : SemLoc sig) : sProp 𝕄 := cellInv ER (sched WQ WO) (κ (cell c s)) (cell c s)

/-- A block as a copy names it. -/
abbrev blkV (m : Memref sig .tc .vmem S4x1024x1024 .bf16) (off : Fin 3 → ℕ)
    (h : ∀ a, off a + S1x1024x1024.size a ≤ S4x1024x1024.size a)
    (hr : ∀ a, (Rect.unit (s := S4x1024x1024) off S1x1024x1024.size h).stride a = 1) : Memref sig .tc .vmem S1024x1024 .bf16 :=
  (m.slice (Rect.unit (s := S4x1024x1024) off S1x1024x1024.size h) hr).squeeze S1024x1024 squeezes_S1x1024x1024_S1024x1024

theorem blkV_set (m : Memref sig .tc .vmem S4x1024x1024 .bf16) (o : Fin 4) (h) (hr) :
    (blkV m ![o.val, 0, 0] h hr).view.set = m.view.setOn (rW o).set :=
  (View.set_reshape ..).trans (View.set_slice ..)

/-- The copy of the own block to the device `p`, from which the own device is `e` away. -/
theorem send (κ : GSem nD τ sig → ℕ) (m : Memref sig .tc .vmem S4x1024x1024 .bf16) (c p n : Dev nD) (d e : Fin 4) (hp : n = p)
    (s1 s2 : DmaSem sig) (hd : dutiesOf (.dma s1) = {d}) (hd' : dutiesOf (.dma s2) = {e})
    (M : Buf (Elt F) (m.view.loc (c : Thread nD τ)))
    (h1 : (sched WQ WO).payload (cell c (.dma s1)) 0 d = (m.view.loc (c : Thread nD τ) ↦[m.view.setOn (rW c).set]{sh d} M))
    (h2 : (sched WQ WO).payload (cell p (.dma s2)) 0 e = (m.view.loc (p : Thread nD τ) ↦[m.view.setOn (rW c).set]{fullShare} M))
    {sS sR : DmaSem sig} (hS : sS = s1) (hR : sR = s2)
    {off off' : Fin 3 → ℕ} (ho : off = ![(c : Fin 4).val, 0, 0]) (ho' : off' = ![(c : Fin 4).val, 0, 0])
    {h : ∀ a, off a + S1x1024x1024.size a ≤ S4x1024x1024.size a} {hr}
    {h' : ∀ a, off' a + S1x1024x1024.size a ≤ S4x1024x1024.size a} {hr'} {hsc}
    {hsrc : (blkV m off h hr).view.WordExact} {hdst : (blkV m off' h' hr').view.WordExact}
    {hsem : DmaTarget.Typed .vmem (.dma sR) (.remote (Dev.tc n : Thread nD τ) (blkV m off' h' hr') (.dma sS) hsc)}
    {α : Type} {Q : α → sProp 𝕄} {k : PUnit → Prog (TpuEff nD τ sig (Elt F) Λ₀ .tc) α}
    (hN : ∀ o h hr, (blkV m o h hr).view.dmaCredit = N)
    (fd : Buf (Elt F) (m.view.loc (p : Thread nD τ))) (O : CellTallies nD τ sig Unit) (W : Waits sig Unit) :
    iprop(inv WQ WO κ c (.dma s1) ∗ inv WQ WO κ p (.dma s2)
        ∗ (m.view.loc (c : Thread nD τ) ↦[m.view.setOn (rW c).set]{sh d} M)
        ∗ (m.view.loc (p : Thread nD τ) ↦[m.view.setOn (rW c).set]{fullShare} fd) ∗ owes (c : Thread nD τ) (O + ow p (.dma s2) N) W
        ∗ dutyTok ER (cell c (.dma s1)) 0 d ∗ reached ER (cell c (.dma s1)) 0
        ∗ dutyTok ER (cell p (.dma s2)) 0 e ∗ reached ER (cell p (.dma s2)) 0)
      ⊢ iprop(((cred (tallyAt (cell c (.dma s1)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkV m off h hr) (.remote (Dev.tc n : Thread nD τ) (blkV m off' h' hr') (.dma sS) hsc) (.dma sR) hsrc hdst hsem) k) Q) := by
  subst hp hS hR ho ho'
  have hs := blkV_set m (c : Fin 4) h hr
  refine BI.Entails.trans ?_ (Rounds.wp_send_pointsTo 𝒱₀ ER (sched WQ WO) (c : Thread nD τ) none (c' := (n : Thread nD τ))
    (src := blkV m ![(c : Fin 4).val, 0, 0] h hr) (dst := blkV m ![(c : Fin 4).val, 0, 0] h' hr') (sS := .dma sS) (sem := .dma sR)
    (κ₁ := κ (cell c (.dma sS))) (κ₂ := κ (cell n (.dma sR)))
    (r₁ := 0) (r₂ := 0) (d₁ := d) (d₂ := e) (fd := fd) (fs := M) (q := sh d)
    (by rw [duties_of WQ WO c _ d hd]; exact Finset.mem_singleton_self _) (by rw [duties_of WQ WO n _ e hd']; exact Finset.mem_singleton_self _)
    () () N (hN _ _ _) (amount_dma WQ WO c _ d) (amount_dma WQ WO n _ e) O rfl (W := W)
    ?_ ?_)
  · rw [hs]; exact BI.Entails.refl _
  · rw [hs]; exact (Entails.of_eq h1.symm)
  · rw [h2, View.write_read_eq_piecewise, hs]
    exact Entails.of_eq (Idealize.ShloMosaic.pointsTo_congr (ℓ := m.view.loc (n : Thread nD τ)) (g := M) (fun i hi =>
      Finset.piecewise_eq_of_mem _ _ _ (by rw [← hs] at hi; exact hi)))

theorem credit_qB : ∀ o h hr, (blkV qB o h hr).view.dmaCredit = N := fun _ _ _ => rfl
theorem credit_oB : ∀ o h hr, (blkV oB o h hr).view.dmaCredit = N := fun _ _ _ => rfl

end Cert.Attn
end
-- ==== Proof.Hold.lean ====
module

public import proofs.«01_k».proof.Proof.Send
public import proofs.«01_k».proof.Proof.Loop

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem dv1 (c : Dev nD) : (⟨k0_dev1 c, k0_dev1_lt c⟩ : Dev nD) = c + 1 := by revert c; decide
theorem dv2 (c : Dev nD) : (⟨k0_dev2 c, k0_dev2_lt c⟩ : Dev nD) = c + 2 := by revert c; decide
theorem dv3 (c : Dev nD) : (⟨k0_dev3 c, k0_dev3_lt c⟩ : Dev nD) = c + 3 := by revert c; decide
theorem dv4 (c : Dev nD) : (⟨k0_dev4 c, k0_dev4_lt c⟩ : Dev nD) = c + 1 := by revert c; decide
theorem dv5 (c : Dev nD) : (⟨k0_dev5 c, k0_dev5_lt c⟩ : Dev nD) = c + 1 := by revert c; decide
theorem dv6 (c : Dev nD) : (⟨k0_dev6 c, k0_dev6_lt c⟩ : Dev nD) = c + 2 := by revert c; decide
theorem dv7 (c : Dev nD) : (⟨k0_dev7 c, k0_dev7_lt c⟩ : Dev nD) = c + 2 := by revert c; decide
theorem dv8 (c : Dev nD) : (⟨k0_dev8 c, k0_dev8_lt c⟩ : Dev nD) = c + 3 := by revert c; decide
theorem dv9 (c : Dev nD) : (⟨k0_dev9 c, k0_dev9_lt c⟩ : Dev nD) = c + 3 := by revert c; decide
theorem dv10 (c : Dev nD) : (⟨k0_dev10 c, k0_dev10_lt c⟩ : Dev nD) = c + 1 := by revert c; decide
theorem dv11 (c : Dev nD) : (⟨k0_dev11 c, k0_dev11_lt c⟩ : Dev nD) = c + 2 := by revert c; decide
theorem dv12 (c : Dev nD) : (⟨k0_dev12 c, k0_dev12_lt c⟩ : Dev nD) = c + 3 := by revert c; decide

theorem sub1 (c : Dev nD) : c - 1 = c + 3 := by revert c; decide
theorem sub2 (c : Dev nD) : c - 2 = c + 2 := by revert c; decide
theorem sub3 (c : Dev nD) : c - 3 = c + 1 := by revert c; decide
theorem add13 (c : Dev nD) : c + 1 + 3 = c := by revert c; decide
theorem add22 (c : Dev nD) : c + 2 + 2 = c := by revert c; decide
theorem add31 (c : Dev nD) : c + 3 + 1 = c := by revert c; decide

theorem off1 (c : Dev nD) : k0_off1 c = ![(c : Fin 4).val, 0, 0] := by revert c; decide
theorem off2 (c : Dev nD) : k0_off2 c = ![(c : Fin 4).val, 0, 0] := by revert c; decide
instance (c : Dev nD) : ClosedOff (k0_off1 c) := ⟨![(c : Fin 4).val, 0, 0], by revert c; decide⟩

instance (c : Dev nD) : ClosedOff (k0_off4 c 0#32) := ⟨![(c : Fin 4).val, 0, 0], by revert c; decide⟩
instance (c : Dev nD) : ClosedOff (k0_off4 c 1#32) := ⟨![(c + 1 : Fin 4).val, 0, 0], by revert c; decide⟩
instance (c : Dev nD) : ClosedOff (k0_off4 c 2#32) := ⟨![(c + 2 : Fin 4).val, 0, 0], by revert c; decide⟩
instance (c : Dev nD) : ClosedOff (k0_off4 c 3#32) := ⟨![(c + 3 : Fin 4).val, 0, 0], by revert c; decide⟩

/-- A buffer at a whole share is held at four. -/
theorem quarters {ℓ : Loc nD τ sig} {I : Finset (Idx ℓ)} {f : Buf (Elt F) ℓ} :
    ((ℓ ↦[I]{fullShare} f) : sProp 𝕄) ⊣⊢ iprop((ℓ ↦[I]{sh 1} f) ∗ (ℓ ↦[I]{sh 2} f) ∗ (ℓ ↦[I]{sh 3} f) ∗ (ℓ ↦[I]{sh 0} f)) := by
  refine ⟨?_, ?_⟩
  · iintro H
    ihave H := (pointsTo_share (I := I) (f := f) (PosShare.mem_left_op_right fullShare)).1 $$ H
    icases H with ⟨Hl, Hr⟩
    ihave Hl := (pointsTo_share (I := I) (f := f) (PosShare.mem_left_op_right fullShare.left)).1 $$ Hl
    ihave Hr := (pointsTo_share (I := I) (f := f) (PosShare.mem_left_op_right fullShare.right)).1 $$ Hr
    icases Hl with ⟨H1, H2⟩
    icases Hr with ⟨H3, H0⟩
    isplitl [H1]; · iexact H1
    isplitl [H2]; · iexact H2
    isplitl [H3]; · iexact H3
    iexact H0
  · iintro ⟨H1, H2, H3, H0⟩
    iapply (pointsTo_share (I := I) (f := f) (PosShare.mem_left_op_right fullShare)).2
    isplitl [H1 H2]
    · iapply (pointsTo_share (I := I) (f := f) (PosShare.mem_left_op_right fullShare.left)).2
      isplitl [H1]; · iexact H1
      iexact H2
    · iapply (pointsTo_share (I := I) (f := f) (PosShare.mem_left_op_right fullShare.right)).2
      isplitl [H3]; · iexact H3
      iexact H0

/-- A block stored over anything is what the gathered weight has there. -/
theorem stored_q (c : Dev nD) (W f : Vec F S4x1024x1024 .bf16) (w : Vec F S1x1024x1024 .bf16) {off : Fin 3 → ℕ}
    (ho : off = ![(c : Fin 4).val, 0, 0]) (h) (hW : qB.view.readAt (Elt F) (rW c).toLoadRect W = w) :
    (qB.view.loc (c : Thread nD τ) ↦[qB.view.setOn (rW c).set]{fullShare} qB.view.writes (Elt F) f
      [⟨Rect.unit (s := S4x1024x1024) off S1x1024x1024.size h, w⟩]) = (qSl c c fullShare W : sProp 𝕄) := by
  subst ho hW
  show (qB.view.loc (c : Thread nD τ) ↦[qB.view.setOn (rW c).set]{fullShare} (qB.view.slice (rW c)).write (Elt F) f
    ((qB.view.slice (rW c)).read (Elt F) W) Finset.univ) = _
  rw [View.write_read_eq_piecewise]
  exact Idealize.ShloMosaic.pointsTo_congr (ℓ := qB.view.loc (c : Thread nD τ)) (g := W) (fun i hi =>
      Finset.piecewise_eq_of_mem _ _ _ (by show i ∈ (qB.view.slice (rW c)).set; rw [View.set_slice]; exact hi))

theorem stored_o (c : Dev nD) (W f : Vec F S4x1024x1024 .bf16) (w : Vec F S1x1024x1024 .bf16) {off : Fin 3 → ℕ}
    (ho : off = ![(c : Fin 4).val, 0, 0]) (h) (hW : oB.view.readAt (Elt F) (rW c).toLoadRect W = w) :
    (oB.view.loc (c : Thread nD τ) ↦[oB.view.setOn (rW c).set]{fullShare} oB.view.writes (Elt F) f
      [⟨Rect.unit (s := S4x1024x1024) off S1x1024x1024.size h, w⟩]) = (oSl c c fullShare W : sProp 𝕄) := by
  subst ho hW
  show (oB.view.loc (c : Thread nD τ) ↦[oB.view.setOn (rW c).set]{fullShare} (oB.view.slice (rW c)).write (Elt F) f
    ((oB.view.slice (rW c)).read (Elt F) W) Finset.univ) = _
  rw [View.write_read_eq_piecewise]
  exact Idealize.ShloMosaic.pointsTo_congr (ℓ := oB.view.loc (c : Thread nD τ)) (g := W) (fun i hi =>
      Finset.piecewise_eq_of_mem _ _ _ (by show i ∈ (oB.view.slice (rW c)).set; rw [View.set_slice]; exact hi))

/-! ## What the copies of the keys and the biases leave -/

/-- The block `o` of the keys or values, in every slot. -/
def kvOf (o : Fin 4) (H : Vec F S2048x4096 .bf16) : Vec F S2x2048x1024 .bf16 := fun i =>
  H (fun | 0 => i 1 | 1 => ⟨1024 * o.val + (i 2).val, by have := o.isLt; have h : (i 2).val < 1024 := (i 2).isLt; show _ < 4096; omega⟩)

/-- A copy of a block written in a slot. -/
abbrev landing (mB : Memref sig .tc .vmem S2x2048x1024 .bf16) (mH : Memref sig .tc .hbm S2048x4096 .bf16) (p : Fin 2) (off : Fin 2 → ℕ)
    (h : ∀ a, off a + S2048x1024.size a ≤ S2048x4096.size a) (K : mB.view.ty.Contents (Elt F)) (H : mH.view.ty.Contents (Elt F)) : mB.view.ty.Contents (Elt F) :=
  View.write (Elt F) ((mB.slice (rKV p) (fun _ => rfl)).squeeze S2048x1024 squeezes_S1x2048x1024_S2048x1024).view K
    ((mH.slice (Rect.unit (s := S2048x4096) off S2048x1024.size h) (fun _ => rfl)).view.read (Elt F) H) Finset.univ

/-- What a copy of a block writes in a slot is that block there. -/
theorem landed (mB : Memref sig .tc .vmem S2x2048x1024 .bf16) (mH : Memref sig .tc .hbm S2048x4096 .bf16)
    (c : Dev nD) (p : Fin 2) (o : Fin 4) (q : PosShare TreeShare) (T : Buf (Elt F) (mB.view.loc (c : Thread nD τ))) (K : Buf (Elt F) (mB.view.loc (c : Thread nD τ))) (H : mH.view.ty.Contents (Elt F))
    {off : Fin 2 → ℕ} (ho : off = ![0, 1024 * o.val]) (h)
    (hT : ∀ i : S2048x1024.Idx, mH.view.read (Elt F) H (fun | 0 => i 0 | 1 => ⟨1024 * o.val + (i 1).val, by have := o.isLt; have h : (i 1).val < 1024 := (i 1).isLt; show _ < 4096; omega⟩)
       = mB.view.read (Elt F) T (fun | 0 => p | 1 => i 0 | 2 => i 1)) :
    (mB.view.loc (c : Thread nD τ) ↦[mB.view.setOn (rKV p).set]{q} landing mB mH p off h K H)
      = ((mB.view.loc (c : Thread nD τ) ↦[mB.view.setOn (rKV p).set]{q} T) : sProp 𝕄) := by
  subst ho
  unfold landing
  have e : (mH.slice (Rect.unit (s := S2048x4096) ![0, 1024 * o.val] S2048x1024.size h) (fun _ => rfl)).view.read (Elt F) H
      = ((mB.slice (rKV p) (fun _ => rfl)).squeeze S2048x1024 squeezes_S1x2048x1024_S2048x1024).view.read (Elt F) T := by
    funext i
    show _ = shapeCast S2048x1024 (mB.view.readAt (Elt F) (rKV p).toLoadRect T) squeezes_S1x2048x1024_S2048x1024.numel_eq i
    refine Eq.trans ?_ ((hT i).trans ?_)
    · show mH.view.read (Elt F) H _ = _
      refine congrArg (mH.view.read (Elt F) H) (funext fun a => Fin.ext ?_)
      fin_cases a
      · show 0 + 1 * (i 0).val = _; simp
      · show 1024 * o.val + 1 * (i 1).val = _; simp
    · rw [shapeCast, show Shape.reshapeEquiv _ i = _ from Shape.reshapeEquiv_cons_one (n := 2) (d := S2048x1024.size) _ i]
      refine congrArg (mB.view.read (Elt F) T) (funext fun a => Fin.ext ?_)
      fin_cases a
      · show _ = p.val + 1 * 0; simp
      · show _ = 0 + 1 * (i 0).val; simp
      · show _ = 0 + 1 * (i 1).val; simp
  rw [e, View.write_read_eq_piecewise]
  exact Idealize.ShloMosaic.pointsTo_congr (ℓ := mB.view.loc (c : Thread nD τ)) (g := T) (fun i hi =>
      Finset.piecewise_eq_of_mem _ _ _ (by
        have hs : ((mB.slice (rKV p) (fun _ => rfl)).squeeze S2048x1024 squeezes_S1x2048x1024_S2048x1024).view.set
          = mB.view.setOn (rKV p).set := (View.set_reshape ..).trans (View.set_slice ..)
        exact (Finset.ext_iff.mp hs i).mpr hi))

/-- The biases of the eight tiles. -/
def biasV : Vec F S2048x640 .bf16 :=
  have w : IVec S256x640 32 := iota .tc S256x640 32 [1] iota_S256x640_d1_w32
  bM.view.writes (Elt F) bM.view.junk
      [⟨Rect.unit (s := S2048x640) ![1792, 0] S256x640.size inb_S2048x640_S256x640_1792_0, k0_pay105⟩,
        ⟨Rect.unit (s := S2048x640) ![1536, 0] S256x640.size inb_S2048x640_S256x640_1536_0, k0_pay104 w k0_pay103 32#32⟩,
        ⟨Rect.unit (s := S2048x640) ![1280, 0] S256x640.size inb_S2048x640_S256x640_1280_0, k0_pay102 k0_pay99 w k0_pay100 k0_pay101⟩,
        ⟨Rect.unit (s := S2048x640) ![1024, 0] S256x640.size inb_S2048x640_S256x640_1024_0, k0_pay98⟩,
        ⟨Rect.unit (s := S2048x640) ![768, 0] S256x640.size inb_S2048x640_S256x640_768_0, k0_pay97 k0_pay96⟩,
        ⟨Rect.unit (s := S2048x640) ![512, 0] S256x640.size inb_S2048x640_S256x640_512_0, k0_pay95 k0_pay91 w k0_pay92 k0_pay93 k0_pay94⟩,
        ⟨Rect.unit (s := S2048x640) ![256, 0] S256x640.size inb_S2048x640_S256x640_256_0, k0_pay90 k0_pay88 w k0_pay89 128#32⟩,
        ⟨Rect.unit (s := S2048x640) ![0, 0] S256x640.size inb_S2048x640_S256x640_0_0, k0_pay87⟩]

theorem off3 (c : Dev nD) : (k0_off3 c 0#32 = ![0, 1024 * (c : Fin 4).val]) ∧ (k0_off3 c 1#32 = ![0, 1024 * (c + 1 : Fin 4).val])
    ∧ (k0_off3 c 2#32 = ![0, 1024 * (c + 2 : Fin 4).val]) ∧ (k0_off3 c 3#32 = ![0, 1024 * (c + 3 : Fin 4).val]) := by revert c; decide

/-- The result after each of the four steps. -/
abbrev out1 (c : Dev nD) (X : Vec F S2048x1024 .bf16) (WQ WO : Vec F S4x1024x1024 .bf16) (KH VH : Vec F S2048x4096 .bf16) (O : Vec F S1x2048x1024 .f32) : Vec F S1x2048x1024 .f32 :=
  upTo (tile0 (fun t => tileV c 0 t X WQ WO (kvOf c KH) (kvOf c VH) biasV)) (dense0 (denseV c 0 X WQ WO (kvOf c KH) (kvOf c VH)) O) 8
abbrev out2 (c : Dev nD) (X : Vec F S2048x1024 .bf16) (WQ WO : Vec F S4x1024x1024 .bf16) (KH VH : Vec F S2048x4096 .bf16) (O : Vec F S1x2048x1024 .f32) : Vec F S1x2048x1024 .f32 :=
  upTo (tile1 (fun t => tileV (c + 1) 1 t X WQ WO (kvOf (c + 1) KH) (kvOf (c + 1) VH) biasV)) (dense1 (denseV (c + 1) 1 X WQ WO (kvOf (c + 1) KH) (kvOf (c + 1) VH)) (out1 c X WQ WO KH VH O)) 8
abbrev out3 (c : Dev nD) (X : Vec F S2048x1024 .bf16) (WQ WO : Vec F S4x1024x1024 .bf16) (KH VH : Vec F S2048x4096 .bf16) (O : Vec F S1x2048x1024 .f32) : Vec F S1x2048x1024 .f32 :=
  upTo (tile1 (fun t => tileV (c + 3) 0 t X WQ WO (kvOf (c + 3) KH) (kvOf (c + 3) VH) biasV)) (dense1 (denseV (c + 3) 0 X WQ WO (kvOf (c + 3) KH) (kvOf (c + 3) VH)) (out2 c X WQ WO KH VH O)) 8
abbrev out4 (c : Dev nD) (X : Vec F S2048x1024 .bf16) (WQ WO : Vec F S4x1024x1024 .bf16) (KH VH : Vec F S2048x4096 .bf16) (O : Vec F S1x2048x1024 .f32) : Vec F S1x2048x1024 .f32 :=
  upTo (tile1 (fun t => tileV (c + 2) 1 t X WQ WO (kvOf (c + 2) KH) (kvOf (c + 2) VH) biasV)) (dense1 (denseV (c + 2) 1 X WQ WO (kvOf (c + 2) KH) (kvOf (c + 2) VH)) (out3 c X WQ WO KH VH O)) 8

/-- The dense rows' value as the program reads its operands. -/
theorem denseR_eq (o : Fin 4) (p : Fin 2) (X : Vec F S2048x1024 .bf16) (WQ WO : Vec F S4x1024x1024 .bf16) (K V : Vec F S2x2048x1024 .bf16)
    {off : Fin 3 → ℕ} (ho : off = ![o.val, 0, 0]) (h) :
    denseCore (xM.view.readAt (Elt F) rX32.toLoadRect X) (qB.view.readAt (Elt F) (Rect.unit (s := S4x1024x1024) off S1x1024x1024.size h).toLoadRect WQ)
      (fun h => kB.view.readAt (Elt F) (rH p h).toLoadRect K) (fun h => vB.view.readAt (Elt F) (rH p h).toLoadRect V)
      (oB.view.readAt (Elt F) (Rect.unit (s := S4x1024x1024) off S1x1024x1024.size h).toLoadRect WO) = denseV o p X WQ WO K V := by
  subst ho; rfl

theorem off4 (c : Dev nD) : k0_off4 c 0#32 = ![(c : Fin 4).val, 0, 0] ∧ k0_off4 c 1#32 = ![(c + 1 : Fin 4).val, 0, 0]
    ∧ k0_off4 c 2#32 = ![(c + 2 : Fin 4).val, 0, 0] ∧ k0_off4 c 3#32 = ![(c + 3 : Fin 4).val, 0, 0] := by revert c; decide

/-- What is set aside. -/
def Held (P : sProp 𝕄) : sProp 𝕄 := P
theorem held_intro (P : sProp 𝕄) : P ⊢ Held P := .rfl
theorem held_elim (P : sProp 𝕄) : Held P ⊢ P := .rfl

/-- A program's run, then the rest's. -/
theorem run_then {α : Type} {P P' : sProp 𝕄} {c : Dev nD} {p : Prog (TpuEff nD τ sig (Elt F) Λ₀ .tc) PUnit} {k : PUnit → Prog (TpuEff nD τ sig (Elt F) Λ₀ .tc) α}
    {Q : α → sProp 𝕄} (h : P ⊢ wp frame (wpE (defs₀ (F := F)) 𝒱₀ (c : Thread nD τ) none) Set.univ p (fun _ => P')) :
    P ⊢ iprop((P' -∗ wp frame (wpE (defs₀ (F := F)) 𝒱₀ (c : Thread nD τ) none) Set.univ (k ⟨⟩) Q)
      -∗ wp frame (wpE (defs₀ (F := F)) 𝒱₀ (c : Thread nD τ) none) Set.univ (p >>= k) Q) := by
  rw [wp_bind]
  iintro HP Hk
  ihave H := h $$ HP
  iapply (wp_wand (Fr := frame) (wpE := wpE (defs₀ (F := F)) 𝒱₀ (c : Thread nD τ) none) (E := Set.univ)) $$ H
  iintro %a H
  iapply Hk
  iexact H

variable (WQ WO : Vec F S4x1024x1024 .bf16)

theorem d_bar (c : Dev nD) : (sched WQ WO).duties (cell c (.reg barS)) 0 = {1, 2, 3} := rfl
theorem d_ex (c : Dev nD) : (sched WQ WO).duties (cell c (.reg exS)) 0 = {1, 2, 3} := rfl
theorem a_ex (c : Dev nD) (d : Fin 4) : (sched WQ WO).amount (cell c (.reg exS)) 0 d = 1 := rfl
theorem e_ex (c : Dev nD) : (sched WQ WO).expect (cell c (.reg exS)) 0 = 3 := expect_reg WQ WO c exS
theorem d_sq (c : Dev nD) (d : Fin 4) : (sched WQ WO).duties (cell c (.dma (sqS d))) 0 = {d} := duties_of WQ WO c _ d (by revert d; decide)
theorem d_so (c : Dev nD) (d : Fin 4) : (sched WQ WO).duties (cell c (.dma (soS d))) 0 = {d} := duties_of WQ WO c _ d (by revert d; decide)
theorem d_rq (c : Dev nD) (d : Fin 4) : (sched WQ WO).duties (cell c (.dma (rqS d))) 0 = {d} := duties_of WQ WO c _ d (by revert d; decide)
theorem d_ro (c : Dev nD) (d : Fin 4) : (sched WQ WO).duties (cell c (.dma (roS d))) 0 = {d} := duties_of WQ WO c _ d (by revert d; decide)
theorem a_dma (c : Dev nD) (s : DmaSem sig) (d : Fin 4) : (sched WQ WO).amount (cell c (.dma s)) 0 d = N := rfl
theorem e_sq (c : Dev nD) (d : Fin 4) : (sched WQ WO).expect (cell c (.dma (sqS d))) 0 = N := expect_dma WQ WO c _ d (by revert d; decide)
theorem e_so (c : Dev nD) (d : Fin 4) : (sched WQ WO).expect (cell c (.dma (soS d))) 0 = N := expect_dma WQ WO c _ d (by revert d; decide)
theorem e_rq (c : Dev nD) (d : Fin 4) : (sched WQ WO).expect (cell c (.dma (rqS d))) 0 = N := expect_dma WQ WO c _ d (by revert d; decide)
theorem e_ro (c : Dev nD) (d : Fin 4) : (sched WQ WO).expect (cell c (.dma (roS d))) 0 = N := expect_dma WQ WO c _ d (by revert d; decide)
theorem a_bar (c : Dev nD) (d : Fin 4) : (sched WQ WO).amount (cell c (.reg barS)) 0 d = 1 := rfl
theorem e_bar (c : Dev nD) : (sched WQ WO).expect (cell c (.reg barS)) 0 = 3 := expect_reg WQ WO c barS
attribute [sl_rounds] d_bar a_bar pay_bar e_bar d_ex a_ex pay_ex e_ex d_sq d_so d_rq d_ro a_dma e_sq e_so e_rq e_ro pay_sq pay_so pay_rq pay_ro

/-- What the six copies of a device's own blocks need. -/
def sendCtx (κ : GSem nD τ sig → ℕ) (c : Dev nD) : sProp 𝕄 :=
  iprop(inv WQ WO κ c (.dma (sqS 1)) ∗ inv WQ WO κ c (.dma (sqS 2)) ∗ inv WQ WO κ c (.dma (sqS 3))
       ∗ inv WQ WO κ c (.dma (soS 1)) ∗ inv WQ WO κ c (.dma (soS 2)) ∗ inv WQ WO κ c (.dma (soS 3))
       ∗ inv WQ WO κ (c + 1) (.dma (rqS 3)) ∗ inv WQ WO κ (c + 2) (.dma (rqS 2)) ∗ inv WQ WO κ (c + 3) (.dma (rqS 1))
       ∗ inv WQ WO κ (c + 1) (.dma (roS 3)) ∗ inv WQ WO κ (c + 2) (.dma (roS 2)) ∗ inv WQ WO κ (c + 3) (.dma (roS 1))
       ∗ reached ER (cell c (.dma (sqS 1))) 0 ∗ reached ER (cell c (.dma (sqS 2))) 0 ∗ reached ER (cell c (.dma (sqS 3))) 0
       ∗ reached ER (cell c (.dma (soS 1))) 0 ∗ reached ER (cell c (.dma (soS 2))) 0 ∗ reached ER (cell c (.dma (soS 3))) 0
       ∗ dutyTok ER (cell c (.dma (sqS 1))) 0 1 ∗ dutyTok ER (cell c (.dma (sqS 2))) 0 2 ∗ dutyTok ER (cell c (.dma (sqS 3))) 0 3
       ∗ dutyTok ER (cell c (.dma (soS 1))) 0 1 ∗ dutyTok ER (cell c (.dma (soS 2))) 0 2 ∗ dutyTok ER (cell c (.dma (soS 3))) 0 3
       ∗ dutyTok ER (cell (c + 1) (.dma (rqS 3))) 0 3 ∗ dutyTok ER (cell (c + 2) (.dma (rqS 2))) 0 2 ∗ dutyTok ER (cell (c + 3) (.dma (rqS 1))) 0 1
       ∗ dutyTok ER (cell (c + 1) (.dma (roS 3))) 0 3 ∗ dutyTok ER (cell (c + 2) (.dma (roS 2))) 0 2 ∗ dutyTok ER (cell (c + 3) (.dma (roS 1))) 0 1)

/-- What the waits on the copies need. -/
def waitCtx (κ : GSem nD τ sig → ℕ) (c : Dev nD) : sProp 𝕄 :=
  iprop(inv WQ WO κ c (.dma (rqS 1)) ∗ inv WQ WO κ c (.dma (rqS 2)) ∗ inv WQ WO κ c (.dma (rqS 3))
    ∗ inv WQ WO κ c (.dma (roS 1)) ∗ inv WQ WO κ c (.dma (roS 2)) ∗ inv WQ WO κ c (.dma (roS 3))
    ∗ cred (tallyAt (cell c (.dma (rqS 1))) () N) ∗ cred (tallyAt (cell c (.dma (rqS 2))) () N) ∗ cred (tallyAt (cell c (.dma (rqS 3))) () N)
    ∗ cred (tallyAt (cell c (.dma (roS 1))) () N) ∗ cred (tallyAt (cell c (.dma (roS 2))) () N) ∗ cred (tallyAt (cell c (.dma (roS 3))) () N)
    ∗ atPos ER (cell c (.dma (rqS 1))) 0 ∅ 0 ∗ atPos ER (cell c (.dma (rqS 2))) 0 ∅ 0 ∗ atPos ER (cell c (.dma (rqS 3))) 0 ∅ 0
    ∗ atPos ER (cell c (.dma (roS 1))) 0 ∅ 0 ∗ atPos ER (cell c (.dma (roS 2))) 0 ∅ 0 ∗ atPos ER (cell c (.dma (roS 3))) 0 ∅ 0
    ∗ atPos ER (cell c (.dma (sqS 1))) 0 ∅ 0 ∗ atPos ER (cell c (.dma (sqS 2))) 0 ∅ 0 ∗ atPos ER (cell c (.dma (sqS 3))) 0 ∅ 0
    ∗ atPos ER (cell c (.dma (soS 1))) 0 ∅ 0 ∗ atPos ER (cell c (.dma (soS 2))) 0 ∅ 0 ∗ atPos ER (cell c (.dma (soS 3))) 0 ∅ 0)

/-- What the exit needs. -/
def exitCtx (κ : GSem nD τ sig → ℕ) (c : Dev nD) : sProp 𝕄 :=
  iprop(inv WQ WO κ c (.reg exS) ∗ inv WQ WO κ (c + 1) (.reg exS) ∗ inv WQ WO κ (c + 2) (.reg exS) ∗ inv WQ WO κ (c + 3) (.reg exS)
    ∗ dutyTok ER (cell (c + 1) (.reg exS)) 0 1 ∗ dutyTok ER (cell (c + 2) (.reg exS)) 0 2 ∗ dutyTok ER (cell (c + 3) (.reg exS)) 0 3
    ∗ cred (tallyAt (cell c (.reg exS)) () 3) ∗ atPos ER (cell c (.reg exS)) 0 ∅ 0)
end Cert.Attn
end
-- ==== Proof.Body.lean ====
module

public import proofs.«01_k».proof.Proof.Hold

/-!
The kernel on one device: from its share of the protocol to its result, with every counter back at zero.
-/

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev kv0 : DmaSem sig := (cc0_scratch9.slice (Rect.unit (s := S2) ![0] S1.size inb_S2_S1_0) |>.squeeze S_ squeezes_S1_S_).sem
abbrev kv1 : DmaSem sig := (cc0_scratch9.slice (Rect.unit (s := S2) ![1] S1.size inb_S2_S1_1) |>.squeeze S_ squeezes_S1_S_).sem
abbrev kv2 : DmaSem sig := (cc0_scratch10.slice (Rect.unit (s := S2) ![0] S1.size inb_S2_S1_0) |>.squeeze S_ squeezes_S1_S_).sem
abbrev kv3 : DmaSem sig := (cc0_scratch10.slice (Rect.unit (s := S2) ![1] S1.size inb_S2_S1_1) |>.squeeze S_ squeezes_S1_S_).sem

variable (WQ WO : Vec F S4x1024x1024 .bf16)

/-- The counters of the protocol, back in hand at zero. -/
def idle (c : Dev nD) : sProp 𝕄 :=
  iprop(semVal (cell c (.reg barS)) 0
    ∗ semVal (cell c (.reg exS)) 0
    ∗ semVal (cell c (.dma (sqS 1))) 0
    ∗ semVal (cell c (.dma (sqS 2))) 0
    ∗ semVal (cell c (.dma (sqS 3))) 0
    ∗ semVal (cell c (.dma (soS 1))) 0
    ∗ semVal (cell c (.dma (soS 2))) 0
    ∗ semVal (cell c (.dma (soS 3))) 0
    ∗ semVal (cell c (.dma (rqS 1))) 0
    ∗ semVal (cell c (.dma (rqS 2))) 0
    ∗ semVal (cell c (.dma (rqS 3))) 0
    ∗ semVal (cell c (.dma (roS 1))) 0
    ∗ semVal (cell c (.dma (roS 2))) 0
    ∗ semVal (cell c (.dma (roS 3))) 0)

/-- What the kernel leaves: its operands, the two weights gathered, the result after the four steps, nothing owed. -/
def bodyPost (WQ WO : Vec F S4x1024x1024 .bf16) (c : Dev nD) (wq wo : Vec F S1024x1024 .bf16) (KH VH : Vec F S2048x4096 .bf16)
    (X : Vec F S2048x1024 .bf16) (O : Vec F S1x2048x1024 .f32) : sProp 𝕄 :=
  iprop((xM.view.loc (c : Thread nD τ) ↦{fullShare} X) ∗ (qM.view.loc (c : Thread nD τ) ↦{fullShare} wq) ∗ (oM.view.loc (c : Thread nD τ) ↦{fullShare} wo)
    ∗ (outM.view.loc (c : Thread nD τ) ↦{fullShare} out4 c X WQ WO KH VH O)
    ∗ (kH.view.loc (c : Thread nD τ) ↦{fullShare.left} KH) ∗ (vH.view.loc (c : Thread nD τ) ↦{fullShare.left} VH)
    ∗ (kH.view.loc (c : Thread nD τ) ↦{fullShare.right} KH) ∗ (vH.view.loc (c : Thread nD τ) ↦{fullShare.right} VH)
    ∗ (qSl c c fullShare WQ ∗ qSl c (c + 1) fullShare WQ ∗ qSl c (c + 2) fullShare WQ ∗ qSl c (c + 3) fullShare WQ)
    ∗ (oSl c c fullShare WO ∗ oSl c (c + 1) fullShare WO ∗ oSl c (c + 2) fullShare WO ∗ oSl c (c + 3) fullShare WO)
    ∗ ((∃ f, kB.view.loc (c : Thread nD τ) ↦[kB.view.setOn (rKV 0).set]{fullShare} f) ∗ (∃ f, kB.view.loc (c : Thread nD τ) ↦[kB.view.setOn (rKV 1).set]{fullShare} f))
    ∗ ((∃ f, vB.view.loc (c : Thread nD τ) ↦[vB.view.setOn (rKV 0).set]{fullShare} f) ∗ (∃ f, vB.view.loc (c : Thread nD τ) ↦[vB.view.setOn (rKV 1).set]{fullShare} f))
    ∗ (∃ f, bM.view.loc (c : Thread nD τ) ↦{fullShare} f)
    ∗ (semVal (cell c (.dma kv0)) 0 ∗ semVal (cell c (.dma kv1)) 0 ∗ semVal (cell c (.dma kv2)) 0 ∗ semVal (cell c (.dma kv3)) 0)
    ∗ idle c ∗ ∃ W, owes (c : Thread nD τ) 0 W)

/-- A cell whose one round is over gives its counter back. -/
theorem closed (κ : GSem nD τ sig → ℕ) (c : Dev nD) (s : SemLoc sig) :
    iprop(inv WQ WO κ c s ∗ atPos ER (cell c s) 1 ∅ 0) ⊢ (|={Set.univ}=> semVal (cell c s) 0 : sProp 𝕄) :=
  Rounds.cell_close ER (sched WQ WO) (Set.mem_univ _) id (duties_later WQ WO (cell c s))

set_option maxHeartbeats 4000000 in
/-- A run of the kernel on one device. -/
theorem body_run (κ : GSem nD τ sig → ℕ) (c : Dev nD) (W : Waits sig Unit) (f1 g1 : Vec F S4x1024x1024 .bf16)
  (wq wo : Vec F S1024x1024 .bf16) (K V : Vec F S2x2048x1024 .bf16) (KH VH : Vec F S2048x4096 .bf16) (B : Vec F S2048x640 .bf16)
  (X : Vec F S2048x1024 .bf16) (O : Vec F S1x2048x1024 .f32)
  (hq : qB.view.readAt (Elt F) (rW c).toLoadRect WQ = k0_pay85 (qM.view.readAt (Elt F) (Rect.unit (s := S1024x1024) ![0, 0] S1024x1024.size inb_S1024x1024_S1024x1024_0_0).toLoadRect wq)) (ho : oB.view.readAt (Elt F) (rW c).toLoadRect WO = k0_pay86 (oM.view.readAt (Elt F) (Rect.unit (s := S1024x1024) ![0, 0] S1024x1024.size inb_S1024x1024_S1024x1024_0_0).toLoadRect wo)) :
    iprop(inv WQ WO κ (c+1) (.reg barS) ∗ inv WQ WO κ (c+2) (.reg barS) ∗ inv WQ WO κ (c+3) (.reg barS) ∗ inv WQ WO κ c (.reg barS) ∗
       reached ER (cell (c+1) (.reg barS)) 0 ∗ reached ER (cell (c+2) (.reg barS)) 0 ∗ reached ER (cell (c+3) (.reg barS)) 0
       ∗ dutyTok ER (cell (c+1) (.reg barS)) 0 1 ∗ dutyTok ER (cell (c+2) (.reg barS)) 0 2 ∗ dutyTok ER (cell (c+3) (.reg barS)) 0 3
       ∗ barPay (c+1) 1 ∗ barPay (c+2) 2 ∗ barPay (c+3) 3
       ∗ levAts L lv ∗ atPos ER (cell c (.reg barS)) 0 ∅ 0 ∗ cred (tallyAt (cell c (.reg barS)) () 3)
       ∗ qSl c c fullShare f1 ∗ oSl c c fullShare g1
       ∗ (qM.view.loc (c : Thread nD τ) ↦{fullShare} wq) ∗ (oM.view.loc (c : Thread nD τ) ↦{fullShare} wo)
       ∗ (kB.view.loc (c : Thread nD τ) ↦[kB.view.setOn (rKV 0).set]{fullShare} K) ∗ (kB.view.loc (c : Thread nD τ) ↦[kB.view.setOn (rKV 1).set]{fullShare} K)
       ∗ (vB.view.loc (c : Thread nD τ) ↦[vB.view.setOn (rKV 0).set]{fullShare} V) ∗ (vB.view.loc (c : Thread nD τ) ↦[vB.view.setOn (rKV 1).set]{fullShare} V)
       ∗ (kH.view.loc (c : Thread nD τ) ↦{fullShare.left} KH) ∗ (vH.view.loc (c : Thread nD τ) ↦{fullShare.left} VH)
       ∗ (kH.view.loc (c : Thread nD τ) ↦{fullShare.right} KH) ∗ (vH.view.loc (c : Thread nD τ) ↦{fullShare.right} VH)
       ∗ (bM.view.loc (c : Thread nD τ) ↦{fullShare} B)
       ∗ semVal ((c : Thread nD τ), .dma (cc0_scratch9.slice (Rect.unit (s := S2) ![0] S1.size inb_S2_S1_0) |>.squeeze S_ squeezes_S1_S_).sem) 0
       ∗ semVal ((c : Thread nD τ), .dma (cc0_scratch9.slice (Rect.unit (s := S2) ![1] S1.size inb_S2_S1_1) |>.squeeze S_ squeezes_S1_S_).sem) 0
       ∗ semVal ((c : Thread nD τ), .dma (cc0_scratch10.slice (Rect.unit (s := S2) ![0] S1.size inb_S2_S1_0) |>.squeeze S_ squeezes_S1_S_).sem) 0
       ∗ semVal ((c : Thread nD τ), .dma (cc0_scratch10.slice (Rect.unit (s := S2) ![1] S1.size inb_S2_S1_1) |>.squeeze S_ squeezes_S1_S_).sem) 0
       ∗ sendCtx WQ WO κ c ∗ waitCtx WQ WO κ c ∗ exitCtx WQ WO κ c
       ∗ (xM.view.loc (c : Thread nD τ) ↦{fullShare} X) ∗ (outM.view.loc (c : Thread nD τ) ↦{fullShare} O)
       ∗ owes (c : Thread nD τ) (owe c) W)
    ⊢ wp frame (wpE (defs₀ (F := F)) 𝒱₀ (c : Thread nD τ) none) Set.univ
       (cc0_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0)
       (fun r => bodyPost WQ WO c wq wo KH VH X O) := by
  rw [cc0_body_eq_skeleton]
  conv in (cc0_body_skel ..) => simp only [cc0_body_skel]
  unfold owe
  have h1 := dv1 c
  have h2 := dv2 c
  have h3 := dv3 c
  have hmw := mayWait (F := F) c (.reg barS) (oweC c) (above_C c)
  iintro ⟨#I1, #I2, #I3, #I0, #R1, #R2, #R3, T1, T2, T3, P1, P2, P3, #Hlev, HatB, HcB, Hq, Ho, Hwq, Hwo, Hk0, Hk1, Hv0, Hv1, HkH, HvH, HkH', HvH', Hb,
    Sk0, Sk1, Sv0, Sv1, HS, HW, HE, Hx, Hout, HO⟩
  sl_exec
  ihave HP : iprop(barPay c 1 ∗ barPay c 2 ∗ barPay c 3) $$ [HatB_pay1]
  · iexact HatB_pay1
  ihave HO : iprop(∃ W', owes (c : Thread nD τ) (oweC c) W') $$ [HO]
  · iexists _; iexact HO
  icases HO with ⟨%W1, HO⟩
  clear h1 h2 h3 hmw
  unfold oweC barPay sendCtx
  icases HS with ⟨#J1, #J2, #J3, #J4, #J5, #J6, #J7, #J8, #J9, #J10, #J11, #J12, #Rs1, #Rs2, #Rs3, #Rs4, #Rs5, #Rs6,
    Tq1, Tq2, Tq3, To1, To2, To3, Uq1, Uq2, Uq3, Uo1, Uo2, Uo3⟩
  rw [sub1, sub2, sub3]
  icases HP with ⟨⟨⟨%q3, Hq3⟩, ⟨%o3, Ho3⟩, #Rq3, #Ro3, #Re3⟩, ⟨⟨%q2, Hq2⟩, ⟨%o2, Ho2⟩, #Rq2, #Ro2, #Re2⟩, ⟨%q1, Hq1⟩, ⟨%o1, Ho1⟩, #Rq1, #Ro1, #Re1⟩
  ihave Hq := ((Entails.of_eq (stored_q c WQ f1 _ (off1 c) _ hq)).trans quarters.1) $$ Hq
  icases Hq with ⟨Hqs1, Hqs2, Hqs3, Hqs0⟩
  ihave Ho := ((Entails.of_eq (stored_o c WO g1 _ (off1 c) _ ho)).trans quarters.1) $$ Ho
  icases Ho with ⟨Hos1, Hos2, Hos3, Hos0⟩
  iapply (send WQ WO κ qB c (c + 1) _ 1 3 (dv4 c) (sqS 1) (rqS 3) (by decide) (by decide) WQ (pay_sq WQ WO c 1 1)
     ((pay_rq WQ WO (c + 1) 3 3).trans (by rw [add13])) rfl rfl (off2 c) (off2 c) credit_qB q1 _ _) $$ [Hqs1 Hq1 Tq1 Uq1 HO]
  · isplitr; · iexact J1
    isplitr; · iexact J7
    isplitl [Hqs1]; · iexact Hqs1
    isplitl [Hq1]; · iexact Hq1
    isplitl [HO]; · iexact HO
    isplitl [Tq1]; · iexact Tq1
    isplitr; · iexact Rs1
    isplitl [Uq1]; · iexact Uq1
    iexact Rq1
  iintro ⟨Cq1, HO⟩
  sl_exec
  iapply (send WQ WO κ oB c (c + 1) _ 1 3 (dv5 c) (soS 1) (roS 3) (by decide) (by decide) WO (pay_so WQ WO c 1 1)
     ((pay_ro WQ WO (c + 1) 3 3).trans (by rw [add13])) rfl rfl (off2 c) (off2 c) credit_oB o1 _ _) $$ [Hos1 Ho1 To1 Uo1 HO]
  · isplitr; · iexact J4
    isplitr; · iexact J10
    isplitl [Hos1]; · iexact Hos1
    isplitl [Ho1]; · iexact Ho1
    isplitl [HO]; · iexact HO
    isplitl [To1]; · iexact To1
    isplitr; · iexact Rs4
    isplitl [Uo1]; · iexact Uo1
    iexact Ro1
  iintro ⟨Co1, HO⟩
  sl_exec
  iapply (send WQ WO κ qB c (c + 2) _ 2 2 (dv6 c) (sqS 2) (rqS 2) (by decide) (by decide) WQ (pay_sq WQ WO c 2 2)
     ((pay_rq WQ WO (c + 2) 2 2).trans (by rw [add22])) rfl rfl (off2 c) (off2 c) credit_qB q2 _ _) $$ [Hqs2 Hq2 Tq2 Uq2 HO]
  · isplitr; · iexact J2
    isplitr; · iexact J8
    isplitl [Hqs2]; · iexact Hqs2
    isplitl [Hq2]; · iexact Hq2
    isplitl [HO]; · iexact HO
    isplitl [Tq2]; · iexact Tq2
    isplitr; · iexact Rs2
    isplitl [Uq2]; · iexact Uq2
    iexact Rq2
  iintro ⟨Cq2, HO⟩
  sl_exec
  iapply (send WQ WO κ oB c (c + 2) _ 2 2 (dv7 c) (soS 2) (roS 2) (by decide) (by decide) WO (pay_so WQ WO c 2 2)
     ((pay_ro WQ WO (c + 2) 2 2).trans (by rw [add22])) rfl rfl (off2 c) (off2 c) credit_oB o2 _ _) $$ [Hos2 Ho2 To2 Uo2 HO]
  · isplitr; · iexact J5
    isplitr; · iexact J11
    isplitl [Hos2]; · iexact Hos2
    isplitl [Ho2]; · iexact Ho2
    isplitl [HO]; · iexact HO
    isplitl [To2]; · iexact To2
    isplitr; · iexact Rs5
    isplitl [Uo2]; · iexact Uo2
    iexact Ro2
  iintro ⟨Co2, HO⟩
  sl_exec
  iapply (send WQ WO κ qB c (c + 3) _ 3 1 (dv8 c) (sqS 3) (rqS 1) (by decide) (by decide) WQ (pay_sq WQ WO c 3 3)
     ((pay_rq WQ WO (c + 3) 1 1).trans (by rw [add31])) rfl rfl (off2 c) (off2 c) credit_qB q3 _ _) $$ [Hqs3 Hq3 Tq3 Uq3 HO]
  · isplitr; · iexact J3
    isplitr; · iexact J9
    isplitl [Hqs3]; · iexact Hqs3
    isplitl [Hq3]; · iexact Hq3
    isplitl [HO]; · iexact HO
    isplitl [Tq3]; · iexact Tq3
    isplitr; · iexact Rs3
    isplitl [Uq3]; · iexact Uq3
    iexact Rq3
  iintro ⟨Cq3, HO⟩
  sl_exec
  iapply (send WQ WO κ oB c (c + 3) _ 3 1 (dv9 c) (soS 3) (roS 1) (by decide) (by decide) WO (pay_so WQ WO c 3 3)
     ((pay_ro WQ WO (c + 3) 1 1).trans (by rw [add31])) rfl rfl (off2 c) (off2 c) credit_oB o3 _ _) $$ [Hos3 Ho3 To3 Uo3 HO]
  · isplitr; · iexact J6
    isplitr; · iexact J12
    isplitl [Hos3]; · iexact Hos3
    isplitl [Ho3]; · iexact Ho3
    isplitl [HO]; · iexact HO
    isplitl [To3]; · iexact To3
    isplitr; · iexact Rs6
    isplitl [Uo3]; · iexact Uo3
    iexact Ro3
  iintro ⟨Co3, HO⟩
  sl_exec
  have hmd : ∀ s : DmaSem sig, (levAts L lv : sProp 𝕄) ⊢ MayWait (c : Thread nD τ) (.dma s) () (oweE c) :=
    fun s => mayWait c (.dma s) (oweE c) (above_mono (by unfold lvOf; dsimp only; split <;> decide) (above_E c))
  ihave Hx := (held_intro _) $$ Hx
  sl_exec
  ihave Hx := (held_elim _) $$ Hx
  ihave Hk0 : iprop(kB.view.loc (c : Thread nD τ) ↦[kB.view.setOn (rKV 0).set]{fullShare} landing kB kH 0 (k0_off3 c 0#32) (k0_off3_inb c 0) K KH) $$ [Hk0]
  · iexact Hk0
  ihave Hk0 := (Entails.of_eq (landed kB kH c 0 c fullShare (kvOf c KH) K KH (off3 c).1 _ (fun _ => rfl))) $$ Hk0
  ihave Hv0 : iprop(vB.view.loc (c : Thread nD τ) ↦[vB.view.setOn (rKV 0).set]{fullShare} landing vB vH 0 (k0_off3 c 0#32) (k0_off3_inb c 0) V VH) $$ [Hv0]
  · iexact Hv0
  ihave Hv0 := (Entails.of_eq (landed vB vH c 0 c fullShare (kvOf c VH) V VH (off3 c).1 _ (fun _ => rfl))) $$ Hv0
  sl_exec
  ihave Hb : iprop(bM.view.loc (c : Thread nD τ) ↦{fullShare} biasV) $$ [Hb]
  · iexact Hb
  ihave Hout : iprop(outM.view.loc (c : Thread nD τ) ↦{fullShare} dense0 (denseV c 0 X WQ WO (kvOf c KH) (kvOf c VH)) O) $$ [Hout]
  · rw [← denseR_eq c 0 X WQ WO (kvOf c KH) (kvOf c VH) (off4 c).1 (k0_off4_inb c 0)]
    iexact Hout
  iapply (run_then (loop1 c (sh 0) X WQ WO (kvOf c KH) (kvOf c VH) biasV (dense0 (denseV c 0 X WQ WO (kvOf c KH) (kvOf c VH)) O) 0#32 _
    (constant _ _ 0) (constant _ _ 0) (constant _ _ 0) (constant _ _ 0) (constant _ _ 0) (constant _ _ 0) (constant _ _ 0) (constant _ _ 0) (constant _ .bf16 0))) $$ [Hx Hqs0 Hos0 Hk0 Hv0 Hb Hout]
  · isplitl [Hx]; · iexact Hx
    isplitl [Hqs0]; · iexact Hqs0
    isplitl [Hos0]; · iexact Hos0
    isplitl [Hk0]; · iexact Hk0
    isplitl [Hv0]; · iexact Hv0
    isplitl [Hb]; · iexact Hb
    iexact Hout
  iintro ⟨Hx, Hqs0, Hos0, Hk0, Hv0, Hb, Hout⟩
  ihave Hx := (held_intro _) $$ Hx
  unfold waitCtx
  icases HW with ⟨#Iq1, #Iq2, #Iq3, #Io1, #Io2, #Io3, Kq1, Kq2, Kq3, Ko1, Ko2, Ko3, Aq1, Aq2, Aq3, Ao1, Ao2, Ao3, Bq1, Bq2, Bq3, Bo1, Bo2, Bo3⟩
  sl_exec
  ihave Hx := (held_elim _) $$ Hx
  ihave Hk1 : iprop(kB.view.loc (c : Thread nD τ) ↦[kB.view.setOn (rKV 1).set]{fullShare} landing kB kH 1 (k0_off3 c 1#32) (k0_off3_inb c 1) K KH) $$ [Hk1]
  · iexact Hk1
  ihave Hk1 := (Entails.of_eq (landed kB kH c 1 (c + 1) fullShare (kvOf (c + 1) KH) K KH (off3 c).2.1 _ (fun _ => rfl))) $$ Hk1
  ihave Hv1 : iprop(vB.view.loc (c : Thread nD τ) ↦[vB.view.setOn (rKV 1).set]{fullShare} landing vB vH 1 (k0_off3 c 1#32) (k0_off3_inb c 1) V VH) $$ [Hv1]
  · iexact Hv1
  ihave Hv1 := (Entails.of_eq (landed vB vH c 1 (c + 1) fullShare (kvOf (c + 1) VH) V VH (off3 c).2.1 _ (fun _ => rfl))) $$ Hv1
  ihave Gq1 : iprop(qSl c (c + 1) fullShare WQ) $$ [Aq1_pay1]
  · iexact Aq1_pay1
  ihave Go1 : iprop(oSl c (c + 1) fullShare WO) $$ [Ao1_pay1]
  · iexact Ao1_pay1
  sl_exec
  ihave Hout : iprop(outM.view.loc (c : Thread nD τ) ↦{fullShare} dense1 (denseV (c + 1) 1 X WQ WO (kvOf (c + 1) KH) (kvOf (c + 1) VH)) (out1 c X WQ WO KH VH O)) $$ [Hout]
  · rw [← denseR_eq (c + 1) 1 X WQ WO (kvOf (c + 1) KH) (kvOf (c + 1) VH) (off4 c).2.1 (k0_off4_inb c 1)]
    iexact Hout
  iapply (run_then (loop2 c fullShare X WQ WO (kvOf (c + 1) KH) (kvOf (c + 1) VH) biasV (dense1 (denseV (c + 1) 1 X WQ WO (kvOf (c + 1) KH) (kvOf (c + 1) VH)) (out1 c X WQ WO KH VH O)) 0#32 _)) $$ [Hx Gq1 Go1 Hk1 Hv1 Hb Hout]
  · isplitl [Hx]; · iexact Hx
    isplitl [Gq1]; · iexact Gq1
    isplitl [Go1]; · iexact Go1
    isplitl [Hk1]; · iexact Hk1
    isplitl [Hv1]; · iexact Hv1
    isplitl [Hb]; · iexact Hb
    iexact Hout
  iintro ⟨Hx, Gq1, Go1, Hk1, Hv1, Hb, Hout⟩
  ihave Hx := (held_intro _) $$ Hx
  sl_exec
  ihave Hx := (held_elim _) $$ Hx
  ihave Hk0 : iprop(kB.view.loc (c : Thread nD τ) ↦[kB.view.setOn (rKV 0).set]{fullShare} landing kB kH 0 (k0_off3 c 3#32) (k0_off3_inb c 3) (kvOf c KH) KH) $$ [Hk0]
  · iexact Hk0
  ihave Hk0 := (Entails.of_eq (landed kB kH c 0 (c + 3) fullShare (kvOf (c + 3) KH) (kvOf c KH) KH (off3 c).2.2.2 _ (fun _ => rfl))) $$ Hk0
  ihave Hv0 : iprop(vB.view.loc (c : Thread nD τ) ↦[vB.view.setOn (rKV 0).set]{fullShare} landing vB vH 0 (k0_off3 c 3#32) (k0_off3_inb c 3) (kvOf c VH) VH) $$ [Hv0]
  · iexact Hv0
  ihave Hv0 := (Entails.of_eq (landed vB vH c 0 (c + 3) fullShare (kvOf (c + 3) VH) (kvOf c VH) VH (off3 c).2.2.2 _ (fun _ => rfl))) $$ Hv0
  ihave Gq3 : iprop(qSl c (c + 3) fullShare WQ) $$ [Aq3_pay1]
  · iexact Aq3_pay1
  ihave Go3 : iprop(oSl c (c + 3) fullShare WO) $$ [Ao3_pay1]
  · iexact Ao3_pay1
  sl_exec
  ihave Hout : iprop(outM.view.loc (c : Thread nD τ) ↦{fullShare} dense1 (denseV (c + 3) 0 X WQ WO (kvOf (c + 3) KH) (kvOf (c + 3) VH)) (out2 c X WQ WO KH VH O)) $$ [Hout]
  · rw [← denseR_eq (c + 3) 0 X WQ WO (kvOf (c + 3) KH) (kvOf (c + 3) VH) (off4 c).2.2.2 (k0_off4_inb c 3)]
    iexact Hout
  iapply (run_then (loop3 c fullShare X WQ WO (kvOf (c + 3) KH) (kvOf (c + 3) VH) biasV (dense1 (denseV (c + 3) 0 X WQ WO (kvOf (c + 3) KH) (kvOf (c + 3) VH)) (out2 c X WQ WO KH VH O)) 0#32 _ (constant _ _ 0) (constant _ _ 0) (constant _ _ 0) (constant _ _ 0) (constant _ _ 0) (constant _ _ 0) (constant _ _ 0) (constant _ _ 0))) $$ [Hx Gq3 Go3 Hk0 Hv0 Hb Hout]
  · isplitl [Hx]; · iexact Hx
    isplitl [Gq3]; · iexact Gq3
    isplitl [Go3]; · iexact Go3
    isplitl [Hk0]; · iexact Hk0
    isplitl [Hv0]; · iexact Hv0
    isplitl [Hb]; · iexact Hb
    iexact Hout
  iintro ⟨Hx, Gq3, Go3, Hk0, Hv0, Hb, Hout⟩
  ihave Hx := (held_intro _) $$ Hx
  sl_exec
  ihave Hx := (held_elim _) $$ Hx
  ihave Hk1 : iprop(kB.view.loc (c : Thread nD τ) ↦[kB.view.setOn (rKV 1).set]{fullShare} landing kB kH 1 (k0_off3 c 2#32) (k0_off3_inb c 2) (kvOf (c + 1) KH) KH) $$ [Hk1]
  · iexact Hk1
  ihave Hk1 := (Entails.of_eq (landed kB kH c 1 (c + 2) fullShare (kvOf (c + 2) KH) (kvOf (c + 1) KH) KH (off3 c).2.2.1 _ (fun _ => rfl))) $$ Hk1
  ihave Hv1 : iprop(vB.view.loc (c : Thread nD τ) ↦[vB.view.setOn (rKV 1).set]{fullShare} landing vB vH 1 (k0_off3 c 2#32) (k0_off3_inb c 2) (kvOf (c + 1) VH) VH) $$ [Hv1]
  · iexact Hv1
  ihave Hv1 := (Entails.of_eq (landed vB vH c 1 (c + 2) fullShare (kvOf (c + 2) VH) (kvOf (c + 1) VH) VH (off3 c).2.2.1 _ (fun _ => rfl))) $$ Hv1
  ihave Gq2 : iprop(qSl c (c + 2) fullShare WQ) $$ [Aq2_pay1]
  · iexact Aq2_pay1
  ihave Go2 : iprop(oSl c (c + 2) fullShare WO) $$ [Ao2_pay1]
  · iexact Ao2_pay1
  sl_exec
  ihave Hout : iprop(outM.view.loc (c : Thread nD τ) ↦{fullShare} dense1 (denseV (c + 2) 1 X WQ WO (kvOf (c + 2) KH) (kvOf (c + 2) VH)) (out3 c X WQ WO KH VH O)) $$ [Hout]
  · rw [← denseR_eq (c + 2) 1 X WQ WO (kvOf (c + 2) KH) (kvOf (c + 2) VH) (off4 c).2.2.1 (k0_off4_inb c 2)]
    iexact Hout
  iapply (run_then (loop4 c fullShare X WQ WO (kvOf (c + 2) KH) (kvOf (c + 2) VH) biasV (dense1 (denseV (c + 2) 1 X WQ WO (kvOf (c + 2) KH) (kvOf (c + 2) VH)) (out3 c X WQ WO KH VH O)) _ (constant _ _ 0) (constant _ .f32 0))) $$ [Hx Gq2 Go2 Hk1 Hv1 Hb Hout]
  · isplitl [Hx]; · iexact Hx
    isplitl [Gq2]; · iexact Gq2
    isplitl [Go2]; · iexact Go2
    isplitl [Hk1]; · iexact Hk1
    isplitl [Hv1]; · iexact Hv1
    isplitl [Hb]; · iexact Hb
    iexact Hout
  iintro ⟨Hx, Gq2, Go2, Hk1, Hv1, Hb, Hout⟩
  sl_exec
  ihave HO : iprop(∃ W', owes (c : Thread nD τ) (oweE c) W') $$ [HO]
  · iexists _; iexact HO
  icases HO with ⟨%W2, HO⟩
  unfold oweE exitCtx
  icases HE with ⟨#Ie0, #Ie1, #Ie2, #Ie3, Te1, Te2, Te3, Ke, Ae⟩
  have h10 := dv10 c
  have h11 := dv11 c
  have h12 := dv12 c
  sl_exec
  rw [wp_ret]
  ihave Bq1' : iprop(qSl c c (sh 1) WQ) $$ [Bq1_pay1]
  · iexact Bq1_pay1
  ihave Bq2' : iprop(qSl c c (sh 2) WQ) $$ [Bq2_pay1]
  · iexact Bq2_pay1
  ihave Bq3' : iprop(qSl c c (sh 3) WQ) $$ [Bq3_pay1]
  · iexact Bq3_pay1
  ihave Gq0 : iprop(qSl c c fullShare WQ) $$ [Bq1' Bq2' Bq3' Hqs0]
  · iapply quarters.2
    isplitl [Bq1']; · iexact Bq1'
    isplitl [Bq2']; · iexact Bq2'
    isplitl [Bq3']; · iexact Bq3'
    iexact Hqs0
  ihave Bo1' : iprop(oSl c c (sh 1) WO) $$ [Bo1_pay1]
  · iexact Bo1_pay1
  ihave Bo2' : iprop(oSl c c (sh 2) WO) $$ [Bo2_pay1]
  · iexact Bo2_pay1
  ihave Bo3' : iprop(oSl c c (sh 3) WO) $$ [Bo3_pay1]
  · iexact Bo3_pay1
  ihave Go0 : iprop(oSl c c fullShare WO) $$ [Bo1' Bo2' Bo3' Hos0]
  · iapply quarters.2
    isplitl [Bo1']; · iexact Bo1'
    isplitl [Bo2']; · iexact Bo2'
    isplitl [Bo3']; · iexact Bo3'
    iexact Hos0
  imod (closed WQ WO κ c (.reg barS)) $$ [HatB] with S0
  · isplitr; · iexact I0
    iexact HatB
  imod (closed WQ WO κ c (.reg exS)) $$ [Ae] with S1
  · isplitr; · iexact Ie0
    iexact Ae
  imod (closed WQ WO κ c (.dma (sqS 1))) $$ [Bq1] with S2
  · isplitr; · iexact J1
    iexact Bq1
  imod (closed WQ WO κ c (.dma (sqS 2))) $$ [Bq2] with S3
  · isplitr; · iexact J2
    iexact Bq2
  imod (closed WQ WO κ c (.dma (sqS 3))) $$ [Bq3] with S4
  · isplitr; · iexact J3
    iexact Bq3
  imod (closed WQ WO κ c (.dma (soS 1))) $$ [Bo1] with S5
  · isplitr; · iexact J4
    iexact Bo1
  imod (closed WQ WO κ c (.dma (soS 2))) $$ [Bo2] with S6
  · isplitr; · iexact J5
    iexact Bo2
  imod (closed WQ WO κ c (.dma (soS 3))) $$ [Bo3] with S7
  · isplitr; · iexact J6
    iexact Bo3
  imod (closed WQ WO κ c (.dma (rqS 1))) $$ [Aq1] with S8
  · isplitr; · iexact Iq1
    iexact Aq1
  imod (closed WQ WO κ c (.dma (rqS 2))) $$ [Aq2] with S9
  · isplitr; · iexact Iq2
    iexact Aq2
  imod (closed WQ WO κ c (.dma (rqS 3))) $$ [Aq3] with S10
  · isplitr; · iexact Iq3
    iexact Aq3
  imod (closed WQ WO κ c (.dma (roS 1))) $$ [Ao1] with S11
  · isplitr; · iexact Io1
    iexact Ao1
  imod (closed WQ WO κ c (.dma (roS 2))) $$ [Ao2] with S12
  · isplitr; · iexact Io2
    iexact Ao2
  imod (closed WQ WO κ c (.dma (roS 3))) $$ [Ao3] with S13
  · isplitr; · iexact Io3
    iexact Ao3
  imodintro
  unfold bodyPost idle
  isplitl [Hx]; · iexact Hx
  isplitl [Hwq]; · iexact Hwq
  isplitl [Hwo]; · iexact Hwo
  isplitl [Hout]; · iexact Hout
  isplitl [HkH]; · iexact HkH
  isplitl [HvH]; · iexact HvH
  isplitl [HkH']; · iexact HkH'
  isplitl [HvH']; · iexact HvH'
  isplitl [Gq0 Gq1 Gq2 Gq3]
  · isplitl [Gq0]; · iexact Gq0
    isplitl [Gq1]; · iexact Gq1
    isplitl [Gq2]; · iexact Gq2
    iexact Gq3
  isplitl [Go0 Go1 Go2 Go3]
  · isplitl [Go0]; · iexact Go0
    isplitl [Go1]; · iexact Go1
    isplitl [Go2]; · iexact Go2
    iexact Go3
  isplitl [Hk0 Hk1]
  · isplitl [Hk0]; · iexists _; iexact Hk0
    iexists _; iexact Hk1
  isplitl [Hv0 Hv1]
  · isplitl [Hv0]; · iexists _; iexact Hv0
    iexists _; iexact Hv1
  isplitl [Hb]; · iexists _; iexact Hb
  isplitl [Sk0 Sk1 Sv0 Sv1]
  · isplitl [Sk0]; · iexact Sk0
    isplitl [Sk1]; · iexact Sk1
    isplitl [Sv0]; · iexact Sv0
    iexact Sv1
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  iexists _; iexact HO
end Cert.Attn
end
-- ==== Proof.Room.lean ====
/-
The scratch buffers cut into the blocks that the kernel holds apart, and joined again.
-/
module

public import proofs.«01_k».proof.Proof.Body
public import Idealize.ShloMosaic.Lib.Ring

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem w_mem (o : Fin 4) (i : S4x1024x1024.Idx) : i ∈ (rW o).set ↔ (i 0).val = o.val := by
  rw [Rect.mem_set_unit]
  constructor
  · intro h; have h0 := h 0
    have a : o.val ≤ (i 0).val := h0.1
    have b : (i 0).val < o.val + 1 := h0.2
    omega
  · intro h a
    have h1 : (i 1).val < 1024 := (i 1).isLt
    have h2 : (i 2).val < 1024 := (i 2).isLt
    fin_cases a
    · exact ⟨le_of_eq h.symm, show (i 0).val < o.val + 1 by omega⟩
    · exact ⟨Nat.zero_le _, show (i 1).val < 0 + 1024 by omega⟩
    · exact ⟨Nat.zero_le _, show (i 2).val < 0 + 1024 by omega⟩

theorem kv_mem (p : Fin 2) (i : S2x2048x1024.Idx) : i ∈ (rKV p).set ↔ (i 0).val = p.val := by
  rw [Rect.mem_set_unit]
  constructor
  · intro h; have h0 := h 0
    have a : p.val ≤ (i 0).val := h0.1
    have b : (i 0).val < p.val + 1 := h0.2
    omega
  · intro h a
    have h1 : (i 1).val < 2048 := (i 1).isLt
    have h2 : (i 2).val < 1024 := (i 2).isLt
    fin_cases a
    · exact ⟨le_of_eq h.symm, show (i 0).val < p.val + 1 by omega⟩
    · exact ⟨Nat.zero_le _, show (i 1).val < 0 + 2048 by omega⟩
    · exact ⟨Nat.zero_le _, show (i 2).val < 0 + 1024 by omega⟩

theorem w_disj (o o' : Fin 4) (h : o ≠ o') : Disjoint (rW o).set (rW o').set := by
  rw [Finset.disjoint_left]; intro i hi hi'
  exact h (Fin.ext (((w_mem o i).mp hi).symm.trans ((w_mem o' i).mp hi')))
theorem kv_disj (p p' : Fin 2) (h : p ≠ p') : Disjoint (rKV p).set (rKV p').set := by
  rw [Finset.disjoint_left]; intro i hi hi'
  exact h (Fin.ext (((kv_mem p i).mp hi).symm.trans ((kv_mem p' i).mp hi')))

/-- What the blocks of a whole buffer cover. -/
theorem covers {s : Shape} {e : EltTy} {n : ℕ} (v : View sig .tc .vmem s e) (hv : v.setOn Finset.univ = Finset.univ) (I : Fin n → Finset s.Idx)
    (hI : ∀ i, ∃ o, i ∈ I o) : Finset.univ.biUnion (fun o => v.setOn (I o)) = Finset.univ := by
  refine Finset.eq_univ_iff_forall.mpr fun i => ?_
  have hi : i ∈ v.setOn Finset.univ := by rw [hv]; exact Finset.mem_univ i
  obtain ⟨x, -, rfl⟩ := Finset.mem_map.mp hi
  obtain ⟨o, ho⟩ := hI x
  exact Finset.mem_biUnion.mpr ⟨o, Finset.mem_univ _, Finset.mem_map_of_mem _ ho⟩
theorem w_cover (i : S4x1024x1024.Idx) : ∃ o, i ∈ (rW o).set := ⟨i 0, (w_mem (i 0) i).mpr rfl⟩
theorem kv_cover (i : S2x2048x1024.Idx) : ∃ p, i ∈ (rKV p).set := ⟨i 0, (kv_mem (i 0) i).mpr rfl⟩

/-- Four things indexed by the devices, in their order from one of them. -/
theorem around (c : Dev nD) (Φ : Fin 4 → sProp 𝕄) :
    bigSep Finset.univ Φ = iprop(Φ c ∗ Φ (c + 1) ∗ Φ (c + 2) ∗ Φ (c + 3)) := by
  rw [bigSep_univ_equiv (Equiv.addLeft (c : Fin 4)) Φ,
    bigSep_univ_eq_bigSepL [(0 : Fin 4), 1, 2, 3] (by decide) (by decide)]
  show iprop(Φ (c + 0) ∗ Φ (c + 1) ∗ Φ (c + 2) ∗ Φ (c + 3)) = _
  rw [add_zero]
theorem pair (Φ : Fin 2 → sProp 𝕄) : bigSep Finset.univ Φ = iprop(Φ 0 ∗ Φ 1) :=
  bigSep_univ_eq_bigSepL [(0 : Fin 2), 1] (by decide) (by decide) Φ

theorem q_blocks (c : Dev nD) (f : Vec F S4x1024x1024 .bf16) :
    ((qB.view.loc (c : Thread nD τ) ↦{fullShare} f) : sProp 𝕄)
      = iprop(qSl c c fullShare f ∗ qSl c (c + 1) fullShare f ∗ qSl c (c + 2) fullShare f ∗ qSl c (c + 3) fullShare f) :=
  (Ring.pointsTo_blocks (ℓ := qB.view.loc (c : Thread nD τ)) (fun o : Fin 4 => qB.view.setOn (rW o).set) (fun _ _ h => View.disjoint_setOn qB.view (w_disj _ _ h)) (covers qB.view (View.setOn_whole_univ _) _ w_cover) f).trans (around c _)
theorem o_blocks (c : Dev nD) (f : Vec F S4x1024x1024 .bf16) :
    ((oB.view.loc (c : Thread nD τ) ↦{fullShare} f) : sProp 𝕄)
      = iprop(oSl c c fullShare f ∗ oSl c (c + 1) fullShare f ∗ oSl c (c + 2) fullShare f ∗ oSl c (c + 3) fullShare f) :=
  (Ring.pointsTo_blocks (ℓ := oB.view.loc (c : Thread nD τ)) (fun o : Fin 4 => oB.view.setOn (rW o).set) (fun _ _ h => View.disjoint_setOn oB.view (w_disj _ _ h)) (covers oB.view (View.setOn_whole_univ _) _ w_cover) f).trans (around c _)
theorem k_blocks (c : Dev nD) (f : Vec F S2x2048x1024 .bf16) :
    ((kB.view.loc (c : Thread nD τ) ↦{fullShare} f) : sProp 𝕄)
      = iprop((kB.view.loc (c : Thread nD τ) ↦[kB.view.setOn (rKV 0).set]{fullShare} f) ∗ (kB.view.loc (c : Thread nD τ) ↦[kB.view.setOn (rKV 1).set]{fullShare} f)) :=
  (Ring.pointsTo_blocks (ℓ := kB.view.loc (c : Thread nD τ)) (fun p : Fin 2 => kB.view.setOn (rKV p).set) (fun _ _ h => View.disjoint_setOn kB.view (kv_disj _ _ h)) (covers kB.view (View.setOn_whole_univ _) _ kv_cover) f).trans (pair _)
theorem v_blocks (c : Dev nD) (f : Vec F S2x2048x1024 .bf16) :
    ((vB.view.loc (c : Thread nD τ) ↦{fullShare} f) : sProp 𝕄)
      = iprop((vB.view.loc (c : Thread nD τ) ↦[vB.view.setOn (rKV 0).set]{fullShare} f) ∗ (vB.view.loc (c : Thread nD τ) ↦[vB.view.setOn (rKV 1).set]{fullShare} f)) :=
  (Ring.pointsTo_blocks (ℓ := vB.view.loc (c : Thread nD τ)) (fun p : Fin 2 => vB.view.setOn (rKV p).set) (fun _ _ h => View.disjoint_setOn vB.view (kv_disj _ _ h)) (covers vB.view (View.setOn_whole_univ _) _ kv_cover) f).trans (pair _)

theorem k_join (c : Dev nD) (f₀ : Vec F S2x2048x1024 .bf16) :
    iprop((∃ f, kB.view.loc (c : Thread nD τ) ↦[kB.view.setOn (rKV 0).set]{fullShare} f) ∗ (∃ f, kB.view.loc (c : Thread nD τ) ↦[kB.view.setOn (rKV 1).set]{fullShare} f))
      ⊢ (iprop(∃ f, kB.view.loc (c : Thread nD τ) ↦{fullShare} f) : sProp 𝕄) :=
  (Entails.of_eq (pair (fun p : Fin 2 => iprop(∃ f, kB.view.loc (c : Thread nD τ) ↦[kB.view.setOn (rKV p).set]{fullShare} f))).symm).trans
    (Ring.pointsTo_blocks_join_exists (ℓ := kB.view.loc (c : Thread nD τ)) (fun p : Fin 2 => kB.view.setOn (rKV p).set) (fun _ _ h => View.disjoint_setOn kB.view (kv_disj _ _ h)) (covers kB.view (View.setOn_whole_univ _) _ kv_cover) f₀)
theorem v_join (c : Dev nD) (f₀ : Vec F S2x2048x1024 .bf16) :
    iprop((∃ f, vB.view.loc (c : Thread nD τ) ↦[vB.view.setOn (rKV 0).set]{fullShare} f) ∗ (∃ f, vB.view.loc (c : Thread nD τ) ↦[vB.view.setOn (rKV 1).set]{fullShare} f))
      ⊢ (iprop(∃ f, vB.view.loc (c : Thread nD τ) ↦{fullShare} f) : sProp 𝕄) :=
  (Entails.of_eq (pair (fun p : Fin 2 => iprop(∃ f, vB.view.loc (c : Thread nD τ) ↦[vB.view.setOn (rKV p).set]{fullShare} f))).symm).trans
    (Ring.pointsTo_blocks_join_exists (ℓ := vB.view.loc (c : Thread nD τ)) (fun p : Fin 2 => vB.view.setOn (rKV p).set) (fun _ _ h => View.disjoint_setOn vB.view (kv_disj _ _ h)) (covers vB.view (View.setOn_whole_univ _) _ kv_cover) f₀)

/-- What a device hands over at the barrier: the room for the others' blocks. -/
theorem lend (c : Dev nD) (k : Fin 4) (f g : Vec F S4x1024x1024 .bf16) :
    iprop(qSl c (c + k) fullShare f ∗ oSl c (c + k) fullShare g ∗ reached ER (cell c (.dma (rqS k))) 0 ∗ reached ER (cell c (.dma (roS k))) 0
      ∗ reached ER (cell c (.reg exS)) 0) ⊢ (barPay (c + k) k : sProp 𝕄) := by
  have e : c + k - k = c := by revert c k; decide
  unfold barPay
  rw [e]
  iintro ⟨Hq, Ho, H1, H2, H3⟩
  isplitl [Hq]; · iexists f; iexact Hq
  isplitl [Ho]; · iexists g; iexact Ho
  isplitl [H1]; · iexact H1
  isplitl [H2]; · iexact H2
  iexact H3

end Cert.Attn
end
-- ==== Proof.Deal.lean ====
/-
The launch of the protocol: which counters it uses, the cells made ready, and every device's share dealt to it.
-/
module

public import proofs.«01_k».proof.Proof.Hold
public import Idealize.ShloMosaic.Lib.Pipeline.Regions

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The counters -/

/-- The counters that the kernel uses beside its staging's: first those of the protocol, then those of its own copies, then four that
    no copy raises. -/
def osem (k : Fin 21) : SemLoc sig :=
  ([.reg exS, .dma (sqS 1), .dma (sqS 2), .dma (sqS 3), .dma (soS 1), .dma (soS 2), .dma (soS 3), .dma (rqS 1), .dma (rqS 2), .dma (rqS 3), .dma (roS 1), .dma (roS 2), .dma (roS 3), .dma ⟨20, by decide⟩, .dma ⟨21, by decide⟩, .dma ⟨22, by decide⟩, .dma ⟨23, by decide⟩, .dma ⟨4, by decide⟩, .dma ⟨8, by decide⟩, .dma ⟨12, by decide⟩, .dma ⟨16, by decide⟩] : List (SemLoc sig)).get k
theorem osem_facts : Pipeline.OwnSemFacts spec0 osem := by decide
theorem osem_inj : Function.Injective osem := by decide
/-- The protocol's. -/
abbrev sc (k : Fin 13) : SemLoc sig := osem ⟨k.val, by have := k.isLt; omega⟩
theorem sc_inj : Function.Injective sc := by decide
theorem sc_ne_bar : ∀ k : Fin 13, sc k ≠ .reg barS := by decide

def barEmb : Dev nD ↪ GSem nD τ sig := ⟨fun c => cell c (.reg barS), fun _ _ h => congrArg (fun g : GSem nD τ sig => g.1.1) h⟩
def scEmb : Dev nD × Fin 13 ↪ GSem nD τ sig :=
  ⟨fun ck => cell ck.1 (sc ck.2), fun _ _ h =>
    Prod.ext (congrArg (fun g : GSem nD τ sig => g.1.1) h) (sc_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact sc_ne_bar ck.2 (congrArg Prod.snd h)
theorem bar_mem (c : Dev nD) : cell c (.reg barS) ∈ (barCells ∪ scCells : Finset (GSem nD τ sig)) :=
  Finset.mem_union_left _ (Finset.mem_map_of_mem barEmb (Finset.mem_univ c))
theorem sc_mem (c : Dev nD) (k : Fin 13) : cell c (sc k) ∈ (barCells ∪ scCells : Finset (GSem nD τ sig)) :=
  Finset.mem_union_right _ (Finset.mem_map_of_mem scEmb (Finset.mem_univ (c, k)))

/-! ## The units -/

/-- The units of the protocol at one device's counters: the counter, the unit's name, and how many devices further the counter of the
    unit that a device itself pays lies. -/
def tS (k : Fin 18) : SemLoc sig :=
  ([.reg barS, .reg barS, .reg barS, .reg exS, .reg exS, .reg exS, .dma (sqS 1), .dma (sqS 2), .dma (sqS 3), .dma (soS 1), .dma (soS 2), .dma (soS 3), .dma (rqS 3), .dma (rqS 2), .dma (rqS 1), .dma (roS 3), .dma (roS 2), .dma (roS 1)] : List (SemLoc sig)).get k
def tD (k : Fin 18) : Fin 4 :=
  ([1, 2, 3, 1, 2, 3, 1, 2, 3, 1, 2, 3, 3, 2, 1, 3, 2, 1] : List (Fin 4)).get k
def tK (k : Fin 18) : Fin 4 :=
  ([1, 2, 3, 1, 2, 3, 0, 0, 0, 0, 0, 0, 1, 2, 3, 1, 2, 3] : List (Fin 4)).get k
theorem t_inj : Function.Injective (fun k : Fin 18 => (tS k, tD k)) := by decide

def toks : Finset (GSem nD τ sig × ℕ × Fin 4) :=
  Finset.univ.map ⟨fun ck : Dev nD × Fin 18 => (cell ck.1 (tS ck.2), 0, tD ck.2), fun _ _ h =>
    Prod.ext (congrArg (fun t : GSem nD τ sig × ℕ × Fin 4 => t.1.1.1) h)
      (t_inj (Prod.ext (congrArg (fun t : GSem nD τ sig × ℕ × Fin 4 => t.1.2) h) (congrArg (fun t : GSem nD τ sig × ℕ × Fin 4 => t.2.2) h)))⟩

/-- The units that a device pays. -/
def paid (c : Dev nD) : sProp 𝕄 := bigSep Finset.univ fun k : Fin 18 => dutyTok ER (cell (c + tK k) (tS k)) 0 (tD k)

/-- Every unit, handed to the device that pays it. -/
theorem toks_dealt : bigSep toks (fun x => (dutyTok ER x.1 x.2.1 x.2.2 : sProp 𝕄)) = bigSep Finset.univ fun c : Dev nD => paid c := by
  unfold toks paid
  rw [bigSep_map, bigSep_univ_prod, BI.bigSep_univ_comm, BI.bigSep_univ_comm]
  refine Eq.trans ?_ (BI.bigSep_univ_comm _).symm
  refine (BI.bigSep_univ_comm _).trans (bigSep_congr fun k _ => ?_)
  exact bigSep_univ_equiv (Equiv.addRight (tK k : Fin 4)) (fun c : Dev nD => (dutyTok ER (cell c (tS k)) 0 (tD k) : sProp 𝕄))

/-! ## What the devices may draw -/

/-- The counters that a device waits on with units of the others, and how many. -/
def crS : Fin 8 → SemLoc sig
  | 0 => .reg barS | 1 => .reg exS | 2 => .dma (rqS 1) | 3 => .dma (rqS 2) | 4 => .dma (rqS 3) | 5 => .dma (roS 1) | 6 => .dma (roS 2) | 7 => .dma (roS 3)
def crU : Fin 8 → ℕ
  | 0 => 3 | 1 => 3 | _ => 0
def crV : Fin 8 → ℕ
  | 0 => 0 | 1 => 0 | _ => 1
theorem crS_inj : Function.Injective crS := by decide

/-- The units that device `d` owes a counter of device `c`: the single ones, -/
def uOf (d c : Fin 4) (s : SemLoc sig) : ℕ :=
  (if c = d + 3 ∧ s = .reg exS then 1 else 0) + (if c = d + 2 ∧ s = .reg exS then 1 else 0) + (if c = d + 1 ∧ s = .reg exS then 1 else 0)
    + (if c = d + 3 ∧ s = .reg barS then 1 else 0) + (if c = d + 2 ∧ s = .reg barS then 1 else 0) + (if c = d + 1 ∧ s = .reg barS then 1 else 0)
/-- and those of whole blocks. -/
def vOf (d c : Fin 4) (s : SemLoc sig) : ℕ :=
  (if c = d + 3 ∧ s = .dma (roS 1) then 1 else 0) + (if c = d + 3 ∧ s = .dma (rqS 1) then 1 else 0)
    + (if c = d + 2 ∧ s = .dma (roS 2) then 1 else 0) + (if c = d + 2 ∧ s = .dma (rqS 2) then 1 else 0)
    + (if c = d + 1 ∧ s = .dma (roS 3) then 1 else 0) + (if c = d + 1 ∧ s = .dma (rqS 3) then 1 else 0)

theorem ow_at (d c : Dev nD) (s s' : SemLoc sig) (n : ℕ) : ow d s' n (cell c s) () = (if c = d ∧ s = s' then 1 else 0) * n := by
  rw [tallyAt_apply]
  by_cases h : c = d ∧ s = s'
  · obtain ⟨rfl, rfl⟩ := h
    rw [if_pos ⟨rfl, rfl⟩, if_pos ⟨rfl, rfl⟩, one_mul]
  · rw [if_neg h, zero_mul, if_neg]
    rintro ⟨h1, -⟩
    exact h ⟨congrArg (fun g : GSem nD τ sig => g.1.1) h1, congrArg Prod.snd h1⟩

theorem owe_at (d c : Dev nD) (s : SemLoc sig) : owe d (cell c s) () = uOf d c s + vOf d c s * N := by
  unfold owe oweC oweE
  simp only [Pi.add_apply, Finsupp.add_apply, ow_at]
  unfold uOf vOf
  ring

theorem draw_sum : ∀ (c : Fin 4) (k : Fin 8), (∑ d : Fin 4, uOf d c (crS k)) = crU k ∧ (∑ d : Fin 4, vOf d c (crS k)) = crV k := by decide

theorem launch_at (c : Dev nD) (k : Fin 8) :
    tallyOn (cell c (crS k)) (launchCredit (Pipeline.owing owe) 0 (cell c (crS k))) = (tallyAt (cell c (crS k)) () (crU k + crV k * N) : CellTallies nD τ sig Unit) := by
  unfold tallyAt; refine congrArg _ (Finsupp.ext fun u => ?_); cases u
  rw [Pipeline.launchCredit_owing, Finsupp.single_eq_same, Finset.sum_congr rfl fun d _ => owe_at d c (crS k), Finset.sum_add_distrib, ← Finset.sum_mul]
  rw [show (∑ d : Dev nD, uOf d c (crS k)) = crU k from (draw_sum c k).1, show (∑ d : Dev nD, vOf d c (crS k)) = crV k from (draw_sum c k).2]

/-- What a device may draw on its own counters. -/
def draws (c : Dev nD) : sProp 𝕄 := bigSep Finset.univ fun k : Fin 8 => cred (tallyAt (cell c (crS k)) () (crU k + crV k * N))

theorem draws_intro (c : Dev nD) : (Pipeline.launchCred owe c : sProp 𝕄) ⊢ draws c := by
  unfold Pipeline.launchCred draws
  have h : (bigSep Finset.univ fun sm : SemLoc sig => (cred (tallyOn (cell c sm) (launchCredit (Pipeline.owing owe) 0 (cell c sm))) : sProp 𝕄))
      ⊢ bigSep (Finset.univ.map ⟨crS, crS_inj⟩) fun sm : SemLoc sig => cred (tallyOn (cell c sm) (launchCredit (Pipeline.owing owe) 0 (cell c sm))) :=
    bigSep_subset (Finset.subset_univ _)
  rw [bigSep_map] at h
  refine h.trans (Entails.of_eq ?_)
  exact bigSep_congr fun k _ => congrArg (fun t : CellTallies nD τ sig Unit => (cred t : sProp 𝕄)) (launch_at c k)

/-! ## The shares -/

variable (WQ WO : Vec F S4x1024x1024 .bf16)

/-- What every device may consult. -/
def records (κ : GSem nD τ sig → ℕ) : sProp 𝕄 :=
  iprop((bigSep (barCells ∪ scCells) fun g => cellInv ER (sched WQ WO) (κ g) g) ∗ bigSep barCells fun g => reached ER g 0)
instance records_persistent (κ : GSem nD τ sig → ℕ) : BI.Persistent (records WQ WO κ) := by unfold records; infer_instance

theorem inv_at (κ : GSem nD τ sig → ℕ) {g : GSem nD τ sig} (hg : g ∈ (barCells ∪ scCells : Finset (GSem nD τ sig))) :
    (bigSep (barCells ∪ scCells) fun g => (cellInv ER (sched WQ WO) (κ g) g : sProp 𝕄)) ⊢ cellInv ER (sched WQ WO) (κ g) g :=
  bigSep_elim hg
theorem reached_at (c : Dev nD) : (bigSep barCells fun g => (reached ER g 0 : sProp 𝕄)) ⊢ reached ER (cell c (.reg barS)) 0 :=
  bigSep_elim (Finset.mem_map_of_mem barEmb (Finset.mem_univ c))
theorem inv_bar (κ : GSem nD τ sig → ℕ) (c : Dev nD) : records WQ WO κ ⊢ inv WQ WO κ c (.reg barS) := by
  unfold records; iintro ⟨H, -⟩; iapply (inv_at WQ WO κ (bar_mem c)); iexact H
theorem inv_sc (κ : GSem nD τ sig → ℕ) (c : Dev nD) (k : Fin 13) : records WQ WO κ ⊢ inv WQ WO κ c (sc k) := by
  unfold records; iintro ⟨H, -⟩; iapply (inv_at WQ WO κ (sc_mem c k)); iexact H
theorem reached_bar (κ : GSem nD τ sig → ℕ) (c : Dev nD) : records WQ WO κ ⊢ reached ER (cell c (.reg barS)) 0 := by
  unfold records; iintro ⟨-, H⟩; iapply (reached_at (F := F) c); iexact H

/-- Two families as one. -/
theorem family {I : Type} [Fintype I] {Φ Ψ : I → sProp 𝕄} :
    iprop(bigSep Finset.univ Φ ∗ bigSep Finset.univ Ψ) ⊢ bigSep Finset.univ (fun c => iprop(Φ c ∗ Ψ c)) :=
  Entails.of_eq (bigSep_sep _ _ _).symm
/-- One family as two. -/
theorem families {I : Type} [Fintype I] {Φ Ψ : I → sProp 𝕄} :
    bigSep Finset.univ (fun c => iprop(Φ c ∗ Ψ c)) ⊢ iprop(bigSep Finset.univ Φ ∗ bigSep Finset.univ Ψ) :=
  Entails.of_eq (bigSep_sep _ _ _)

/-- A device's share at launch: its place at the barrier, the rights to open its other cells, the units it pays, -/
def share0 (c : Dev nD) : sProp 𝕄 :=
  iprop(atPos ER (cell c (.reg barS)) 0 ∅ 0 ∗ (bigSep Finset.univ fun k : Fin 13 => openTok ER (cell c (sc k))) ∗ paid c)
/-- and once the cells are open. -/
def share1 (c : Dev nD) : sProp 𝕄 :=
  iprop(atPos ER (cell c (.reg barS)) 0 ∅ 0 ∗ (bigSep Finset.univ fun k : Fin 13 => iprop(atPos ER (cell c (sc k)) 0 ∅ 0 ∗ reached ER (cell c (sc k)) 0)) ∗ paid c)

theorem open_cells (κ : GSem nD τ sig → ℕ) (c : Dev nD) :
    iprop(records WQ WO κ ∗ share0 c ∗ bigSep Finset.univ fun k : Fin 13 => semVal (cell c (sc k)) 0) ⊢ (|={Set.univ}=> share1 c : sProp 𝕄) := by
  have one (k : Fin 13) : iprop(records WQ WO κ ∗ (openTok ER (cell c (sc k)) ∗ semVal (cell c (sc k)) 0))
      ⊢ (|={Set.univ}=> iprop(atPos ER (cell c (sc k)) 0 ∅ 0 ∗ reached ER (cell c (sc k)) 0) : sProp 𝕄) := by
    iintro ⟨#HR, Ho, Hs⟩
    ihave HI := (inv_sc WQ WO κ c k) $$ HR
    imod (Rounds.cell_open ER (sched WQ WO) (g := cell c (sc k)) (Set.mem_univ (κ (cell c (sc k))))) $$ [HI Ho Hs] with ⟨Hat, Hr⟩
    · isplitl [HI]; · iexact HI
      isplitl [Ho] <;> iassumption
    imodintro
    isplitl [Hat] <;> iassumption
  unfold share0 share1
  iintro ⟨#HR, ⟨Hb, Ho, Hp⟩, Hs⟩
  ihave Hos := family $$ [Ho Hs]
  · isplitl [Ho]; · iexact Ho
    iexact Hs
  ihave H := (bigSep_with_persistent (R := records WQ WO κ) (Ψ := fun k : Fin 13 => iprop(|={Set.univ}=> iprop(atPos ER (cell c (sc k)) 0 ∅ 0 ∗ reached ER (cell c (sc k)) 0))) (fun k _ => one k)) $$ [Hos]
  · isplitr; · iexact HR
    iexact Hos
  imod (bigSep_fupd (Finset.univ : Finset (Fin 13)) (fun k => iprop(atPos ER (cell c (sc k)) 0 ∅ 0 ∗ reached ER (cell c (sc k)) 0))) $$ H with H
  imodintro
  isplitl [Hb]; · iexact Hb
  isplitl [H]; · iexact H
  iexact Hp

/-- The cells made ready and the shares dealt. -/
theorem deal : iprop((bigSep Finset.univ fun c : Dev nD => semVal (cell c (.reg barS)) 0) ∗ BI.own (ER (launchOf barCells scCells toks)))
    ⊢ (|={Set.univ}=> ∃ κ : GSem nD τ sig → ℕ, records WQ WO κ ∗ bigSep Finset.univ fun c : Dev nD => share0 c : sProp 𝕄) := by
  have hv : bigSep Finset.univ (fun c : Dev nD => (semVal (cell c (.reg barS)) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c (.reg barS)) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 13 => openTok ER (cell c (sc k))) :=
    Entails.of_eq (by rw [bigSep_map, bigSep_univ_prod]; rfl)
  iintro ⟨Hv, Hu⟩
  imod (Rounds.fund_launch ER (sched WQ WO) disjoint_cells (fun g _ h => h) toks) $$ [Hv Hu] with ⟨%κ, -, #Hinv, #Hr, Hat, Hopen, Htok⟩
  · isplitl [Hv]
    · iapply hv $$ Hv
    · iexact Hu
  imodintro
  iexists κ
  isplitr
  · unfold records
    isplitr; · iexact Hinv
    iexact Hr
  unfold share0
  iapply family; isplitl [Hat]; · iapply hat $$ Hat
  iapply family; isplitl [Hopen]; · iapply hop $$ Hopen
  iapply (Entails.of_eq (toks_dealt (F := F))) $$ Htok

end Cert.Attn
end
-- ==== Proof.Out.lean ====
/-
The result of the four steps at an element: a step stores in, or adds to, every row what the row's tile (or the dense rows) holds
there, so the result does not depend on what the buffer held before.
-/
module

public import proofs.«01_k».proof.Proof.Hold
public import Idealize.ShloMosaic.Lib.Pipeline.Value

@[expose] public section

set_option maxRecDepth 16384

noncomputable section

namespace Cert.Attn

open Cert.KernelIdeal Cert.KernelIdeal.Gen
open Idealize.ShloMosaic

variable {F : FTy → Type} [FloatOps F] [Named F]

/-- An index of a matrix. -/
abbrev at2 {n m : ℕ} (r : Fin n) (j : Fin m) : (⟨2, ![n, m]⟩ : Shape).Idx := fun | 0 => r | 1 => j

/-- A row of the result inside its tile, -/
def tileRow (i : S1x2048x1024.Idx) : S256x1024.Idx := at2 (n := 256) (m := 1024) ⟨(i 1).val % 256, Nat.mod_lt _ (by decide)⟩ (i 2)
/-- its tile, -/
def tileNo (i : S1x2048x1024.Idx) : Fin 8 := ⟨(i 1).val / 256, by have h : (i 1).val < 2048 := (i 1).isLt; omega⟩
/-- and a dense row of the result among the dense rows. -/
def denseRow (i : S1x2048x1024.Idx) : S32x1024.Idx := at2 (n := 32) (m := 1024) ⟨(i 1).val % 32, Nat.mod_lt _ (by decide)⟩ (i 2)

/-- What one step stores or adds at each element. -/
def stepV (D : FVec F S32x1024 .f32) (T : Fin 8 → FVec F S256x1024 .f32) : Vec F S1x2048x1024 .f32 := fun i =>
  if (i 1).val < 32 then D (denseRow i) else T (tileNo i) (tileRow i)

/-- A store at an element that its rows hold, and at one that they do not. -/
theorem write_hit (O : Vec F S1x2048x1024 .f32) {off size : Fin 3 → ℕ} (h : ∀ a, off a + size a ≤ S1x2048x1024.size a)
    (w : (Rect.unit (s := S1x2048x1024) off size h).shape.Idx → Elt F .f32) (i : S1x2048x1024.Idx)
    (x : (Rect.unit (s := S1x2048x1024) off size h).shape.Idx) (hx : ∀ a, (i a).val = off a + (x a).val) :
    outM.view.writes (Elt F) O [⟨Rect.unit (s := S1x2048x1024) off size h, w⟩] i = w x :=
  outM.view.read_writes_cons_hit_of_coords O (Rect.unit (s := S1x2048x1024) off size h) w [] x i
    (fun a => by rw [hx a]; exact congrArg (off a + ·) (Nat.one_mul _).symm)
theorem write_miss (O : Vec F S1x2048x1024 .f32) {off size : Fin 3 → ℕ} (h : ∀ a, off a + size a ≤ S1x2048x1024.size a)
    (w : (Rect.unit (s := S1x2048x1024) off size h).shape.Idx → Elt F .f32) (i : S1x2048x1024.Idx)
    (hx : (i 1).val < off 1 ∨ off 1 + size 1 ≤ (i 1).val) :
    outM.view.writes (Elt F) O [⟨Rect.unit (s := S1x2048x1024) off size h, w⟩] i = O i :=
  outM.view.read_writes_cons_miss_of_axis O ⟨Rect.unit (s := S1x2048x1024) off size h, w⟩ [] i 1 (off 1) (size 1) rfl rfl rfl hx

/-- A read at an element of its rows. -/
theorem read_at (O : Vec F S1x2048x1024 .f32) {off size : Fin 3 → ℕ} (h : ∀ a, off a + size a ≤ S1x2048x1024.size a)
    (i : S1x2048x1024.Idx) (x : (Rect.unit (s := S1x2048x1024) off size h).shape.Idx) (hx : ∀ a, (i a).val = off a + (x a).val) :
    outM.view.readAt (Elt F) (Rect.unit (s := S1x2048x1024) off size h).toLoadRect O x = O i := by
  show O _ = O i
  refine congrArg O (funext fun a => Fin.ext ?_)
  rw [hx a]; exact congrArg (off a + ·) (Nat.one_mul _)

/-- The index of a block under a unit axis. -/
abbrev under {n m : ℕ} (r : Fin n) (j : Fin m) : (⟨3, ![1, n, m]⟩ : Shape).Idx := fun | 0 => (0 : Fin 1) | 1 => r | 2 => j

theorem cast_up {α : Type} {n m : ℕ} (v : (⟨2, ![n, m]⟩ : Shape).Idx → α) (h : (⟨2, ![n, m]⟩ : Shape).ShapeCasts ⟨3, ![1, n, m]⟩) (r : Fin n) (j : Fin m) :
    shapeCast ⟨3, ![1, n, m]⟩ v h (under r j) = v (at2 r j) :=
  (shapeCast_addUnit_apply ![n, m] v h _).trans (congrArg v (funext fun a => by fin_cases a <;> rfl))
theorem cast_down {α : Type} {n m : ℕ} (v : (⟨3, ![1, n, m]⟩ : Shape).Idx → α) (h : (⟨3, ![1, n, m]⟩ : Shape).ShapeCasts ⟨2, ![n, m]⟩) (r : Fin n) (j : Fin m) :
    shapeCast ⟨2, ![n, m]⟩ v h (at2 r j) = v (under r j) :=
  (shapeCast_dropUnit_apply ![n, m] v h _).trans (congrArg v (funext fun a => by fin_cases a <;> rfl))

theorem first_coord (i : S1x2048x1024.Idx) : (i 0).val = 0 := by have h : (i 0).val < 1 := (i 0).isLt; omega

/-- A tile of the first step stored, at an element; -/
theorem tile0_apply (T : Fin 8 → FVec F S256x1024 .f32) (t : Fin 8) (O : Vec F S1x2048x1024 .f32) (i : S1x2048x1024.Idx) :
    tile0 T t O i = if (i 1).val / 256 = t.val ∧ 32 ≤ (i 1).val then T (tileNo i) (tileRow i) else O i := by
  have hi0 := first_coord i
  have hi : (i 1).val < 2048 := (i 1).isLt
  unfold tile0
  by_cases h : (i 1).val / 256 = t.val ∧ 32 ≤ (i 1).val
  · rw [if_pos h]
    obtain ⟨h1, h2⟩ := h
    have et : tileNo i = t := Fin.ext h1
    rw [et]
    by_cases h0 : t.val = 0
    · have hc : ∀ a, (i a).val = (![0, 32, 0] : Fin 3 → ℕ) a + ((under (n := 224) (m := 1024) ⟨(i 1).val - 32, by omega⟩ (i 2)) a).val := by
        intro a; fin_cases a <;> simp [under] <;> omega
      rw [if_pos h0]
      refine (write_hit O (off := ![0, 32, 0]) (size := S1x224x1024.size) _ _ i (under (n := 224) (m := 1024) ⟨(i 1).val - 32, by omega⟩ (i 2)) hc).trans ?_
      refine (cast_up (n := 224) (m := 1024) _ _ _ _).trans ?_
      exact extractStridedSlice_apply _ _ _ _ _ (fun a => by fin_cases a <;> simp [tileRow] <;> omega)
    · have hc : ∀ a, (i a).val = (![0, 256 * t.val, 0] : Fin 3 → ℕ) a + ((under (n := 256) (m := 1024) ⟨(i 1).val % 256, by omega⟩ (i 2)) a).val := by
        intro a; fin_cases a <;> simp [under] <;> omega
      rw [if_neg h0]
      refine (write_hit O (off := ![0, 256 * t.val, 0]) (size := S1x256x1024.size) _ _ i (under (n := 256) (m := 1024) ⟨(i 1).val % 256, by omega⟩ (i 2)) hc).trans ?_
      refine (cast_up (n := 256) (m := 1024) _ _ _ _).trans ?_
      rfl
  · rw [if_neg h]
    by_cases h0 : t.val = 0
    · rw [if_pos h0]; exact write_miss O (off := ![0, 32, 0]) (size := S1x224x1024.size) _ _ i (by simp [S1x224x1024]; omega)
    · rw [if_neg h0]; exact write_miss O (off := ![0, 256 * t.val, 0]) (size := S1x256x1024.size) _ _ i (by simp [S1x256x1024]; omega)
/-- and a tile of a later step added. -/
theorem tile1_apply (T : Fin 8 → FVec F S256x1024 .f32) (t : Fin 8) (O : Vec F S1x2048x1024 .f32) (i : S1x2048x1024.Idx) :
    tile1 T t O i = if (i 1).val / 256 = t.val ∧ 32 ≤ (i 1).val then addf O (fun i => T (tileNo i) (tileRow i)) i else O i := by
  have hi0 := first_coord i
  have hi : (i 1).val < 2048 := (i 1).isLt
  unfold tile1
  by_cases h : (i 1).val / 256 = t.val ∧ 32 ≤ (i 1).val
  · rw [if_pos h]
    obtain ⟨h1, h2⟩ := h
    have et : tileNo i = t := Fin.ext h1
    by_cases h0 : t.val = 0
    · have hc : ∀ a, (i a).val = (![0, 32, 0] : Fin 3 → ℕ) a + ((under (n := 224) (m := 1024) ⟨(i 1).val - 32, by omega⟩ (i 2)) a).val := by
        intro a; fin_cases a <;> simp [under] <;> omega
      rw [if_pos h0]
      refine (write_hit O (off := ![0, 32, 0]) (size := S1x224x1024.size) _ _ i (under (n := 224) (m := 1024) ⟨(i 1).val - 32, by omega⟩ (i 2)) hc).trans ?_
      refine (cast_up (n := 224) (m := 1024) _ _ _ _).trans ?_
      refine congrArg₂ FloatOps.addf ((cast_down (n := 224) (m := 1024) _ _ _ _).trans (read_at O _ i _ hc)) ?_
      show _ = T (tileNo i) (tileRow i)
      rw [et]
      exact extractStridedSlice_apply _ _ _ _ _ (fun a => by fin_cases a <;> simp [tileRow] <;> omega)
    · have hc : ∀ a, (i a).val = (![0, 256 * t.val, 0] : Fin 3 → ℕ) a + ((under (n := 256) (m := 1024) ⟨(i 1).val % 256, by omega⟩ (i 2)) a).val := by
        intro a; fin_cases a <;> simp [under] <;> omega
      rw [if_neg h0]
      refine (write_hit O (off := ![0, 256 * t.val, 0]) (size := S1x256x1024.size) _ _ i (under (n := 256) (m := 1024) ⟨(i 1).val % 256, by omega⟩ (i 2)) hc).trans ?_
      refine (cast_up (n := 256) (m := 1024) _ _ _ _).trans ?_
      refine congrArg₂ FloatOps.addf ((cast_down (n := 256) (m := 1024) _ _ _ _).trans (read_at O _ i _ hc)) ?_
      show _ = T (tileNo i) (tileRow i)
      rw [et]; rfl
  · rw [if_neg h]
    by_cases h0 : t.val = 0
    · rw [if_pos h0]; exact write_miss O (off := ![0, 32, 0]) (size := S1x224x1024.size) _ _ i (by simp [S1x224x1024]; omega)
    · rw [if_neg h0]; exact write_miss O (off := ![0, 256 * t.val, 0]) (size := S1x256x1024.size) _ _ i (by simp [S1x256x1024]; omega)

/-- The dense rows of the first step stored, at an element; -/
theorem dense0_apply (D : FVec F S32x1024 .f32) (O : Vec F S1x2048x1024 .f32) (i : S1x2048x1024.Idx) :
    dense0 D O i = if (i 1).val < 32 then D (denseRow i) else O i := by
  have hi0 := first_coord i
  unfold dense0
  by_cases h : (i 1).val < 32
  · have hc : ∀ a, (i a).val = (![0, 0, 0] : Fin 3 → ℕ) a + ((under (n := 32) (m := 1024) ⟨(i 1).val % 32, by omega⟩ (i 2)) a).val := by
      intro a; fin_cases a <;> simp [under] <;> omega
    rw [if_pos h]
    refine (write_hit O (off := ![0, 0, 0]) (size := S1x32x1024.size) _ _ i (under (n := 32) (m := 1024) ⟨(i 1).val % 32, by omega⟩ (i 2)) hc).trans ?_
    refine (cast_up (n := 32) (m := 1024) _ _ _ _).trans ?_
    rfl
  · rw [if_neg h]; exact write_miss O (off := ![0, 0, 0]) (size := S1x32x1024.size) _ _ i (by simp [S1x32x1024]; omega)
/-- and those of a later step added. -/
theorem dense1_apply (D : FVec F S32x1024 .f32) (O : Vec F S1x2048x1024 .f32) (i : S1x2048x1024.Idx) :
    dense1 D O i = if (i 1).val < 32 then addf O (fun i => D (denseRow i)) i else O i := by
  have hi0 := first_coord i
  unfold dense1
  by_cases h : (i 1).val < 32
  · have hc : ∀ a, (i a).val = (![0, 0, 0] : Fin 3 → ℕ) a + ((under (n := 32) (m := 1024) ⟨(i 1).val % 32, by omega⟩ (i 2)) a).val := by
      intro a; fin_cases a <;> simp [under] <;> omega
    rw [if_pos h]
    refine (write_hit O (off := ![0, 0, 0]) (size := S1x32x1024.size) _ _ i (under (n := 32) (m := 1024) ⟨(i 1).val % 32, by omega⟩ (i 2)) hc).trans ?_
    refine (cast_up (n := 32) (m := 1024) _ _ _ _).trans ?_
    exact congrArg₂ FloatOps.addf ((cast_down (n := 32) (m := 1024) _ _ _ _).trans (read_at O _ i _ hc)) rfl
  · rw [if_neg h]; exact write_miss O (off := ![0, 0, 0]) (size := S1x32x1024.size) _ _ i (by simp [S1x32x1024]; omega)

/-- Eight tiles, each of which sets its own rows, set the rows from the thirty-second on. -/
theorem upTo_apply (f : Fin 8 → Vec F S1x2048x1024 .f32 → Vec F S1x2048x1024 .f32) (g : S1x2048x1024.Idx → Elt F .f32 → Elt F .f32)
    (hf : ∀ t O i, f t O i = if (i 1).val / 256 = t.val ∧ 32 ≤ (i 1).val then g i (O i) else O i) (O : Vec F S1x2048x1024 .f32)
    (n : ℕ) (hn : n ≤ 8) (i : S1x2048x1024.Idx) :
    upTo f O n i = if (i 1).val / 256 < n ∧ 32 ≤ (i 1).val then g i (O i) else O i := by
  induction n with
  | zero => rw [if_neg (by omega)]; rfl
  | succ n ih =>
    rw [upTo, dif_pos (by omega), hf, ih (by omega)]
    by_cases h : (i 1).val / 256 = n ∧ 32 ≤ (i 1).val
    · rw [if_pos h, if_neg (by omega), if_pos (by omega)]
    · rw [if_neg h]
      by_cases h' : (i 1).val / 256 < n ∧ 32 ≤ (i 1).val
      · rw [if_pos h', if_pos (by omega)]
      · rw [if_neg h', if_neg (by omega)]

/-- The first step at an element, -/
theorem step0_eq (D : FVec F S32x1024 .f32) (T : Fin 8 → FVec F S256x1024 .f32) (O : Vec F S1x2048x1024 .f32) :
    upTo (tile0 T) (dense0 D O) 8 = stepV D T := by
  funext i
  have hi : (i 1).val < 2048 := (i 1).isLt
  rw [upTo_apply (tile0 T) (fun i _ => T (tileNo i) (tileRow i)) (tile0_apply T) (dense0 D O) 8 le_rfl i, dense0_apply, stepV]
  by_cases h : (i 1).val < 32
  · rw [if_pos h, if_neg (by omega), if_pos h]
  · rw [if_neg h, if_pos (by omega), if_neg h]
/-- and a later one. -/
theorem step1_eq (D : FVec F S32x1024 .f32) (T : Fin 8 → FVec F S256x1024 .f32) (O : Vec F S1x2048x1024 .f32) :
    upTo (tile1 T) (dense1 D O) 8 = addf O (stepV D T) := by
  funext i
  have hi : (i 1).val < 2048 := (i 1).isLt
  rw [upTo_apply (tile1 T) (fun i o => FloatOps.addf o (T (tileNo i) (tileRow i))) (tile1_apply T) (dense1 D O) 8 le_rfl i, dense1_apply]
  show _ = FloatOps.addf (O i) (stepV D T i)
  rw [stepV]
  by_cases h : (i 1).val < 32
  · rw [if_pos h, if_pos h, if_neg (by omega)]; rfl
  · rw [if_neg h, if_neg h, if_pos (by omega)]

/-- What the step of block `o`, its keys and values in slot `p`, stores or adds. -/
def blockV (o : Fin 4) (p : Fin 2) (X : Vec F S2048x1024 .bf16) (WQ WO : Vec F S4x1024x1024 .bf16) (KH VH : Vec F S2048x4096 .bf16) : Vec F S1x2048x1024 .f32 :=
  stepV (denseV o p X WQ WO (kvOf o KH) (kvOf o VH)) (fun t => tileV o p t X WQ WO (kvOf o KH) (kvOf o VH) biasV)

/-- The result of a device's run. -/
def resV (c : Fin 4) (X : Vec F S2048x1024 .bf16) (WQ WO : Vec F S4x1024x1024 .bf16) (KH VH : Vec F S2048x4096 .bf16) : Vec F S1x2048x1024 .f32 :=
  addf (φ := .f32) (addf (φ := .f32) (addf (φ := .f32) (blockV c 0 X WQ WO KH VH) (blockV (c + 1) 1 X WQ WO KH VH)) (blockV (c + 3) 0 X WQ WO KH VH)) (blockV (c + 2) 1 X WQ WO KH VH)

theorem out4_eq (c : Dev nD) (X : Vec F S2048x1024 .bf16) (WQ WO : Vec F S4x1024x1024 .bf16) (KH VH : Vec F S2048x4096 .bf16) (O : Vec F S1x2048x1024 .f32) :
    out4 c X WQ WO KH VH O = resV c X WQ WO KH VH := by
  unfold out4 out3 out2 out1
  rw [step0_eq, step1_eq, step1_eq, step1_eq]
  rfl

end Cert.Attn
-- ==== Proof.Core.lean ====
/-
One device's run, from what the launch hands it to what it hands back.
-/
module

public import proofs.«01_k».proof.Proof.Room
public import proofs.«01_k».proof.Proof.Deal
public import proofs.«01_k».proof.Proof.Out

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families as chains -/

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem thirteen (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [(0 : Fin 13), 1, 2, 3, 4, 5, 6, 7, 8, 9, 10, 11, 12] (by decide) (by decide) Φ
theorem eighteen (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [(0 : Fin 18), 1, 2, 3, 4, 5, 6, 7, 8, 9, 10, 11, 12, 13, 14, 15, 16, 17] (by decide) (by decide) Φ

/-- The kernel's counters outside the protocol: those of the copies of K and V, and the copies' counters that no copy uses. -/
def spare (c : Dev nD) : sProp 𝕄 := bigSep Finset.univ fun k : Fin 8 => semVal (cell c (osem ⟨k.val + 13, by have := k.isLt; omega⟩)) 0
/-- The protocol's, the barrier's apart. -/
def quiet (c : Dev nD) : sProp 𝕄 := bigSep Finset.univ fun k : Fin 13 => semVal (cell c (sc k)) 0

theorem own_split (c : Dev nD) : (Pipeline.ownSems0 osem c : sProp 𝕄) = iprop(quiet c ∗ spare c) := by
  unfold quiet spare
  refine (bigSep_univ_equiv (finSumFinEquiv (m := 13) (n := 8)) (fun k : Fin 21 => (semVal (cell c (osem k)) 0 : sProp 𝕄))).trans ?_
  refine (BI.bigSep_univ_sum _).trans ?_
  refine congrArg₂ (fun A B : sProp 𝕄 => iprop(A ∗ B)) (bigSep_congr fun k _ => rfl) (bigSep_congr fun k _ => ?_)
  refine congrArg (fun j : Fin 21 => (semVal (cell c (osem j)) 0 : sProp 𝕄)) (Fin.ext ?_)
  show 13 + k.val = k.val + 13
  omega

/-- The scratch buffers at any contents. -/
def scratch (c : Dev nD) : sProp 𝕄 :=
  iprop((∃ f : Vec F S4x1024x1024 .bf16, qB.view.loc (c : Thread nD τ) ↦{fullShare} f) ∗ (∃ f : Vec F S4x1024x1024 .bf16, oB.view.loc (c : Thread nD τ) ↦{fullShare} f)
    ∗ (∃ f : Vec F S2x2048x1024 .bf16, kB.view.loc (c : Thread nD τ) ↦{fullShare} f) ∗ (∃ f : Vec F S2x2048x1024 .bf16, vB.view.loc (c : Thread nD τ) ↦{fullShare} f)
    ∗ (∃ f : Vec F S2048x640 .bf16, bM.view.loc (c : Thread nD τ) ↦{fullShare} f))

theorem own_tok (c : Dev nD) (s : SemLoc sig) (d : Fin 4) : (dutyTok ER (cell (c + 0 : Fin 4) s) 0 d : sProp 𝕄) ⊢ dutyTok ER (cell c s) 0 d := by
  rw [show (c + 0 : Fin 4) = c from add_zero c]
theorem draw_N (g : GSem nD τ sig) : (cred (tallyAt g () (0 + 1 * N)) : sProp 𝕄) ⊢ cred (tallyAt g () N) := by
  rw [show 0 + 1 * N = N by omega]
theorem draw_3 (g : GSem nD τ sig) : (cred (tallyAt g () (3 + 0 * N)) : sProp 𝕄) ⊢ cred (tallyAt g () 3) := by
  rw [show 3 + 0 * N = 3 by omega]

variable (WQ WO : Vec F S4x1024x1024 .bf16)

/-- What a device enters the kernel with besides its windows, K and V. -/
def enter (c : Dev nD) : sProp 𝕄 :=
  iprop((∃ κ : GSem nD τ sig → ℕ, records WQ WO κ) ∗ share1 c ∗ draws c ∗ levAts L lv ∗ spare c ∗ scratch c)
/-- What it leaves. -/
def leave (c : Dev nD) : sProp 𝕄 :=
  iprop(semVal (cell c (.reg barS)) 0 ∗ quiet c ∗ spare c ∗ scratch c)

theorem core_run (c : Dev nD) (W : Waits sig Unit) (wq wo : Vec F S1024x1024 .bf16) (KH VH : Vec F S2048x4096 .bf16)
    (X : Vec F S2048x1024 .bf16) (O : Vec F S1x2048x1024 .f32)
    (hq : qB.view.readAt (Elt F) (rW c).toLoadRect WQ = k0_pay85 (qM.view.readAt (Elt F) (Rect.unit (s := S1024x1024) ![0, 0] S1024x1024.size inb_S1024x1024_S1024x1024_0_0).toLoadRect wq))
    (ho : oB.view.readAt (Elt F) (rW c).toLoadRect WO = k0_pay86 (oM.view.readAt (Elt F) (Rect.unit (s := S1024x1024) ![0, 0] S1024x1024.size inb_S1024x1024_S1024x1024_0_0).toLoadRect wo)) :
    iprop(enter WQ WO c ∗ (xM.view.loc (c : Thread nD τ) ↦{fullShare} X) ∗ (qM.view.loc (c : Thread nD τ) ↦{fullShare} wq)
       ∗ (oM.view.loc (c : Thread nD τ) ↦{fullShare} wo) ∗ (outM.view.loc (c : Thread nD τ) ↦{fullShare} O)
       ∗ (kH.view.loc (c : Thread nD τ) ↦{fullShare} KH) ∗ (vH.view.loc (c : Thread nD τ) ↦{fullShare} VH) ∗ owes (c : Thread nD τ) (owe c) W)
    ⊢ wp frame (wpE (defs₀ (F := F)) 𝒱₀ (c : Thread nD τ) none) Set.univ
       (cc0_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0)
       (fun _ => iprop(leave c ∗ (xM.view.loc (c : Thread nD τ) ↦{fullShare} X) ∗ (qM.view.loc (c : Thread nD τ) ↦{fullShare} wq)
         ∗ (oM.view.loc (c : Thread nD τ) ↦{fullShare} wo) ∗ (outM.view.loc (c : Thread nD τ) ↦{fullShare} resV c X WQ WO KH VH)
         ∗ (kH.view.loc (c : Thread nD τ) ↦{fullShare} KH) ∗ (vH.view.loc (c : Thread nD τ) ↦{fullShare} VH) ∗ ∃ W', owes (c : Thread nD τ) 0 W')) := by
  have halves (ℓ : Loc nD τ sig) (f : Buf (Elt F) ℓ) : ((ℓ ↦{fullShare} f) : sProp 𝕄) ⊣⊢ iprop((ℓ ↦{fullShare.left} f) ∗ (ℓ ↦{fullShare.right} f)) :=
    pointsTo_share (PosShare.mem_left_op_right fullShare)
  unfold enter leave share1 draws paid scratch spare quiet
  rw [eighteen, thirteen, thirteen, eight, eight]
  iintro ⟨⟨⟨%κ, #HR⟩, ⟨HatB, ⟨⟨A0, #R0⟩, ⟨A1, #R1⟩, ⟨A2, #R2⟩, ⟨A3, #R3⟩, ⟨A4, #R4⟩, ⟨A5, #R5⟩, ⟨A6, #R6⟩, ⟨A7, #R7⟩, ⟨A8, #R8⟩, ⟨A9, #R9⟩, ⟨A10, #R10⟩, ⟨A11, #R11⟩, ⟨A12, #R12⟩⟩,
    ⟨T0, T1, T2, T3, T4, T5, T6, T7, T8, T9, T10, T11, T12, T13, T14, T15, T16, T17⟩⟩,
    ⟨C0, C1, C2, C3, C4, C5, C6, C7⟩, #Hlev, ⟨S0, S1, S2, S3, S4, S5, S6, S7⟩, ⟨%f, Hf⟩, ⟨%g, Hg⟩, ⟨%K, HK⟩, ⟨%V, HV⟩, ⟨%B, HB⟩⟩,
    Hx, Hwq, Hwo, Hout, HkH, HvH, HO⟩
  ihave Hf := (Entails.of_eq (q_blocks c f)) $$ Hf
  icases Hf with ⟨Hf0, Hf1, Hf2, Hf3⟩
  ihave Hg := (Entails.of_eq (o_blocks c g)) $$ Hg
  icases Hg with ⟨Hg0, Hg1, Hg2, Hg3⟩
  ihave HK := (Entails.of_eq (k_blocks c K)) $$ HK
  icases HK with ⟨HK0, HK1⟩
  ihave HV := (Entails.of_eq (v_blocks c V)) $$ HV
  icases HV with ⟨HV0, HV1⟩
  ihave HkH := (halves _ KH).1 $$ HkH
  icases HkH with ⟨HkL, HkR⟩
  ihave HvH := (halves _ VH).1 $$ HvH
  icases HvH with ⟨HvL, HvR⟩
  ihave P1 := (lend c 1 f g) $$ [Hf1 Hg1]
  · isplitl [Hf1]; · iexact Hf1
    isplitl [Hg1]; · iexact Hg1
    isplitr; · iexact R7
    isplitr; · iexact R10
    iexact R0
  ihave P2 := (lend c 2 f g) $$ [Hf2 Hg2]
  · isplitl [Hf2]; · iexact Hf2
    isplitl [Hg2]; · iexact Hg2
    isplitr; · iexact R8
    isplitr; · iexact R11
    iexact R0
  ihave P3 := (lend c 3 f g) $$ [Hf3 Hg3]
  · isplitl [Hf3]; · iexact Hf3
    isplitl [Hg3]; · iexact Hg3
    isplitr; · iexact R9
    isplitr; · iexact R12
    iexact R0
  iapply (wp_wand_r frame (wpE (defs₀ (F := F)) 𝒱₀ (c : Thread nD τ) none) Set.univ)
  isplitr [S4 S5 S6 S7]
  · iapply (body_run WQ WO κ c W f g wq wo K V KH VH B X O hq ho)
    isplitr; · iapply (inv_bar WQ WO κ (c + 1)); iexact HR
    isplitr; · iapply (inv_bar WQ WO κ (c + 2)); iexact HR
    isplitr; · iapply (inv_bar WQ WO κ (c + 3)); iexact HR
    isplitr; · iapply (inv_bar WQ WO κ c); iexact HR
    isplitr; · iapply (reached_bar WQ WO κ (c + 1)); iexact HR
    isplitr; · iapply (reached_bar WQ WO κ (c + 2)); iexact HR
    isplitr; · iapply (reached_bar WQ WO κ (c + 3)); iexact HR
    isplitl [T0]; · iexact T0
    isplitl [T1]; · iexact T1
    isplitl [T2]; · iexact T2
    isplitl [P1]; · iexact P1
    isplitl [P2]; · iexact P2
    isplitl [P3]; · iexact P3
    isplitr; · iexact Hlev
    isplitl [HatB]; · iexact HatB
    isplitl [C0]; · iapply (draw_3 (cell c (.reg barS))); iexact C0
    isplitl [Hf0]; · iexact Hf0
    isplitl [Hg0]; · iexact Hg0
    isplitl [Hwq]; · iexact Hwq
    isplitl [Hwo]; · iexact Hwo
    isplitl [HK0]; · iexact HK0
    isplitl [HK1]; · iexact HK1
    isplitl [HV0]; · iexact HV0
    isplitl [HV1]; · iexact HV1
    isplitl [HkL]; · iexact HkL
    isplitl [HvL]; · iexact HvL
    isplitl [HkR]; · iexact HkR
    isplitl [HvR]; · iexact HvR
    isplitl [HB]; · iexact HB
    isplitl [S0]; · iexact S0
    isplitl [S1]; · iexact S1
    isplitl [S2]; · iexact S2
    isplitl [S3]; · iexact S3
    isplitl [T6 T7 T8 T9 T10 T11 T12 T13 T14 T15 T16 T17]
    · unfold sendCtx
      isplitr; · iapply (inv_sc WQ WO κ c 1); iexact HR
      isplitr; · iapply (inv_sc WQ WO κ c 2); iexact HR
      isplitr; · iapply (inv_sc WQ WO κ c 3); iexact HR
      isplitr; · iapply (inv_sc WQ WO κ c 4); iexact HR
      isplitr; · iapply (inv_sc WQ WO κ c 5); iexact HR
      isplitr; · iapply (inv_sc WQ WO κ c 6); iexact HR
      isplitr; · iapply (inv_sc WQ WO κ (c + 1) 9); iexact HR
      isplitr; · iapply (inv_sc WQ WO κ (c + 2) 8); iexact HR
      isplitr; · iapply (inv_sc WQ WO κ (c + 3) 7); iexact HR
      isplitr; · iapply (inv_sc WQ WO κ (c + 1) 12); iexact HR
      isplitr; · iapply (inv_sc WQ WO κ (c + 2) 11); iexact HR
      isplitr; · iapply (inv_sc WQ WO κ (c + 3) 10); iexact HR
      isplitr; · iexact R1
      isplitr; · iexact R2
      isplitr; · iexact R3
      isplitr; · iexact R4
      isplitr; · iexact R5
      isplitr; · iexact R6
      isplitl [T6]; · iapply (own_tok c (.dma (sqS 1)) 1); iexact T6
      isplitl [T7]; · iapply (own_tok c (.dma (sqS 2)) 2); iexact T7
      isplitl [T8]; · iapply (own_tok c (.dma (sqS 3)) 3); iexact T8
      isplitl [T9]; · iapply (own_tok c (.dma (soS 1)) 1); iexact T9
      isplitl [T10]; · iapply (own_tok c (.dma (soS 2)) 2); iexact T10
      isplitl [T11]; · iapply (own_tok c (.dma (soS 3)) 3); iexact T11
      isplitl [T12]; · iexact T12
      isplitl [T13]; · iexact T13
      isplitl [T14]; · iexact T14
      isplitl [T15]; · iexact T15
      isplitl [T16]; · iexact T16
      iexact T17
    isplitl [C2 C3 C4 C5 C6 C7 A1 A2 A3 A4 A5 A6 A7 A8 A9 A10 A11 A12]
    · unfold waitCtx
      isplitr; · iapply (inv_sc WQ WO κ c 7); iexact HR
      isplitr; · iapply (inv_sc WQ WO κ c 8); iexact HR
      isplitr; · iapply (inv_sc WQ WO κ c 9); iexact HR
      isplitr; · iapply (inv_sc WQ WO κ c 10); iexact HR
      isplitr; · iapply (inv_sc WQ WO κ c 11); iexact HR
      isplitr; · iapply (inv_sc WQ WO κ c 12); iexact HR
      isplitl [C2]; · iapply (draw_N (cell c (.dma (rqS 1)))); iexact C2
      isplitl [C3]; · iapply (draw_N (cell c (.dma (rqS 2)))); iexact C3
      isplitl [C4]; · iapply (draw_N (cell c (.dma (rqS 3)))); iexact C4
      isplitl [C5]; · iapply (draw_N (cell c (.dma (roS 1)))); iexact C5
      isplitl [C6]; · iapply (draw_N (cell c (.dma (roS 2)))); iexact C6
      isplitl [C7]; · iapply (draw_N (cell c (.dma (roS 3)))); iexact C7
      isplitl [A7]; · iexact A7
      isplitl [A8]; · iexact A8
      isplitl [A9]; · iexact A9
      isplitl [A10]; · iexact A10
      isplitl [A11]; · iexact A11
      isplitl [A12]; · iexact A12
      isplitl [A1]; · iexact A1
      isplitl [A2]; · iexact A2
      isplitl [A3]; · iexact A3
      isplitl [A4]; · iexact A4
      isplitl [A5]; · iexact A5
      iexact A6
    isplitl [C1 A0 T3 T4 T5]
    · unfold exitCtx
      isplitr; · iapply (inv_sc WQ WO κ c 0); iexact HR
      isplitr; · iapply (inv_sc WQ WO κ (c + 1) 0); iexact HR
      isplitr; · iapply (inv_sc WQ WO κ (c + 2) 0); iexact HR
      isplitr; · iapply (inv_sc WQ WO κ (c + 3) 0); iexact HR
      isplitl [T3]; · iexact T3
      isplitl [T4]; · iexact T4
      isplitl [T5]; · iexact T5
      isplitl [C1]; · iapply (draw_3 (cell c (.reg exS))); iexact C1
      iexact A0
    isplitl [Hx]; · iexact Hx
    isplitl [Hout]; · iexact Hout
    iexact HO
  iintro %r
  unfold bodyPost idle
  rw [out4_eq]
  iintro ⟨Hx, Hwq, Hwo, Hout, HkL, HvL, HkR, HvR, Hq, Ho, Hk, Hv, HB, ⟨S0, S1, S2, S3⟩, ⟨Z, Z0, Z1, Z2, Z3, Z4, Z5, Z6, Z7, Z8, Z9, Z10, Z11, Z12⟩, HO⟩
  isplitr [Hx Hwq Hwo Hout HkL HvL HkR HvR HO]
  · isplitl [Z]; · iexact Z
    isplitl [Z0 Z1 Z2 Z3 Z4 Z5 Z6 Z7 Z8 Z9 Z10 Z11 Z12]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      iexact Z12
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Hq]; · iexists WQ; iapply (Entails.of_eq (q_blocks c WQ).symm); iexact Hq
    isplitl [Ho]; · iexists WO; iapply (Entails.of_eq (o_blocks c WO).symm); iexact Ho
    isplitl [Hk]; · iapply (k_join c K); iexact Hk
    isplitl [Hv]; · iapply (v_join c V); iexact Hv
    iexact HB
  isplitl [Hx]; · iexact Hx
  isplitl [Hwq]; · iexact Hwq
  isplitl [Hwo]; · iexact Hwo
  isplitl [Hout]; · iexact Hout
  isplitl [HkL HkR]
  · iapply (halves _ KH).2; isplitl [HkL]; · iexact HkL
    iexact HkR
  isplitl [HvL HvR]
  · iapply (halves _ VH).2; isplitl [HvL]; · iexact HvL
    iexact HvR
  iexact HO

end Cert.Attn
end
-- ==== Proof.Region.lean ====
/-
The kernel call as a region of the program: what its windows hold before and after, and the record that the launch threads it with.
-/
module

public import proofs.«01_k».proof.Proof.Core
public import proofs.«01_k».proof.Proof.Gen.KernelIdeal.Regions
public import proofs.«01_k».proof.Proof.Gen.KernelIdeal.Points
public import Idealize.ShloMosaic.Lib.Pipeline.RegionTalk

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation PLaunchFacts WinFacts OwnSemFacts)

variable (m : (ℓ : Loc nD τ sig) → Buf (Elt F) ℓ)

/-! ## The contents -/

/-- The operands that device `c` enters the kernel with: its rows, its blocks of the weights, its keys and values. -/
abbrev xOf (c : Dev nD) : Vec F S2048x1024 .bf16 := V5 m c main_v1
abbrev qOf (c : Dev nD) : Vec F S1024x1024 .bf16 := V5 m c main_arg1
abbrev oOf (c : Dev nD) : Vec F S1024x1024 .bf16 := V5 m c main_arg4
abbrev kOf (c : Dev nD) : Vec F S2048x4096 .bf16 := V5 m c main_v7
abbrev vOf' (c : Dev nD) : Vec F S2048x4096 .bf16 := V5 m c main_v9

/-- A weight block as the kernel reads it. -/
abbrev rFull : Rect S1024x1024 := Rect.unit (s := S1024x1024) ![0, 0] S1024x1024.size inb_S1024x1024_S1024x1024_0_0
/-- The gathered weights: the devices' blocks one after the other. -/
def WQm : Vec F S4x1024x1024 .bf16 := fun i => k0_pay85 (qM.view.readAt (Elt F) rFull.toLoadRect (qOf m (i 0))) (under (i 1) (i 2))
def WOm : Vec F S4x1024x1024 .bf16 := fun i => k0_pay86 (oM.view.readAt (Elt F) rFull.toLoadRect (oOf m (i 0))) (under (i 1) (i 2))

/-- The block that a gathered weight holds in a device's place is that device's. -/
theorem place_q (c : Dev nD) (g : Dev nD → Vec F S1x1024x1024 .bf16) (G : Vec F S4x1024x1024 .bf16) (h : ∀ i : S4x1024x1024.Idx, G i = g (i 0) (under (i 1) (i 2))) :
    qB.view.readAt (Elt F) (rW c).toLoadRect G = g c := by
  funext j
  refine (h ((rW c).emb j)).trans ?_
  have e0 : (rW c).emb j 0 = c := Fin.ext (by rw [Rect.emb_apply]; show c.val + 1 * (j 0).val = c.val; have h0 : (j 0).val < 1 := (j 0).isLt; omega)
  have ej : under ((rW c).emb j 1) ((rW c).emb j 2) = j := by
    funext a
    fin_cases a
    · exact Fin.ext (by show 0 = (j 0).val; have h0 : (j 0).val < 1 := (j 0).isLt; omega)
    · exact Fin.ext (by show ((rW c).emb j 1).val = (j 1).val; rw [Rect.emb_apply]; show 0 + 1 * (j 1).val = (j 1).val; omega)
    · exact Fin.ext (by show ((rW c).emb j 2).val = (j 2).val; rw [Rect.emb_apply]; show 0 + 1 * (j 2).val = (j 2).val; omega)
  exact congrArg₂ (fun (d : Dev nD) (x : S1x1024x1024.Idx) => g d x) e0 ej

theorem hqm (c : Dev nD) : qB.view.readAt (Elt F) (rW c).toLoadRect (WQm m) = k0_pay85 (qM.view.readAt (Elt F) rFull.toLoadRect (qOf m c)) :=
  place_q c (fun d => k0_pay85 (qM.view.readAt (Elt F) rFull.toLoadRect (qOf m d))) (WQm m) fun _ => rfl
theorem hom (c : Dev nD) : oB.view.readAt (Elt F) (rW c).toLoadRect (WOm m) = k0_pay86 (oM.view.readAt (Elt F) rFull.toLoadRect (oOf m c)) :=
  place_q c (fun d => k0_pay86 (oM.view.readAt (Elt F) rFull.toLoadRect (oOf m d))) (WOm m) fun _ => rfl

/-- What device `c` computes. -/
def res (c : Dev nD) : Vec F S1x2048x1024 .f32 := resV c (xOf m c) (WQm m) (WOm m) (kOf m c) (vOf' m c)
/-- The buffers after the kernel. -/
def Wend (c : Dev nD) : Valuation τ sig (Elt F) := Function.update (V5 m c) main_v10 (res m c)

/-! ## The buffers that the kernel addresses itself -/

def hbm : Finset (DevRef τ sig) := {Proc.devRef .tc main_v7, Proc.devRef .tc main_v9}
def rest : Finset (DevRef τ sig) := Pipeline.ucRefs τ sig \ Pipeline.arrRefs (τ := τ) spec0

theorem hbm_eq (c : Dev nD) (W : Valuation τ sig (Elt F)) : (StableHlo.held (c : Thread nD τ) hbm W : sProp 𝕄)
    = iprop((kH.view.loc (c : Thread nD τ) ↦{fullShare} W main_v7) ∗ (vH.view.loc (c : Thread nD τ) ↦{fullShare} W main_v9)) := by
  unfold StableHlo.held
  rw [bigSep_eq_bigSepL_of_eq [Proc.devRef .tc main_v7, Proc.devRef .tc main_v9] (by decide) (by decide)]
  rfl

/-! ## The data of the windows -/

abbrev Xk (c : Dev nD) : sProp 𝕄 :=
  iprop((∃ κ : GSem nD τ sig → ℕ, records (WQm m) (WOm m) κ) ∗ share1 c ∗ draws c ∗ levAts L lv ∗ spare c)

def Φ0 (c : Dev nD) : sProp 𝕄 :=
  iprop(Pipeline.scopedRest spec0 c ∗ (∃ r, prngReg c r) ∗ StableHlo.held (c : Thread nD τ) hbm (V5 m c) ∗ Xk m c)
def Φ1 (c : Dev nD) : sProp 𝕄 :=
  iprop(Pipeline.scopedRest spec0 c ∗ (∃ r, prngReg c r) ∗ StableHlo.held (c : Thread nD τ) hbm (V5 m c) ∗ Pipeline.ownSems0 osem c ∗ semVal (cell c (.reg barS)) 0)

def dat0 (c : Dev nD) : Dat τ (Elt F) Unit ℕ UU ℕ cfg0 c where
  A w := V5 m c (Proc.devRef .tc (Pipeline.arrRef spec0 w))
  after w t := match w with
    | 0 => xOf m c
    | 1 => qOf m c
    | 2 => oOf m c
    | 3 => res m c
  Φ t := if t.val = 0 then Φ0 m c else Φ1 m c
  q _ := fullShare
  owed t := if t.val = 0 then owe c else 0

def pdats : (p : Fin 1) → (c : Dev nD) → Dat τ (Elt F) Unit ℕ UU ℕ (Pipeline.pin (pcfgs (F := F)) adm p) c
  | 0 => dat0 m

theorem share_eq (c : Dev nD) (w : Fin 4) : (dat0 m c).share w = fullShare := by
  unfold Dat.share; split <;> rfl
theorem owed_first (c : Dev nD) : (dat0 m c).owed t0_0.castSucc = owe c := by
  show (if (t0_0.castSucc : Fin (cfg0.N + 1)).val = 0 then owe c else 0) = owe c; exact if_pos rfl
theorem owed_zero (c : Dev nD) : (pdats m 0 c).owed 0 = owe c := by
  show (if ((0 : Fin (cfg0.N + 1)).val = 0) then owe c else 0) = owe c; exact if_pos rfl
theorem owed_last (c : Dev nD) : (pdats m 0 c).owed (Fin.last _) = 0 := by
  show (if (Fin.last cfg0.N).val = 0 then owe c else 0) = 0
  rw [Fin.val_last, if_neg (by rw [show cfg0.N = 1 from N_0]; decide)]
theorem Φ_zero (c : Dev nD) : (pdats m 0 c).Φ 0 = Φ0 m c := by
  show (if ((0 : Fin (cfg0.N + 1)).val = 0) then Φ0 m c else Φ1 m c) = _; exact if_pos rfl
theorem Φ_last (c : Dev nD) : (pdats m 0 c).Φ (Fin.last _) = Φ1 m c := by
  show (if (Fin.last cfg0.N).val = 0 then Φ0 m c else Φ1 m c) = _
  rw [Fin.val_last, if_neg (by rw [show cfg0.N = 1 from N_0]; decide)]

/-- Owing at a point, without the record of the waits, and back. -/
theorem owes_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO
theorem owes_in (c : Dev nD) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound; rw [h, show (dat0 m c).recorded t = Set.univ from rfl]
  iintro HO; iexists W; isplitr; · ipureintro; exact fun _ _ => Or.inl trivial
  iexact HO

theorem owns_of (c : Dev nD) (b : Ref sig .tc) (X : b.ty.Contents (Elt F)) :
    (owns (c : Thread nD τ) (Memref.whole b) fullShare X : sProp 𝕄) = iprop(∃ f : b.ty.Contents (Elt F), ⌜f = X⌝ ∗ (Memref.whole b).view.loc (c : Thread nD τ) ↦{fullShare} f) := by
  unfold owns; simp only [Memref.view_whole, View.read_whole, View.set_whole]

theorem owns_out (c : Dev nD) (b : Ref sig .tc) (X : b.ty.Contents (Elt F)) :
    (owns (c : Thread nD τ) (Memref.whole b) fullShare X : sProp 𝕄) ⊢ ((Memref.whole b).view.loc (c : Thread nD τ) ↦{fullShare} X) := by
  rw [owns_of]; iintro ⟨%f, %h, H⟩; subst h; iexact H
theorem owns_in (c : Dev nD) (b : Ref sig .tc) (X : b.ty.Contents (Elt F)) :
    (((Memref.whole b).view.loc (c : Thread nD τ) ↦{fullShare} X) : sProp 𝕄) ⊢ owns (c : Thread nD τ) (Memref.whole b) fullShare X := by
  rw [owns_of]; iintro H; iexists X; isplitr; · ipureintro; rfl
  iexact H

theorem whole_block {n m : ℕ} (j : (⟨2, ![n, m]⟩ : Shape).Idx) {h} : (Rect.unit (s := ⟨2, ![n, m]⟩) (fun a => 0 * ![n, m] a) ![n, m] h).emb j = j := by
  funext a; refine Fin.ext ?_; rw [Rect.emb_apply]; show 0 * ![n, m] a + 1 * (j a).val = (j a).val; omega

theorem before_x (c : Dev nD) (d) : (dat0 m c).before 0 t0_0 d = xOf m c := by
  unfold Dat.before; rw [if_pos (fetch0_0 t0_0)]
  funext j; exact congrArg (xOf m c) (whole_block j)
theorem before_q (c : Dev nD) (d) : (dat0 m c).before 1 t0_0 d = qOf m c := by
  unfold Dat.before; rw [if_pos (fetch0_1 t0_0)]
  funext j; exact congrArg (qOf m c) (whole_block j)
theorem before_o (c : Dev nD) (d) : (dat0 m c).before 2 t0_0 d = oOf m c := by
  unfold Dat.before; rw [if_pos (fetch0_2 t0_0)]
  funext j; exact congrArg (oOf m c) (whole_block j)

theorem rest_scratch (c : Dev nD) : (Pipeline.scopedRest spec0 c : sProp 𝕄) = scratch c := scopedRest0_eq c

/-- The body's contract at the one point of its grid. -/
theorem body_obligation (c : Dev nD) : BodyObligation (dat0 m c) (defs₀ (F := F)) 𝒱₀ () Set.univ := fun t => by
  rw [fin_N0 t, bigSep_W0, bigSep_W0]
  show iprop(Φ0 m c ∗ (dat0 m c).owesAt () t0_0.castSucc
      ∗ (∃ d, owns (c : Thread nD τ) xM fullShare ((dat0 m c).before 0 t0_0 d)) ∗ (∃ d, owns (c : Thread nD τ) qM fullShare ((dat0 m c).before 1 t0_0 d))
      ∗ (∃ d, owns (c : Thread nD τ) oM fullShare ((dat0 m c).before 2 t0_0 d)) ∗ (∃ d, owns (c : Thread nD τ) outM fullShare ((dat0 m c).before 3 t0_0 d)))
    ⊢ wp frame (wpE (defs₀ (F := F)) 𝒱₀ (c : Thread nD τ) none) Set.univ
       (cc0_body (F := F) xM (Memref.isWhole_whole _) qM (Memref.isWhole_whole _) kH (Memref.isWhole_whole _) vH (Memref.isWhole_whole _) oM (Memref.isWhole_whole _) outM (Memref.isWhole_whole _) qB (Memref.isWhole_whole _) oB (Memref.isWhole_whole _) kB (Memref.isWhole_whole _) vB (Memref.isWhole_whole _) bM (Memref.isWhole_whole _) cc0_scratch5 cc0_scratch6 cc0_scratch7 cc0_scratch8 cc0_scratch9 cc0_scratch10 cc0_scoped0)
       (fun _ => iprop(Φ1 m c ∗ (dat0 m c).owesAt () t0_0.succ
         ∗ owns (c : Thread nD τ) xM fullShare (xOf m c) ∗ owns (c : Thread nD τ) qM fullShare (qOf m c)
         ∗ owns (c : Thread nD τ) oM fullShare (oOf m c) ∗ owns (c : Thread nD τ) outM fullShare (res m c)))
  unfold Φ0 Φ1 Xk
  rw [rest_scratch, hbm_eq, own_split]
  iintro ⟨⟨Hs, Hp, ⟨Hk, Hv⟩, HR, Hsh, Hdr, Hlev, Hsp⟩, HO, ⟨%d0, Hx⟩, ⟨%d1, Hq⟩, ⟨%d2, Ho⟩, ⟨%d3, Hout⟩⟩
  rw [before_x, before_q, before_o]
  ihave Hx := (owns_out c _ _) $$ Hx
  ihave Hq := (owns_out c _ _) $$ Hq
  ihave Ho := (owns_out c _ _) $$ Ho
  ihave Hout := (owns_out c _ _) $$ Hout
  ihave HO := (owes_out m c _ (owe c) (owed_first m c)) $$ HO
  icases HO with ⟨%W, HO⟩
  iapply (wp_wand_r frame (wpE (defs₀ (F := F)) 𝒱₀ (c : Thread nD τ) none) Set.univ)
  isplitr [Hp]
  · iapply (core_run (WQm m) (WOm m) c W (qOf m c) (oOf m c) (kOf m c) (vOf' m c) (xOf m c) _ (hqm m c) (hom m c))
    isplitl [HR Hsh Hdr Hlev Hsp Hs]
    · unfold enter
      isplitl [HR]; · iexact HR
      isplitl [Hsh]; · iexact Hsh
      isplitl [Hdr]; · iexact Hdr
      isplitl [Hlev]; · iexact Hlev
      isplitl [Hsp]; · iexact Hsp
      iexact Hs
    isplitl [Hx]; · iexact Hx
    isplitl [Hq]; · iexact Hq
    isplitl [Ho]; · iexact Ho
    isplitl [Hout]; · iexact Hout
    isplitl [Hk]; · iexact Hk
    isplitl [Hv]; · iexact Hv
    iexact HO
  iintro %r
  unfold leave
  iintro ⟨⟨Hb, Hz, Hsp, Hs⟩, Hx, Hq, Ho, Hout, Hk, Hv, ⟨%W', HO⟩⟩
  isplitl [Hs Hp Hk Hv Hz Hsp Hb]
  · isplitl [Hs]; · iexact Hs
    isplitl [Hp]; · iexact Hp
    isplitl [Hk Hv]
    · isplitl [Hk]; · iexact Hk
      iexact Hv
    isplitl [Hz Hsp]
    · isplitl [Hz]; · iexact Hz
      iexact Hsp
    iexact Hb
  isplitl [HO]; · iapply (owes_in m c _ 0 (owed_last m c) W'); iexact HO
  isplitl [Hx]; · iapply (owns_in c _ _); iexact Hx
  isplitl [Hq]; · iapply (owns_in c _ _); iexact Hq
  isplitl [Ho]; · iapply (owns_in c _ _); iexact Ho
  iapply (owns_in c _ _); iexact Hout

/-! ## The arrays at the end -/

theorem arr_end (c : Dev nD) : (dat0 m c).arrAt 3 cfg0.N = res m c := by
  rw [show cfg0.N = 0 + 1 from N_0]
  unfold Dat.arrAt
  dsimp only
  rw [dif_pos (by rw [show cfg0.N = 1 from N_0]; decide), if_pos (flush0_3 _)]
  funext i
  have hx : ((cfg0.win 3).blk t0_0).view.emb i = i := by
    funext a; refine Fin.ext ?_
    show 0 * S1x2048x1024.size a + 1 * (i a).val = (i a).val
    omega
  exact (congrArg (((cfg0.win 3).blk t0_0).view.write (Elt F) _ _ Finset.univ) hx.symm).trans
    (View.write_emb_of_mem _ _ (Finset.mem_univ _))

theorem Wend_of (c : Dev nD) (b : DevRef τ sig) (h : b ≠ Proc.devRef .tc main_v10) : Wend m c b = V5 m c b := Function.update_of_ne h ..
theorem Wend_res (c : Dev nD) : Wend m c (Proc.devRef .tc main_v10) = res m c := Function.update_self ..

/-! ## The region -/

/-- What a device keeps from the launch up to the kernel, -/
def Tk (c : Dev nD) : sProp 𝕄 := iprop((∃ κ : GSem nD τ sig → ℕ, records (WQm m) (WOm m) κ ∗ share0 c) ∗ draws c)
/-- and after it. -/
def Yk (c : Dev nD) : sProp 𝕄 := semVal (cell c (.reg barS)) 0

theorem hopen (c : Dev nD) : iprop(Tk m c ∗ Pipeline.ownSems0 osem c ∗ levAts L lv) ⊢ (|={Set.univ}=> Xk m c : sProp 𝕄) := by
  rw [own_split]
  unfold Tk Xk quiet
  iintro ⟨⟨⟨%κ, #HR, Hs⟩, Hd⟩, ⟨Hq, Hsp⟩, Hlev⟩
  imod (open_cells (WQm m) (WOm m) κ c) $$ [Hs Hq] with H
  · isplitr; · iexact HR
    isplitl [Hs]; · iexact Hs
    iexact Hq
  imodintro
  isplitr; · iexists κ; iexact HR
  isplitl [H]; · iexact H
  isplitl [Hd]; · iexact Hd
  isplitl [Hlev]; · iexact Hlev
  iexact Hsp

theorem hbm_keep (c : Dev nD) : (StableHlo.held (c : Thread nD τ) hbm (Wend m c) : sProp 𝕄) = StableHlo.held (c : Thread nD τ) hbm (V5 m c) :=
  StableHlo.held_congr _ fun b hb => Wend_of m c b fun h => absurd (h ▸ hb) (by decide)

theorem hin (c : Dev nD) : iprop(Pipeline.scopedRest spec0 c ∗ (∃ r, prngReg c r) ∗ StableHlo.held (c : Thread nD τ) hbm (V5 m c) ∗ Xk m c)
    ⊢ (pdats m 0 c).Φ 0 := by
  rw [Φ_zero]; exact .rfl
theorem hout (c : Dev nD) : (pdats m 0 c).Φ (Fin.last _)
    ⊢ iprop(Pipeline.scopedRest spec0 c ∗ (∃ r, prngReg c r) ∗ StableHlo.held (c : Thread nD τ) hbm (Wend m c) ∗ Pipeline.ownSems0 osem c ∗ Yk c) := by
  rw [Φ_last, hbm_keep]; exact .rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hbm_sub : hbm ⊆ rest := by decide
theorem out_notMem : (Proc.devRef .tc main_v10 : DevRef τ sig) ∉ rest := by decide
theorem arr_sub : Pipeline.arrRefs (τ := τ) spec0 ⊆ Pipeline.ucRefs τ sig := by decide

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owe c else 0 := rfl
  rw [e] at h
  split at h
  · obtain ⟨h1, h2⟩ := above_O c g i h
    exact ⟨by unfold L; rw [if_pos h1]; exact Finset.mem_singleton_self _, h2⟩
  · exact absurd h (Nat.lt_irrefl 0)

theorem arr_first (c : Dev nD) (w : Fin 4) : (dat0 m c).arrAt w 0 = V5 m c (Proc.devRef .tc (Pipeline.arrRef spec0 w)) := rfl
theorem arr_last (c : Dev nD) : ∀ w : Fin 4, (dat0 m c).arrAt w cfg0.N = Wend m c (Proc.devRef .tc (Pipeline.arrRef spec0 w))
  | 0 => ((dat0 m c).arrAt_in 0 rfl _).trans (Wend_of m c (Proc.devRef .tc main_v1) (by decide)).symm
  | 1 => ((dat0 m c).arrAt_in 1 rfl _).trans (Wend_of m c (Proc.devRef .tc main_arg1) (by decide)).symm
  | 2 => ((dat0 m c).arrAt_in 2 rfl _).trans (Wend_of m c (Proc.devRef .tc main_arg4) (by decide)).symm
  | 3 => (arr_end m c).trans (Wend_res m c).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    hbm rest hbm_sub kit rfl (fun c => (body_obligation m c).loose)
    (fun _ => 0) owe (fun c => (owed_zero m c).trans (zero_add _).symm) (owed_last m) (fun _ => rfl) (fun c w => share_eq m c w)
    (V5 m) (Wend m) (fun c b hb => Wend_of m c b fun h => out_notMem (h ▸ (Finset.mem_sdiff.mp hb).1))
    (Tk m) Yk (Xk m) Yk (hopen m) (hin m) (hout m)
    (fun c => by iintro H; imodintro; iexact H)
    (fun _ => 0)
    ⟨fun c w s => by rw [L_tc]; exact Finset.mem_singleton_self _, fun c w s => by
        revert w s; exact fun | 0 => fun _ => le_refl _ | 1 => fun _ => le_refl _ | 2 => fun _ => le_refl _ | 3 => fun _ => le_refl _, fun c t g i h => cutD m c t g i h⟩
    (fun _ => iprop(emp))
    (fun c w => arr_first m c w) (fun c w => arr_last m c w)

/-- What rides beside the buffers: before the kernel and after it. -/
def E : Fin 2 → Dev nD → sProp 𝕄
  | 0 => fun c => iprop((Tk m c ∗ ∃ r, prngReg c r) ∗ ∃ W, owes (c : Thread nD τ) (owe c) W)
  | 1 => fun c => iprop(semVal (cell c (.reg barS)) 0 ∗ ∃ W, owes (c : Thread nD τ) (0 : CellTallies nD τ sig Unit) W)

theorem held_cut (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) rest W) :=
  StableHlo.held_sub_split (c : Thread nD τ) arr_sub W

theorem reg_pre (c : Dev nD) : iprop(StableHlo.held (c : Thread nD τ) (Pipeline.ucRefs τ sig) (V5 m c) ∗ E m 0 c) ⊢ (reg m).pre c := by
  show _ ⊢ iprop(StableHlo.held (c : Thread nD τ) (Pipeline.arrRefs (τ := τ) spec0) (V5 m c) ∗ (∃ r, prngReg c r)
    ∗ (StableHlo.held (c : Thread nD τ) rest (V5 m c) ∗ emp) ∗ Tk m c ∗ ∃ Wd, owes (c : Thread nD τ) (0 + owe c) Wd)
  rw [held_cut, zero_add]
  unfold E
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (Wend m c) ∗ E m 1 c) := by
  show iprop(StableHlo.held (c : Thread nD τ) (Pipeline.arrRefs (τ := τ) spec0) (Wend m c) ∗ (∃ r, prngReg c r)
    ∗ (StableHlo.held (c : Thread nD τ) rest (Wend m c) ∗ emp) ∗ Yk c ∗ ∃ Wd, owes (c : Thread nD τ) (0 : CellTallies nD τ sig Unit) Wd) ⊢ _
  rw [held_cut]
  unfold E Yk
  iintro ⟨Ha, -, ⟨Hr, -⟩, Hb, HO⟩
  isplitl [Ha Hr]
  · isplitl [Ha]; · iexact Ha
    iexact Hr
  isplitl [Hb]; · iexact Hb
  iexact HO

end Cert.Attn
end
-- ==== Proof.Launch.lean ====
/-
The launch: the run of the whole program from any memory.
-/
module

public import proofs.«01_k».proof.Proof.Region

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The ghost state at launch: the pipelines' beside the protocol's. -/
def u₀ : UU :=
  (initOf (Pipeline.cells (nD := nD) (τ := τ) cfgs cellOf_inj) (Pipeline.launchToks (nD := nD) (τ := τ) cfgs cellOf_inj), (launchOf barCells scCells toks, 1))

theorem launch_split :
    (ownU u₀ : sProp 𝕄) ⊢ iprop(BI.own (EP (initOf (Pipeline.cells (nD := nD) (τ := τ) cfgs cellOf_inj) (Pipeline.launchToks (nD := nD) (τ := τ) cfgs cellOf_inj)))
      ∗ BI.own (ER (launchOf barCells scCells toks))) := by
  unfold u₀
  iintro Hu
  ihave H := (ownU_pair _ _) $$ Hu
  icases H with ⟨HP, HX⟩
  ihave H2 := (own_pair_emb embR _ _) $$ HX
  icases H2 with ⟨HY, -⟩
  isplitl [HP]; · iexact HP
  iexact HY

/-- A resource held by the first device alone. -/
def atFirst (X : sProp 𝕄) (c : Dev nD) : sProp 𝕄 := if c = 0 then X else iprop(emp)
theorem atFirst_all (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp
def G : Dev nD → sProp 𝕄 := atFirst (BI.own (ER (launchOf barCells scCells toks)))

theorem barrier_only (c : Dev nD) : (unscopedSems0 c : sProp 𝕄) = semVal (cell c (.reg barS)) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (Wend m c) ∗ semVal (cell c (.reg barS)) 0)

/-- What a device holds at launch that is not the protocol's. -/
def bundle (c : Dev nD) : sProp 𝕄 :=
  iprop(StableHlo.held (c : Thread nD τ) (Pipeline.ucRefs τ sig) (V0 m c) ∗ draws c ∗ owes (c : Thread nD τ) (owe c) ∅ ∗ ∃ r, prngReg c r)

theorem T₀_intro (κ : GSem nD τ sig → ℕ) (c : Dev nD) : iprop(records (WQm m) (WOm m) κ ∗ (share0 c ∗ bundle m c)) ⊢ T₀ m c := by
  unfold bundle T₀ E Tk
  iintro ⟨#HR, Hs, Hh, Hd, HO, Hp⟩
  isplitl [Hh]; · iexact Hh
  isplitr [HO]
  · isplitr [Hp]
    · isplitl [Hs]
      · iexists κ
        isplitr; · iexact HR
        iexact Hs
      iexact Hd
    iexact Hp
  iexists ∅; iexact HO

theorem init :
    iprop((bigSep Finset.univ fun c : Dev nD => iprop(unscopedBufs c (fun b => m ((c : Thread nD τ).loc b)) ∗ unscopedSems0 c
          ∗ owes (c : Thread nD τ) (owe c) ∅ ∗ Pipeline.launchCred owe c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c) ∅ ∗ Pipeline.launchCred owe c ∗ prngReg c (ρ c) ∗ G c)
      ⊢ (iprop(bundle m c ∗ (semVal (cell c (.reg barS)) 0 ∗ G c)) : sProp 𝕄) := by
    rw [show unscopedBufs c (fun b => m ((c : Thread nD τ).loc b)) = StableHlo.held (c : Thread nD τ) (Pipeline.ucRefs τ sig) (V0 m c) from Pipeline.unscopedBufs_held c (V0 m c),
      barrier_only]
    unfold bundle
    iintro ⟨Hh, Hus, HO, Hcr, Hp, HG⟩
    ihave Hd := (draws_intro (F := F) c) $$ Hcr
    isplitl [Hh Hd HO Hp]
    · isplitl [Hh]; · iexact Hh
      isplitl [Hd]; · iexact Hd
      isplitl [HO]; · iexact HO
      iexists (ρ c); iexact Hp
    isplitl [Hus]; · iexact Hus
    iexact HG
  have hall : (bigSep Finset.univ fun c : Dev nD => iprop(unscopedBufs c (fun b => m ((c : Thread nD τ).loc b)) ∗ unscopedSems0 c
          ∗ owes (c : Thread nD τ) (owe c) ∅ ∗ Pipeline.launchCred owe c ∗ prngReg c (ρ c) ∗ G c))
      ⊢ (bigSep Finset.univ fun c : Dev nD => iprop(bundle m c ∗ (semVal (cell c (.reg barS)) 0 ∗ G c)) : sProp 𝕄) := bigSep_mono fun c _ => hcore c
  have hG : bigSep Finset.univ (G (F := F)) ⊢ BI.own (ER (launchOf barCells scCells toks)) := Entails.of_eq (atFirst_all (F := F) _)
  iintro ⟨H, -⟩
  ihave H' := hall $$ H
  ihave H2 := families $$ H'
  icases H2 with ⟨HB, H3⟩
  ihave H4 := families $$ H3
  icases H4 with ⟨Hv, HG⟩
  ihave Hu := hG $$ HG
  imod (deal (WQm m) (WOm m)) $$ [Hv Hu] with ⟨%κ, #HR, HS⟩
  · isplitl [Hv]; · iexact Hv
    iexact Hu
  imodintro
  iapply (bigSep_with_persistent (R := records (WQm m) (WOm m) κ) (Φ := fun c => iprop(share0 c ∗ bundle m c)) fun c _ => T₀_intro m κ c)
  isplitr; · iexact HR
  iapply family
  isplitl [HS]; · iexact HS
  iexact HB

theorem unscoped_eq : ∀ sm : SemLoc sig, sm.isScoped .tc = false → sm = .reg barS := by decide

set_option backward.isDefEq.respectTransparency.types false in
/-- The run: every execution terminates; at the end every buffer of every device holds what it should, and every counter is zero. -/
theorem run_all : θ_run defs (onTc (τ := τ) (main (F := F))) ⟨m, fun _ => 0, ρ⟩
    (fun r => (∀ c : Dev nD, ∀ b ∈ Pipeline.ucRefs τ sig, r.2.mem (c, b) = Wend m c b) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c), StableHlo.seq hostOps0_1, StableHlo.seq hostOps0_2, StableHlo.seq hostOps0_3, StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := owe) (hL := L_of_ne) (G := G) (u₀ := u₀)
    (hu₀ := by
      iintro Hu
      ihave H := launch_split $$ Hu
      icases H with ⟨HP, HX⟩
      imodintro
      isplitl [HP]; · iexact HP
      unfold G
      rw [atFirst_all]; iexact HX)
    (T₀ := T₀ m) (Tₙ := Tₙ m)
    (hch := fun c => ⟨.rfl, .rfl, .rfl, .rfl, .rfl, reg_pre m c, (reg_post m c).trans (by
      show iprop(StableHlo.held (c : Thread nD τ) (Pipeline.ucRefs τ sig) (Wend m c)
          ∗ (semVal (cell c (.reg barS)) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh]; · iexact Hh
        iexact Hb
      iexact HO)⟩)
    (hinit := init m ρ)
    (QY := fun c s => (∀ b ∈ Pipeline.ucRefs τ sig, s.mem (c, b) = Wend m c b) ∧ s.sem (cell c (.reg barS)) = 0)
    (hfin := fun c s' => by
      dsimp only [Tₙ]; unfold StableHlo.held
      iintro ⟨⟨Hh, Hb⟩, HSI⟩
      icombine HSI Hb gives %hb
      ihave H := (pointsTo_read_all (Pipeline.ucRefs τ sig) (fun b => ((c : Thread nD τ).1, b)) (Wend m c) s') $$ [Hh HSI]
      · isplitl [Hh]; · iexact Hh
        iexact HSI
      icases H with ⟨%h, HSI⟩
      imodintro
      isplitr
      · ipureintro
        exact ⟨h, by simpa using hb⟩
      iexact HSI)
    (hQ := fun s h hs => ⟨fun c => (h c).1,
      sem_eq_zero hs fun c sm hsm => by
        obtain rfl := unscoped_eq sm hsm
        exact (h c).2⟩)

end Cert.Attn
end
-- ==== Proof.Frames.lean ====
/- The frames: what a run leaves unchanged, of the idealized kernel and of the kernel itself. -/
module

public import proofs.«01_k».proof.Defs
public import proofs.«01_k».proof.Proof.Gen.Kernel
public import proofs.«01_k».proof.Proof.Launch

@[expose] public section

set_option maxRecDepth 16384

noncomputable section

namespace Cert.Attn

open Cert.KernelIdeal Cert.KernelIdeal.Gen
open Idealize.ShloMosaic
open Idealize.ShloMosaic.TcCoe
open Idealize.SL.Sem

section
variable {F : FTy → Type} [FloatOps F] [Named F]
variable (m : (ℓ : Loc nD τ sig) → Buf (Elt F) ℓ) (ρ : Dev nD → PrngReg)

/-- A buffer that the launch's host operations and the kernel leave alone holds at the end what it held at launch. -/
theorem Wend_kept (c : Dev nD) (r : Ref sig .tc) (h : (Proc.devRef .tc r : DevRef τ sig) ≠ Proc.devRef .tc main_v10)
    (h0 : r ∉ hostOps0_W) (h1 : r ∉ hostOps0_1_W) (h2 : r ∉ hostOps0_2_W) (h3 : r ∉ hostOps0_3_W) (h4 : r ∉ hostOps0_4_W) :
    Wend m c r = m ((c : Thread nD τ).loc r) :=
  (Wend_of m c (Proc.devRef .tc r) h).trans <| (V5_of m c r h4).trans <| (V4_of m c r h3).trans <| (V3_of m c r h2).trans <|
    (V2_of m c r h1).trans <| (V1_of m c r h0).trans rfl

theorem uc (r : Ref sig .tc) (h : ¬ r.isScoped) : (Proc.devRef .tc r : DevRef τ sig) ∈ Pipeline.ucRefs τ sig :=
  Finset.mem_filter.mpr ⟨StableHlo.devRef_mem_tcRefs r, by simpa using h⟩

/-- Every execution ends with the result at its value, the arguments unchanged and all counters at zero. -/
theorem run_args : θ_run defs (onTc (τ := τ) (main (F := F))) ⟨m, fun _ => 0, ρ⟩ fun r =>
    (∀ c : Dev nD,
      r.2.mem ((c.tc : Thread nD τ).loc main_v10) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c => ⟨(h.1 c _ (uc main_v10 (by decide))).trans (Wend_res m c),
    (h.1 c _ (uc main_arg0 (by decide))).trans (Wend_kept m c main_arg0 (by decide) (by decide) (by decide) (by decide) (by decide) (by decide)),
    (h.1 c _ (uc main_arg1 (by decide))).trans (Wend_kept m c main_arg1 (by decide) (by decide) (by decide) (by decide) (by decide) (by decide)),
    (h.1 c _ (uc main_arg2 (by decide))).trans (Wend_kept m c main_arg2 (by decide) (by decide) (by decide) (by decide) (by decide) (by decide)),
    (h.1 c _ (uc main_arg3 (by decide))).trans (Wend_kept m c main_arg3 (by decide) (by decide) (by decide) (by decide) (by decide) (by decide)),
    (h.1 c _ (uc main_arg4 (by decide))).trans (Wend_kept m c main_arg4 (by decide) (by decide) (by decide) (by decide) (by decide) (by decide))⟩, h.2⟩)
    (run_all m ρ)
end

theorem quiescent_ideal : Cert.quiescent_KernelIdeal := fun m ρ _ =>
  (θ_run defs _ _).mono (fun _ h => ⟨fun c => (h.1 c).2, h.2⟩) (run_args (F := Ideal) m ρ)

end Cert.Attn

/-! ## The kernel itself

Its program is the idealized one, read where a named constant is the word it was printed with. -/

namespace Cert.Twin

open Idealize.ShloMosaic
open Idealize.ShloMosaic.TcCoe
open Idealize.SL.Sem

local instance plain {F : FTy → Type} [FloatOps F] : Named F := ⟨fun _ _ {φ} b => FloatOps.ofBits φ b⟩

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

set_option maxHeartbeats 4000000 in
theorem quiescent : Cert.quiescent_Kernel := fun m ρ _ => by
  have h := Cert.Attn.run_args (F := Bits) m ρ
  have hd : Cert.Kernel.defs (F := Bits) = Cert.KernelIdeal.defs (F := Bits) := congrArg (Pipeline.defs _) defs₀_eq
  rw [hd]
  exact (θ_run _ _ _).mono (fun _ h => ⟨fun c => (h.1 c).2, h.2⟩) h

end Cert.Twin
end
-- ==== Proof.Softmax.lean ====
/-
Softmax on the extended reals, over scores that are real where an entry is kept and `⊥` where it is masked: the quotient with the
row's maximum subtracted and the product with the denominator's reciprocal are one weight, and a sum over the kept columns of a
window is the sum over the kept keys.
-/
module

public import Idealize.ShloMosaic.PureOps.Ideal
public import Mathlib.Algebra.BigOperators.Fin

@[expose] public section

noncomputable section

namespace Cert.Attn

open Idealize.ShloMosaic

variable {ι κ : Type} [Fintype ι] [Fintype κ]

/-- A sum of reals, read in the extended reals. -/
theorem coe_sum (f : ι → ℝ) : ((∑ k, f k : ℝ) : EReal) = ∑ k, (f k : EReal) := by
  classical
  induction (Finset.univ : Finset ι) using Finset.induction_on with
  | empty => simp
  | insert a s h ih => rw [Finset.sum_insert h, Finset.sum_insert h, EReal.coe_add, ih]

/-- A sum of products of reals. -/
theorem coe_dot (f g : ι → ℝ) : ∑ k, (f k : EReal) * (g k : EReal) = ((∑ k, f k * g k : ℝ) : EReal) := by
  rw [coe_sum]; exact Finset.sum_congr rfl fun k _ => (EReal.coe_mul _ _).symm

/-- The denominator of a row, -/
def den (keep : ι → Prop) [DecidablePred keep] (a : ι → ℝ) : ℝ := ∑ j, if keep j then Real.exp (a j) else 0
/-- and the weight of an entry. -/
def wt (keep : ι → Prop) [DecidablePred keep] (a : ι → ℝ) (k : ι) : ℝ := (if keep k then Real.exp (a k) else 0) / den keep a

theorem den_pos (keep : ι → Prop) [DecidablePred keep] (a : ι → ℝ) (h : ∃ k, keep k) : 0 < den keep a := by
  obtain ⟨k, hk⟩ := h
  refine Finset.sum_pos' (fun j _ => ?_) ⟨k, Finset.mem_univ k, ?_⟩
  · split_ifs
    · exact (Real.exp_pos _).le
    · exact le_rfl
  · rw [if_pos hk]; exact Real.exp_pos _

variable {keep : ι → Prop} [DecidablePred keep] {a : ι → ℝ} {e : ι → EReal}

theorem exp_kept (he : ∀ k, e k = if keep k then (a k : EReal) else ⊥) (k : ι) :
    Ideal.exp (e k) = ((if keep k then Real.exp (a k) else 0 : ℝ) : EReal) := by
  rw [he k]; split_ifs
  · exact Ideal.exp_coe _
  · simp

/-- The weight by the denominator's reciprocal, the maximum not subtracted. -/
theorem weight_reciprocal (h : ∃ k, keep k) (he : ∀ k, e k = if keep k then (a k : EReal) else ⊥) (k : ι) :
    Ideal.exp (e k) * Ideal.div 1 (∑ j, Ideal.exp (e j)) = (wt keep a k : EReal) := by
  have hd : (∑ j, Ideal.exp (e j)) = (den keep a : EReal) := by
    rw [den, coe_sum]; exact Finset.sum_congr rfl fun j _ => exp_kept he j
  rw [hd, exp_kept he k, Ideal.div_coe (den_pos keep a h).ne', one_mul, ← EReal.coe_mul, wt, mul_one_div]

/-- The largest score of a row is real. -/
theorem max_real (h : ∃ k, keep k) (he : ∀ k, e k = if keep k then (a k : EReal) else ⊥) :
    ∃ M : ℝ, (Finset.univ.fold max (⊥ : EReal) e) = (M : EReal) := by
  classical
  have key : ∀ s : Finset ι, (s.fold max (⊥ : EReal) e = ⊥ ∧ ∀ k ∈ s, ¬ keep k) ∨ ∃ M : ℝ, s.fold max (⊥ : EReal) e = (M : EReal) := by
    intro s
    induction s using Finset.induction_on with
    | empty => left; simp
    | insert k s hk ih =>
      rw [Finset.fold_insert hk, he k]
      by_cases hkeep : keep k
      · right
        rw [if_pos hkeep]
        rcases ih with ⟨h0, -⟩ | ⟨M, hM⟩
        · exact ⟨a k, by rw [h0]; exact max_eq_left bot_le⟩
        · exact ⟨max (a k) M, by rw [hM]; exact (EReal.coe_strictMono.monotone.map_max).symm⟩
      · rw [if_neg hkeep, max_eq_right bot_le]
        rcases ih with ⟨h0, h1⟩ | hM
        · left
          refine ⟨h0, fun j hj => ?_⟩
          rcases Finset.mem_insert.1 hj with rfl | hj
          · exact hkeep
          · exact h1 j hj
        · exact .inr hM
  obtain ⟨k, hk⟩ := h
  rcases key Finset.univ with ⟨-, h1⟩ | h
  · exact absurd hk (h1 k (Finset.mem_univ k))
  · exact h

/-- The weight as a quotient, the maximum subtracted. -/
theorem weight_quotient (h : ∃ k, keep k) (he : ∀ k, e k = if keep k then (a k : EReal) else ⊥) (k : ι) :
    Ideal.div (Ideal.exp (e k - Finset.univ.fold max (⊥ : EReal) e)) (∑ j, Ideal.exp (e j - Finset.univ.fold max (⊥ : EReal) e)) = (wt keep a k : EReal) := by
  obtain ⟨M, hM⟩ := max_real h he
  rw [hM]
  have hs : ∀ k, e k - (M : EReal) = if keep k then ((a k - M : ℝ) : EReal) else ⊥ := by
    intro k; rw [he k]; split_ifs
    · exact (EReal.coe_sub _ _).symm
    · exact EReal.bot_sub _
  have hd : (∑ j, Ideal.exp (e j - (M : EReal))) = (den keep (fun k => a k - M) : EReal) := by
    rw [den, coe_sum]; exact Finset.sum_congr rfl fun j _ => exp_kept (a := fun k => a k - M) hs j
  have hp := den_pos keep (fun k => a k - M) h
  rw [hd, exp_kept (a := fun k => a k - M) hs k, Ideal.div_coe hp.ne', ← EReal.coe_mul, mul_one_div]
  refine congrArg _ ?_
  have hden : den keep (fun k => a k - M) = den keep a * (Real.exp M)⁻¹ := by
    rw [den, den, Finset.sum_mul]
    refine Finset.sum_congr rfl fun j _ => ?_
    split_ifs
    · rw [Real.exp_sub, div_eq_mul_inv]
    · rw [zero_mul]
  have hnum : (if keep k then Real.exp (a k - M) else 0) = (if keep k then Real.exp (a k) else 0) * (Real.exp M)⁻¹ := by
    split_ifs
    · rw [Real.exp_sub, div_eq_mul_inv]
    · rw [zero_mul]
  have h1 : den keep a ≠ 0 := (den_pos keep a h).ne'
  have h2 : Real.exp M ≠ 0 := (Real.exp_pos M).ne'
  rw [hden, hnum, wt]
  field_simp

/-- A sum over the kept columns is the sum over the kept keys that they stand for. -/
theorem sum_kept {A : Type} [AddCommMonoid A] (keep : ι → Prop) [DecidablePred keep] (kept : κ → Prop) [DecidablePred kept] (f : κ → ι)
    (hm : ∀ j, kept j → keep (f j)) (hi : ∀ i j, kept i → kept j → f i = f j → i = j) (hs : ∀ k, keep k → ∃ j, kept j ∧ f j = k) (g : ι → A) :
    (∑ j, if kept j then g (f j) else 0) = ∑ k, if keep k then g k else 0 := by
  rw [← Finset.sum_filter, ← Finset.sum_filter]
  refine Finset.sum_bij (fun j _ => f j) ?_ ?_ ?_ ?_
  · intro j hj; exact Finset.mem_filter.2 ⟨Finset.mem_univ _, hm j (Finset.mem_filter.1 hj).2⟩
  · intro i hi' j hj' e; exact hi i j (Finset.mem_filter.1 hi').2 (Finset.mem_filter.1 hj').2 e
  · intro k hk
    obtain ⟨j, h1, h2⟩ := hs k (Finset.mem_filter.1 hk).2
    exact ⟨j, Finset.mem_filter.2 ⟨Finset.mem_univ _, h1⟩, h2⟩
  · intro j _; rfl

/-- The weighted sum over the columns is the weighted sum over the keys. -/
theorem weighted_kept (keep : ι → Prop) [DecidablePred keep] (kept : κ → Prop) [DecidablePred kept] (f : κ → ι)
    (hm : ∀ j, kept j → keep (f j)) (hi : ∀ i j, kept i → kept j → f i = f j → i = j) (hs : ∀ k, keep k → ∃ j, kept j ∧ f j = k)
    (a : ι → ℝ) (v : ι → EReal) :
    ∑ j, (wt kept (fun j => a (f j)) j : EReal) * v (f j) = ∑ k, (wt keep a k : EReal) * v k := by
  have hden : den kept (fun j => a (f j)) = den keep a := sum_kept keep kept f hm hi hs fun k => Real.exp (a k)
  refine Eq.trans (Finset.sum_congr rfl fun j _ => ?_) ((sum_kept keep kept f hm hi hs fun k => ((Real.exp (a k) / den keep a : ℝ) : EReal) * v k).trans
    (Finset.sum_congr rfl fun k _ => ?_))
  · rw [wt, hden]; split_ifs
    · rfl
    · rw [zero_div, EReal.coe_zero, zero_mul]
  · rw [wt]; split_ifs
    · rfl
    · rw [zero_div, EReal.coe_zero, zero_mul]

/-- A sum over blocks. -/
theorem sum_blocks {A : Type} [AddCommMonoid A] (m n : ℕ) (f : Fin (m * n) → A) :
    ∑ i, f i = ∑ o : Fin m, ∑ j : Fin n, f (finProdFinEquiv (o, j)) := by
  rw [← Finset.sum_product', ← Finset.univ_product_univ.symm]
  exact (Equiv.sum_comp finProdFinEquiv f).symm

end Cert.Attn
-- ==== Proof.Heads.lean ====
/-
One step of the kernel over the extended reals, at an element: a tile's heads and the dense rows' heads as sums.
-/
module

public import proofs.«01_k».proof.Proof.Hold
public import proofs.«01_k».proof.Proof.Out
public import Idealize.ShloMosaic.Lib.Pointwise
public import Idealize.ShloMosaic.Lib.Pipeline.Value

@[expose] public section

set_option maxRecDepth 16384

noncomputable section

namespace Cert.Attn

open Cert.KernelIdeal Cert.KernelIdeal.Gen
open Idealize.ShloMosaic

/-! ## A head -/

/-- One head of a tile at an element. -/
theorem tileHead_apply (b : Vec Ideal S256x640 .bf16) (qh : FVec Ideal S256x128 .bf16) (kh vh : FVec Ideal S640x128 .bf16) (r : Fin 256) (d : Fin 128) :
    tileHead b qh kh vh (ix2 r d) = ∑ j : Fin 640, (Ideal.exp ((∑ e : Fin 128, qh (ix2 r e) * kh (ix2 j e)) + b (ix2 r j))
      * Ideal.div 1 (∑ j' : Fin 640, Ideal.exp ((∑ e : Fin 128, qh (ix2 r e) * kh (ix2 j' e)) + b (ix2 r j')))) * vh (ix2 j d) := by
  pointwise [tileHead]

theorem denseHead_apply (qh : FVec Ideal S32x128 .bf16) (k v : Vec Ideal S1x2048x128 .bf16) (r : Fin 32) (d : Fin 128) :
    denseHead qh k v (ix2 r d) = ∑ j : Fin 2048, (Ideal.exp (∑ e : Fin 128, qh (ix2 r e) * k (ix3 0 j e))
      * Ideal.div 1 (∑ j' : Fin 2048, Ideal.exp (∑ e : Fin 128, qh (ix2 r e) * k (ix3 0 j' e)))) * v (ix3 0 j d) := by
  pointwise [denseHead]

/-- The projected queries at an element. -/
theorem tileQ_apply (x : Vec Ideal S256x1024 .bf16) (wq : Vec Ideal S1x1024x1024 .bf16) (r : Fin 256) (n : Fin 1024) :
    tileQ x wq (ix2 r n) = ∑ i : Fin 1024, x (ix2 r i) * wq (ix3 0 i n) := by
  pointwise [tileQ]

theorem denseQ_apply (x : Vec Ideal S32x1024 .bf16) (wq : Vec Ideal S1x1024x1024 .bf16) (r : Fin 32) (n : Fin 1024) :
    denseQ x wq (ix2 r n) = ∑ i : Fin 1024, x (ix2 r i) * wq (ix3 0 i n) := by
  pointwise [denseQ]

/-- The rows above one another at an element. -/
theorem tileKV_apply (g : Vec Ideal S1x128x1024 .bf16) (w : Vec Ideal S1x512x1024 .bf16) (j : Fin 640) (n : Fin 1024) :
    tileKV g w (ix2 j n) = if h : j.val < 128 then g (ix3 0 ⟨j.val, h⟩ n) else w (ix3 0 ⟨j.val - 128, by omega⟩ n) := by
  pointwise [tileKV]

/-! ## The heads side by side -/

/-- Eight blocks of columns side by side, at an element. -/
theorem eight_apply {n : ℕ} (T : Fin 8 → FVec Ideal ⟨2, ![n, 128]⟩ .bf16)
    (h : Shape.Concatenates ((List.ofFn fun k : Fin 8 => (⟨⟨2, ![n, 128]⟩, T k⟩ : (s : Shape) × (s.Idx → Ideal .bf16))).map (·.1)) ⟨2, ![n, 1024]⟩ 1)
    (r : Fin n) (c : Fin 1024) :
    concatenate ⟨2, ![n, 1024]⟩ 1 (List.ofFn fun k : Fin 8 => (⟨⟨2, ![n, 128]⟩, T k⟩ : (s : Shape) × (s.Idx → Ideal .bf16))) h (ix2 r c)
      = T ⟨c.val / 128, by omega⟩ (ix2 r ⟨c.val % 128, Nat.mod_lt _ (by decide)⟩) :=
  concatenate_ofFn_apply (t := ⟨2, ![n, 1024]⟩) (s₁ := ⟨2, ![n, 128]⟩) 1 T h rfl 128 rfl (ix2 r c) ⟨c.val / 128, by omega⟩ rfl
    (ix2 r ⟨c.val % 128, Nat.mod_lt _ (by decide)⟩) rfl (fun b hb => by fin_cases b <;> simp_all)

/-- The same of the blocks in a row. -/
theorem row_apply {n : ℕ} (T : Fin 8 → FVec Ideal ⟨2, ![n, 128]⟩ .bf16)
    (h : Shape.Concatenates (([⟨⟨2, ![n, 128]⟩, T 0⟩, ⟨⟨2, ![n, 128]⟩, T 1⟩, ⟨⟨2, ![n, 128]⟩, T 2⟩, ⟨⟨2, ![n, 128]⟩, T 3⟩, ⟨⟨2, ![n, 128]⟩, T 4⟩,
      ⟨⟨2, ![n, 128]⟩, T 5⟩, ⟨⟨2, ![n, 128]⟩, T 6⟩, ⟨⟨2, ![n, 128]⟩, T 7⟩] : List ((s : Shape) × (s.Idx → Ideal .bf16))).map (·.1)) ⟨2, ![n, 1024]⟩ 1)
    (r : Fin n) (c : Fin 1024) :
    concatenate ⟨2, ![n, 1024]⟩ 1 ([⟨⟨2, ![n, 128]⟩, T 0⟩, ⟨⟨2, ![n, 128]⟩, T 1⟩, ⟨⟨2, ![n, 128]⟩, T 2⟩, ⟨⟨2, ![n, 128]⟩, T 3⟩, ⟨⟨2, ![n, 128]⟩, T 4⟩,
      ⟨⟨2, ![n, 128]⟩, T 5⟩, ⟨⟨2, ![n, 128]⟩, T 6⟩, ⟨⟨2, ![n, 128]⟩, T 7⟩] : List ((s : Shape) × (s.Idx → Ideal .bf16))) h (ix2 r c)
      = T ⟨c.val / 128, by omega⟩ (ix2 r ⟨c.val % 128, Nat.mod_lt _ (by decide)⟩) :=
  eight_apply T h r c

/-- Equal lists of blocks are equal side by side. -/
theorem concat_congr {α : Type} {t : Shape} {a : Fin t.rank} {xs ys : List ((s : Shape) × (s.Idx → α))} (e : xs = ys) (h h') :
    concatenate t a xs h = concatenate t a ys h' := by subst e; rfl

/-- The columns of a head. -/
theorem head_slices {n : ℕ} (h : Fin 8) : (⟨2, ![n, 1024]⟩ : Shape).Slices ![0, 128 * h.val] ⟨2, ![n, 128]⟩ := by
  refine ⟨rfl, fun a => ?_⟩
  have := h.isLt
  fin_cases a <;> simp <;> omega

/-- The columns of a head, at an element. -/
theorem head_apply {n : ℕ} (x : FVec Ideal ⟨2, ![n, 1024]⟩ .bf16) (h : Fin 8) (r : Fin n) (d : Fin 128) :
    extractStridedSlice ⟨2, ![n, 128]⟩ ![0, 128 * h.val] x (head_slices h) (ix2 r d) = x (ix2 r ⟨128 * h.val + d.val, by omega⟩) :=
  extractStridedSlice_apply _ _ _ _ _ (fun a => by fin_cases a <;> simp)

/-- The product with the block of the output projection, at an element. -/
theorem tileOut_apply (x : FVec Ideal S256x1024 .bf16) (wo : Vec Ideal S1x1024x1024 .bf16) (r : Fin 256) (n : Fin 1024) :
    matmul (φ₁ := .bf16) (φ₂ := .bf16) dot_S256x1024_S1024x1024_S256x1024_1_0_0_1_n_n none x (shapeCast S1024x1024 wo shapeCasts_S1x1024x1024_S1024x1024)
      (constant (F := Ideal) S256x1024 .f32 0x00000000#32) (ix2 r n) = ∑ c : Fin 1024, x (ix2 r c) * wo (ix3 0 c n) := by
  pointwise

theorem denseOut_apply (x : FVec Ideal S32x1024 .bf16) (wo : Vec Ideal S1x1024x1024 .bf16) (r : Fin 32) (n : Fin 1024) :
    matmul (φ₁ := .bf16) (φ₂ := .bf16) dot_S32x1024_S1024x1024_S32x1024_1_0_0_1_n_n none x (shapeCast S1024x1024 wo shapeCasts_S1x1024x1024_S1024x1024)
      (constant (F := Ideal) S32x1024 .f32 0x00000000#32) (ix2 r n) = ∑ c : Fin 1024, x (ix2 r c) * wo (ix3 0 c n) := by
  pointwise

/-- A column's head. -/
abbrev headOf (c : Fin 1024) : Fin 8 := ⟨c.val / 128, by omega⟩
/-- and its place in it. -/
abbrev inHead (c : Fin 1024) : Fin 128 := ⟨c.val % 128, Nat.mod_lt _ (by decide)⟩

/-- A step of a tile at an element. -/
theorem tileCore_apply (x : Vec Ideal S256x1024 .bf16) (wq : Vec Ideal S1x1024x1024 .bf16) (b : Vec Ideal S256x640 .bf16)
    (kg : Vec Ideal S1x128x1024 .bf16) (kw : Vec Ideal S1x512x1024 .bf16) (vg : Vec Ideal S1x128x1024 .bf16) (vw : Vec Ideal S1x512x1024 .bf16)
    (wo : Vec Ideal S1x1024x1024 .bf16) (r : Fin 256) (n : Fin 1024) :
    tileCore x wq b kg kw vg vw wo (ix2 r n) = ∑ c : Fin 1024,
      tileHead b (extractStridedSlice S256x128 ![0, 128 * (headOf c).val] (tileQ x wq) (head_slices (headOf c)))
        (extractStridedSlice S640x128 ![0, 128 * (headOf c).val] (tileKV kg kw) (head_slices (headOf c)))
        (extractStridedSlice S640x128 ![0, 128 * (headOf c).val] (tileKV vg vw) (head_slices (headOf c)))
        (ix2 r (inHead c)) * wo (ix3 0 c n) := by
  refine (tileOut_apply _ _ _ _).trans (Finset.sum_congr rfl fun c _ => congrArg (· * wo (ix3 0 c n)) ?_)
  have h8 := row_apply (n := 256) (fun h =>
    tileHead b (extractStridedSlice S256x128 ![0, 128 * h.val] (tileQ x wq) (head_slices h))
      (extractStridedSlice S640x128 ![0, 128 * h.val] (tileKV kg kw) (head_slices h))
      (extractStridedSlice S640x128 ![0, 128 * h.val] (tileKV vg vw) (head_slices h)))
    concatenates_S256x128_S256x128_S256x128_S256x128_S256x128_S256x128_S256x128_S256x128_S256x1024_d1 r c
  refine Eq.trans (congrFun ?_ _) h8
  exact concat_congr rfl _ _

/-- A step of the dense rows at an element. -/
theorem denseCore_apply (x : Vec Ideal S32x1024 .bf16) (wq : Vec Ideal S1x1024x1024 .bf16) (k v : Fin 8 → Vec Ideal S1x2048x128 .bf16)
    (wo : Vec Ideal S1x1024x1024 .bf16) (r : Fin 32) (n : Fin 1024) :
    denseCore x wq k v wo (ix2 r n) = ∑ c : Fin 1024,
      denseHead (extractStridedSlice S32x128 ![0, 128 * (headOf c).val] (denseQ x wq) (head_slices (headOf c))) (k (headOf c)) (v (headOf c))
        (ix2 r (inHead c)) * wo (ix3 0 c n) := by
  refine (denseOut_apply _ _ _ _).trans (Finset.sum_congr rfl fun c _ => congrArg (· * wo (ix3 0 c n)) ?_)
  have h8 := row_apply (n := 32) (fun h =>
    denseHead (extractStridedSlice S32x128 ![0, 128 * h.val] (denseQ x wq) (head_slices h)) (k h) (v h))
    concatenates_S32x128_S32x128_S32x128_S32x128_S32x128_S32x128_S32x128_S32x128_S32x1024_d1 r c
  refine Eq.trans (congrFun ?_ _) h8
  exact concat_congr rfl _ _

end Cert.Attn
-- ==== Proof.Bias.lean ====
/-
The mask: which keys a row attends to, as the reference's words and the kernel's biases give it.
-/
module

public import proofs.«01_k».proof.Proof.Hold
public import proofs.«01_k».proof.Proof.Out
public import Idealize.ShloMosaic.Lib.Pointwise
public import Idealize.ShloMosaic.Lib.StableHlo.Predicate

@[expose] public section

set_option maxRecDepth 16384

noncomputable section

namespace Cert.Attn

open Cert.KernelIdeal Cert.KernelIdeal.Gen
open Idealize.ShloMosaic

/-- A row attends to a key: the two are at most 128 apart, or either is one of the first thirty-two. -/
def near (r k : ℕ) : Prop := ((r ≤ k + 128 ∧ k ≤ r + 128) ∨ k < 32) ∨ r < 32

instance (r k : ℕ) : Decidable (near r k) := by unfold near; infer_instance

/-! ## Words -/

theorem or_one (x y : BitVec 1) : IntOp.ori x y = 1#1 ↔ x = 1#1 ∨ y = 1#1 := by revert x y; decide
theorem and_one (x y : BitVec 1) : IntOp.andi x y = 1#1 ↔ x = 1#1 ∧ y = 1#1 := by revert x y; decide

theorem slt_one (a b : ℕ) (ha : a < 2 ^ 31) (hb : b < 2 ^ 31) :
    IntOp.cmpi .slt (BitVec.ofNat 32 a) (BitVec.ofNat 32 b) = 1#1 ↔ a < b := by
  rw [IntOp.cmpi, StableHlo.Predicate.ofBool_eq_one_iff]
  simp only [BitVec.slt, StableHlo.Predicate.toInt_ofNat_small a ha, StableHlo.Predicate.toInt_ofNat_small b hb, decide_eq_true_eq]; omega
theorem sle_one (a b : ℕ) (ha : a < 2 ^ 31) (hb : b < 2 ^ 31) :
    IntOp.cmpi .sle (BitVec.ofNat 32 a) (BitVec.ofNat 32 b) = 1#1 ↔ a ≤ b := by
  rw [IntOp.cmpi, StableHlo.Predicate.ofBool_eq_one_iff]
  simp only [BitVec.sle, StableHlo.Predicate.toInt_ofNat_small a ha, StableHlo.Predicate.toInt_ofNat_small b hb, decide_eq_true_eq]; omega
theorem sge_one (a b : ℕ) (ha : a < 2 ^ 31) (hb : b < 2 ^ 31) :
    IntOp.cmpi .sge (BitVec.ofNat 32 a) (BitVec.ofNat 32 b) = 1#1 ↔ b ≤ a := by
  rw [IntOp.cmpi, StableHlo.Predicate.ofBool_eq_one_iff]
  simp only [BitVec.sle, StableHlo.Predicate.toInt_ofNat_small a ha, StableHlo.Predicate.toInt_ofNat_small b hb, decide_eq_true_eq]; omega

theorem sub_words (a b : ℕ) (ha : a < 2 ^ 31) (hb : b ≤ a) : BitVec.ofNat 32 a - BitVec.ofNat 32 b = BitVec.ofNat 32 (a - b) := by
  apply BitVec.eq_of_toNat_eq
  simp only [BitVec.toNat_sub, BitVec.toNat_ofNat]; omega

/-- The distance of two small numbers, as a word. -/
theorem absi_sub (x y : ℕ) (hx : x < 2 ^ 30) (hy : y < 2 ^ 30) :
    IntOp.absi (IntOp.subi (BitVec.ofNat 32 x) (BitVec.ofNat 32 y)) = BitVec.ofNat 32 ((x - y) + (y - x)) := by
  show (if (BitVec.ofNat 32 x - BitVec.ofNat 32 y).msb then -(BitVec.ofNat 32 x - BitVec.ofNat 32 y) else BitVec.ofNat 32 x - BitVec.ofNat 32 y) = _
  rcases Nat.lt_or_ge x y with h | h
  · have e : BitVec.ofNat 32 x - BitVec.ofNat 32 y = -(BitVec.ofNat 32 (y - x)) := by
      apply BitVec.eq_of_toNat_eq
      simp only [BitVec.toNat_sub, BitVec.toNat_neg, BitVec.toNat_ofNat]; omega
    have hm : (BitVec.ofNat 32 x - BitVec.ofNat 32 y).msb = true := by
      rw [BitVec.msb_eq_decide, decide_eq_true_eq]
      simp only [BitVec.toNat_sub, BitVec.toNat_ofNat]; omega
    rw [hm, if_pos rfl, e, BitVec.neg_neg]
    congr 1; omega
  · have hm : (BitVec.ofNat 32 x - BitVec.ofNat 32 y).msb = false := by
      rw [BitVec.msb_eq_decide, decide_eq_false_iff_not]
      simp only [BitVec.toNat_sub, BitVec.toNat_ofNat]; omega
    rw [hm, if_neg (by decide), sub_words x y (by omega) h]
    congr 1; omega

/-- The mask of a row and a key, as a word. -/
abbrev nearW (x y : BitVec 32) : BitVec 1 :=
  IntOp.ori (IntOp.ori (IntOp.cmpi .sle (IntOp.absi (IntOp.subi x y)) 128#32) (IntOp.cmpi .slt y 32#32)) (IntOp.cmpi .slt x 32#32)

theorem nearW_one (x y : ℕ) (hx : x < 2 ^ 30) (hy : y < 2 ^ 30) : nearW (BitVec.ofNat 32 x) (BitVec.ofNat 32 y) = 1#1 ↔ near x y := by
  rw [nearW, or_one, or_one, absi_sub x y hx hy, sle_one _ _ (by omega) (by omega), slt_one _ _ (by omega) (by omega), slt_one _ _ (by omega) (by omega), near]
  omega

/-- The mask of a tile's row and a window's column, as a word. -/
abbrev winW (a b i j : ℕ) : BitVec 1 :=
  IntOp.andi (IntOp.cmpi .sge (BitVec.ofNat 32 j) 128#32)
    (nearW (IntOp.addi (BitVec.ofNat 32 i) (BitVec.ofNat 32 a)) (IntOp.subi (IntOp.addi (BitVec.ofNat 32 b) (BitVec.ofNat 32 j)) 128#32))

theorem winW_one (a b i j : ℕ) (ha : a < 2048) (hb : b < 2048) (hi : i < 2048) (hj : j < 2048) :
    winW a b i j = 1#1 ↔ 128 ≤ j ∧ near (a + i) (b + j - 128) := by
  rw [winW, and_one, sge_one _ _ (by omega) (by omega)]
  refine and_congr_right fun h => ?_
  have e1 : IntOp.addi (BitVec.ofNat 32 i) (BitVec.ofNat 32 a) = BitVec.ofNat 32 (a + i) := by
    rw [Nat.add_comm]; exact (BitVec.ofNat_add _ _).symm
  have e2 : IntOp.subi (IntOp.addi (BitVec.ofNat 32 b) (BitVec.ofNat 32 j)) 128#32 = BitVec.ofNat 32 (b + j - 128) := by
    rw [← sub_words _ _ (by omega) (by omega), BitVec.ofNat_add]; rfl
  rw [e1, e2, nearW_one _ _ (by omega) (by omega)]

theorem mask_bot : Named.named (F := Ideal) κ "mask" (φ := .f32) 0xC6EA6000#32 = (⊥ : EReal) :=
  IdealRules.named_const.ideal_named_scalar _ _ _ _ rfl

theorem select_word {α : Type} (c : BitVec 1) (P : Prop) [Decidable P] (h : c = 1#1 ↔ P) (x y : α) : Scalar.select c x y = if P then x else y := by
  unfold Scalar.select
  by_cases hp : P
  · rw [if_pos hp]; exact if_pos (h.2 hp)
  · rw [if_neg hp]; exact if_neg (fun hc => hp (h.1 hc))

/-! ## A tile's biases -/

/-- The columns that a row keeps: those of the window that it attends to, and, in every tile but the first, the first thirty-two. -/
def keptCol (r : ℕ) (j : ℕ) : Prop := (128 ≤ j ∧ near r (winOff (r / 256) + (j - 128))) ∨ (256 ≤ r ∧ j < 32)

instance (r j : ℕ) : Decidable (keptCol r j) := by unfold keptCol; infer_instance

/-- A tile's biases: `0` where a column is kept, `⊥` where it is not. -/
abbrev tileBias (t : ℕ) (i : Fin 256) (j : Fin 640) : EReal := if keptCol (256 * t + i.val) j.val then 0 else ⊥

theorem tile_first (i : Fin 256) (j : Fin 640) :
    Scalar.select (winW 0 0 i.val j.val) (0 : EReal) (Named.named (F := Ideal) κ "mask" (φ := .f32) 0xC6EA6000#32) = tileBias 0 i j := by
  rw [mask_bot]
  refine select_word _ _ ((winW_one 0 0 i.val j.val (by omega) (by omega) (by omega) (by omega)).trans ?_) _ _
  have h0 : (256 * 0 + i.val) / 256 = 0 := by omega
  have h1 : 0 + j.val - 128 = winOff 0 + (j.val - 128) := by simp [winOff]
  rw [keptCol, h0, h1]
  simp only [Nat.mul_zero, Nat.zero_add]
  constructor
  · exact fun h => .inl h
  · rintro (h | h)
    · exact h
    · omega

theorem tile_later (t : ℕ) (b : ℕ) (ht : 1 ≤ t ∧ t < 8) (hb : b = winOff t + 0) (i : Fin 256) (j : Fin 640) :
    Scalar.select (IntOp.ori (winW (256 * t) b i.val j.val) (IntOp.cmpi .slt (BitVec.ofNat 32 j.val) 32#32)) (0 : EReal)
      (Named.named (F := Ideal) κ "mask" (φ := .f32) 0xC6EA6000#32) = tileBias t i j := by
  subst hb
  rw [mask_bot]
  refine select_word _ _ ?_ _ _
  have hw : winOff t ≤ 1536 := Nat.min_le_right _ _
  rw [or_one, winW_one _ _ _ _ (by omega) (by omega) (by omega) (by omega), slt_one _ _ (by omega) (by omega)]
  have h0 : (256 * t + i.val) / 256 = t := by omega
  rw [keptCol, h0]
  refine or_congr (and_congr_right fun h => ?_) ⟨fun h => ⟨by omega, h⟩, fun h => h.2⟩
  rw [show winOff t + 0 + j.val - 128 = winOff t + (j.val - 128) by omega]

/-- The eight tiles' biases as the program computes them. -/
abbrev biasP (t : Fin 8) : FVec Ideal S256x640 .bf16 :=
  have w : IVec S256x640 32 := iota .tc S256x640 32 [1] iota_S256x640_d1_w32
  match t with
  | 0 => k0_pay87
  | 1 => k0_pay90 k0_pay88 w k0_pay89 128#32
  | 2 => k0_pay95 k0_pay91 w k0_pay92 k0_pay93 k0_pay94
  | 3 => k0_pay97 k0_pay96
  | 4 => k0_pay98
  | 5 => k0_pay102 k0_pay99 w k0_pay100 k0_pay101
  | 6 => k0_pay104 w k0_pay103 32#32
  | 7 => k0_pay105

theorem biasP_apply (t : Fin 8) (i : Fin 256) (j : Fin 640) : biasP t (ix2 i j) = tileBias t.val i j := by
  match t with
  | 0 => pointwise [biasP, k0_pay87]; exact tile_first i j
  | 1 => pointwise [biasP, k0_pay90, k0_pay88, k0_pay89]; exact tile_later 1 128 (by decide) (by decide) i j
  | 2 => pointwise [biasP, k0_pay95, k0_pay91, k0_pay92, k0_pay93, k0_pay94]; exact tile_later 2 384 (by decide) (by decide) i j
  | 3 => pointwise [biasP, k0_pay97, k0_pay96]; exact tile_later 3 640 (by decide) (by decide) i j
  | 4 => pointwise [biasP, k0_pay98]; exact tile_later 4 896 (by decide) (by decide) i j
  | 5 => pointwise [biasP, k0_pay102, k0_pay99, k0_pay100, k0_pay101]; exact tile_later 5 1152 (by decide) (by decide) i j
  | 6 => pointwise [biasP, k0_pay104, k0_pay103]; exact tile_later 6 1408 (by decide) (by decide) i j
  | 7 => pointwise [biasP, k0_pay105]; exact tile_later 7 1536 (by decide) (by decide) i j

/-! ## All the biases -/

/-- A store of rows at an element that they hold, and at one that they do not. -/
theorem bias_hit (O : Vec Ideal S2048x640 .bf16) (L : List (View.Piece (Elt Ideal) S2048x640 .bf16)) {off size : Fin 2 → ℕ}
    (h : ∀ a, off a + size a ≤ S2048x640.size a) (w : (Rect.unit (s := S2048x640) off size h).shape.Idx → Elt Ideal .bf16) (i : S2048x640.Idx)
    (x : (Rect.unit (s := S2048x640) off size h).shape.Idx) (hx : ∀ a, (i a).val = off a + (x a).val) :
    bM.view.writes (Elt Ideal) O (⟨Rect.unit (s := S2048x640) off size h, w⟩ :: L) i = w x :=
  bM.view.read_writes_cons_hit_of_coords O (Rect.unit (s := S2048x640) off size h) w L x i
    (fun a => by rw [hx a]; exact congrArg (off a + ·) (Nat.one_mul _).symm)
theorem bias_miss (O : Vec Ideal S2048x640 .bf16) (L : List (View.Piece (Elt Ideal) S2048x640 .bf16)) {off size : Fin 2 → ℕ}
    (h : ∀ a, off a + size a ≤ S2048x640.size a) (w : (Rect.unit (s := S2048x640) off size h).shape.Idx → Elt Ideal .bf16) (i : S2048x640.Idx)
    (hx : (i 0).val < off 0 ∨ off 0 + size 0 ≤ (i 0).val) :
    bM.view.writes (Elt Ideal) O (⟨Rect.unit (s := S2048x640) off size h, w⟩ :: L) i = bM.view.writes (Elt Ideal) O L i :=
  bM.view.read_writes_cons_miss_of_axis O ⟨Rect.unit (s := S2048x640) off size h, w⟩ L i 0 (off 0) (size 0) rfl rfl rfl hx

/-- A store of a tile's biases, at an element. -/
theorem bias_step (O : Vec Ideal S2048x640 .bf16) (L : List (View.Piece (Elt Ideal) S2048x640 .bf16)) (o : ℕ)
    (h : ∀ a, (![o, 0] : Fin 2 → ℕ) a + S256x640.size a ≤ S2048x640.size a) (w : FVec Ideal S256x640 .bf16) (r : Fin 2048) (j : Fin 640) (e : EReal)
    (hit : ∀ hr : o ≤ r.val ∧ r.val < o + 256, w (ix2 ⟨r.val - o, by omega⟩ j) = e)
    (miss : ¬ (o ≤ r.val ∧ r.val < o + 256) → bM.view.writes (Elt Ideal) O L (ix2 r j) = e) :
    bM.view.writes (Elt Ideal) O (⟨Rect.unit (s := S2048x640) ![o, 0] S256x640.size h, w⟩ :: L) (ix2 r j) = e := by
  by_cases hr : o ≤ r.val ∧ r.val < o + 256
  · have hx : ∀ a, ((ix2 r j) a).val = (![o, 0] : Fin 2 → ℕ) a + ((ix2 (n0 := 256) (n1 := 640) ⟨r.val - o, by omega⟩ j) a).val := by
      intro a; fin_cases a <;> simp <;> omega
    exact (bias_hit O L (off := ![o, 0]) (size := S256x640.size) h w (ix2 r j) (ix2 (n0 := 256) (n1 := 640) ⟨r.val - o, by omega⟩ j) hx).trans (hit hr)
  · refine (bias_miss O L (off := ![o, 0]) (size := S256x640.size) h w (ix2 r j) ?_).trans (miss hr)
    show r.val < o ∨ o + 256 ≤ r.val
    omega

/-- The biases at an element. -/
theorem biasV_apply (r : Fin 2048) (j : Fin 640) : (biasV (F := Ideal)) (ix2 r j) = if keptCol r.val j.val then (0 : EReal) else ⊥ := by
  have key : ∀ t : Fin 8, ∀ h : r.val / 256 = t.val, ∀ i : Fin 256, i.val = r.val - 256 * t.val →
      biasP t (ix2 i j) = if keptCol r.val j.val then (0 : EReal) else ⊥ := by
    intro t h i hi
    rw [biasP_apply, tileBias, show 256 * t.val + i.val = r.val by omega]
  have hr := r.isLt
  unfold biasV
  refine bias_step _ _ 1792 _ _ r j _ (fun h => key 7 (by show _ = 7; omega) _ rfl) fun h7 => ?_
  refine bias_step _ _ 1536 _ _ r j _ (fun h => key 6 (by show _ = 6; omega) _ rfl) fun h6 => ?_
  refine bias_step _ _ 1280 _ _ r j _ (fun h => key 5 (by show _ = 5; omega) _ rfl) fun h5 => ?_
  refine bias_step _ _ 1024 _ _ r j _ (fun h => key 4 (by show _ = 4; omega) _ rfl) fun h4 => ?_
  refine bias_step _ _ 768 _ _ r j _ (fun h => key 3 (by show _ = 3; omega) _ rfl) fun h3 => ?_
  refine bias_step _ _ 512 _ _ r j _ (fun h => key 2 (by show _ = 2; omega) _ rfl) fun h2 => ?_
  refine bias_step _ _ 256 _ _ r j _ (fun h => key 1 (by show _ = 1; omega) _ rfl) fun h1 => ?_
  refine bias_step _ _ 0 _ _ r j _ (fun h => key 0 (by show _ = 0; omega) _ rfl) fun h0 => ?_
  omega

end Cert.Attn
-- ==== Proof.Step.lean ====
/-
One step of the kernel at an element: the block's part of the attention's output, over real activations, weights and keys.
-/
module

public import proofs.«01_k».proof.Proof.Softmax
public import proofs.«01_k».proof.Proof.Heads
public import proofs.«01_k».proof.Proof.Bias

@[expose] public section

set_option maxRecDepth 16384

noncomputable section

namespace Cert.Attn

open Cert.KernelIdeal Cert.KernelIdeal.Gen
open Idealize.ShloMosaic

/-! ## The attention of one batch -/

/-- The column of a head's entry. -/
abbrev colOf (g : Fin 32) (d : Fin 128) : Fin 4096 := ⟨128 * g.val + d.val, by omega⟩
/-- The head of a column. -/
abbrev headAt (n : Fin 4096) : Fin 32 := ⟨n.val / 128, by omega⟩

/-- The score of a row and a key in a head. -/
def score (x : Fin 2048 → Fin 1024 → ℝ) (w : Fin 1024 → Fin 4096 → ℝ) (kk : Fin 2048 → Fin 4096 → ℝ) (g : Fin 32) (r k : Fin 2048) : ℝ :=
  (∑ d : Fin 128, (∑ i : Fin 1024, x r i * w i (colOf g d)) * kk k (colOf g d)) * (Real.sqrt 128)⁻¹

/-- The attention's context of a row at a column. -/
def context (x : Fin 2048 → Fin 1024 → ℝ) (w : Fin 1024 → Fin 4096 → ℝ) (kk : Fin 2048 → Fin 4096 → ℝ) (v : Fin 2048 → Fin 4096 → EReal)
    (r : Fin 2048) (n : Fin 4096) : EReal :=
  ∑ k : Fin 2048, (wt (fun k : Fin 2048 => near r.val k.val) (score x w kk (headAt n) r) k : EReal) * v k n

/-- The column of a block's column. -/
abbrev blockCol (o : Fin 4) (c : Fin 1024) : Fin 4096 := ⟨1024 * o.val + c.val, by omega⟩

theorem blockCol_head (o : Fin 4) (c : Fin 1024) (d : Fin 128) :
    blockCol o ⟨128 * (headOf c).val + d.val, by have := c.isLt; simp only [headOf]; omega⟩ = colOf (headAt (blockCol o c)) d := by
  apply Fin.ext; simp only [blockCol, headOf, colOf, headAt]; omega

/-- The scores as the kernel computes them, the scale in the weight. -/
theorem score_scaled (x : Fin 2048 → Fin 1024 → ℝ) (w : Fin 1024 → Fin 4096 → ℝ) (kk : Fin 2048 → Fin 4096 → ℝ) (g : Fin 32) (r k : Fin 2048)
    (q : Fin 128 → EReal) (kc : Fin 128 → EReal) (hq : ∀ d, q d = ∑ i : Fin 1024, (x r i : EReal) * ((w i (colOf g d) * (Real.sqrt 128)⁻¹ : ℝ) : EReal))
    (hk : ∀ d, kc d = (kk k (colOf g d) : EReal)) : ∑ d : Fin 128, q d * kc d = (score x w kk g r k : EReal) := by
  have hq' : ∀ d, q d = ((∑ i : Fin 1024, x r i * (w i (colOf g d) * (Real.sqrt 128)⁻¹) : ℝ) : EReal) := fun d =>
    (hq d).trans (coe_dot (fun i => x r i) (fun i => w i (colOf g d) * (Real.sqrt 128)⁻¹))
  rw [Finset.sum_congr rfl fun d _ => congrArg₂ (· * ·) (hq' d) (hk d)]
  refine (coe_dot _ _).trans (congrArg _ ?_)
  rw [score, Finset.sum_mul]
  refine Finset.sum_congr rfl fun d _ => ?_
  rw [Finset.sum_mul, Finset.sum_mul, Finset.sum_mul]
  refine Finset.sum_congr rfl fun i _ => ?_
  ring

/-! ## The keys of a tile's columns -/

/-- The key that a column of a tile stands for. -/
def keyOf (t : Fin 8) (j : Fin 640) : Fin 2048 :=
  ⟨if j.val < 128 then j.val else winOff t.val + (j.val - 128), by
    have : winOff t.val ≤ 1536 := Nat.min_le_right _ _
    split_ifs <;> omega⟩

theorem keyOf_val (t : Fin 8) (j : Fin 640) : (keyOf t j).val = if j.val < 128 then j.val else winOff t.val + (j.val - 128) := rfl

section Kept
variable (t : Fin 8) (r : Fin 2048) (ht : r.val / 256 = t.val) (hr : 32 ≤ r.val)
include ht hr

theorem kept_near (j : Fin 640) (h : keptCol r.val j.val) : near r.val (keyOf t j).val := by
  rw [keyOf_val]
  rcases h with ⟨h1, h2⟩ | ⟨h1, h2⟩
  · rw [if_neg (by omega), ← ht]; exact h2
  · rw [if_pos (by omega)]; exact .inl (.inr h2)

theorem kept_inj (i j : Fin 640) (hi : keptCol r.val i.val) (hj : keptCol r.val j.val) (e : keyOf t i = keyOf t j) : i = j := by
  have e' := congrArg Fin.val e
  rw [keyOf_val, keyOf_val] at e'
  have hb : 256 ≤ r.val → 128 ≤ winOff t.val := fun h => by simp only [winOff]; omega
  apply Fin.ext
  rcases hi with ⟨h1, -⟩ | ⟨h0, h1⟩ <;> rcases hj with ⟨h2, -⟩ | ⟨h0', h2⟩
  · rw [if_neg (by omega), if_neg (by omega)] at e'; omega
  · rw [if_neg (by omega), if_pos (by omega)] at e'; have := hb h0'; omega
  · rw [if_pos (by omega), if_neg (by omega)] at e'; have := hb h0; omega
  · rw [if_pos (by omega), if_pos (by omega)] at e'; exact e'

theorem kept_surj (k : Fin 2048) (h : near r.val k.val) : ∃ j : Fin 640, keptCol r.val j.val ∧ keyOf t j = k := by
  have hr' := r.isLt
  have hk := k.isLt
  have hw : winOff t.val = min (256 * t.val - 128) 1536 := rfl
  by_cases hin : winOff t.val ≤ k.val ∧ k.val < winOff t.val + 512
  · refine ⟨⟨128 + (k.val - winOff t.val), by omega⟩, .inl ⟨by show 128 ≤ 128 + _; omega, ?_⟩, ?_⟩
    · rw [ht]
      have : winOff t.val + (128 + (k.val - winOff t.val) - 128) = k.val := by omega
      rw [this]; exact h
    · apply Fin.ext
      rw [keyOf_val, if_neg (by show ¬ 128 + _ < 128; omega)]
      show winOff t.val + (128 + (k.val - winOff t.val) - 128) = k.val
      omega
  · have h32 : k.val < 32 := by
      rcases h with (h | h) | h
      · exfalso; apply hin; omega
      · exact h
      · omega
    have ht0 : 256 ≤ r.val := by
      by_contra hc
      apply hin; omega
    refine ⟨⟨k.val, by omega⟩, .inr ⟨ht0, h32⟩, ?_⟩
    apply Fin.ext
    rw [keyOf_val, if_pos (by show k.val < 128; omega)]

end Kept

/-! ## Reads of rows -/

/-- The place of an element of a unit-stride rectangle. -/
theorem unit_idx {s : Shape} {off size : Fin s.rank → ℕ} (h : ∀ a, off a + size a ≤ s.size a) (x : (Rect.unit (s := s) off size h).shape.Idx) (y : s.Idx)
    (hx : ∀ a, (y a).val = off a + (x a).val) : (Rect.unit (s := s) off size h).toLoadRect.idx x = y := by
  funext a
  apply Fin.ext
  rw [hx a]; exact congrArg (off a + ·) (Nat.one_mul _)

/-- A row of a tile in the batch. -/
abbrev rowOf (t : Fin 8) (i : Fin 256) : Fin 2048 := ⟨256 * t.val + i.val, by omega⟩

theorem read_x (X : Vec Ideal S2048x1024 .bf16) (t : Fin 8) (i : Fin 256) (n : Fin 1024) :
    xM.view.readAt (Elt Ideal) (rX t).toLoadRect X (ix2 i n) = X (ix2 (rowOf t i) n) :=
  congrArg X (unit_idx (s := S2048x1024) (off := ![256 * t.val, 0]) (size := S256x1024.size) _ (ix2 (n0 := 256) (n1 := 1024) i n) (ix2 (rowOf t i) n)
    (by intro a; fin_cases a <;> simp))
theorem read_x32 (X : Vec Ideal S2048x1024 .bf16) (i : Fin 32) (n : Fin 1024) :
    xM.view.readAt (Elt Ideal) rX32.toLoadRect X (ix2 i n) = X (ix2 ⟨i.val, by omega⟩ n) :=
  congrArg X (unit_idx (s := S2048x1024) (off := ![0, 0]) (size := S32x1024.size) _ (ix2 (n0 := 32) (n1 := 1024) i n) (ix2 ⟨i.val, by omega⟩ n)
    (by intro a; fin_cases a <;> simp))
theorem read_b (B : Vec Ideal S2048x640 .bf16) (t : Fin 8) (i : Fin 256) (j : Fin 640) :
    bM.view.readAt (Elt Ideal) (rB t).toLoadRect B (ix2 i j) = B (ix2 (rowOf t i) j) :=
  congrArg B (unit_idx (s := S2048x640) (off := ![256 * t.val, 0]) (size := S256x640.size) _ (ix2 (n0 := 256) (n1 := 640) i j) (ix2 (rowOf t i) j)
    (by intro a; fin_cases a <;> simp))
theorem read_q (W : Vec Ideal S4x1024x1024 .bf16) (o : Fin 4) (i n : Fin 1024) :
    qB.view.readAt (Elt Ideal) (rW o).toLoadRect W (ix3 0 i n) = W (ix3 o i n) :=
  congrArg W (unit_idx (s := S4x1024x1024) (off := ![o.val, 0, 0]) (size := S1x1024x1024.size) _ (ix3 (n0 := 1) (n1 := 1024) (n2 := 1024) 0 i n) (ix3 o i n)
    (by intro a; fin_cases a <;> simp))
theorem read_o (W : Vec Ideal S4x1024x1024 .bf16) (o : Fin 4) (i n : Fin 1024) :
    oB.view.readAt (Elt Ideal) (rW o).toLoadRect W (ix3 0 i n) = W (ix3 o i n) :=
  congrArg W (unit_idx (s := S4x1024x1024) (off := ![o.val, 0, 0]) (size := S1x1024x1024.size) _ (ix3 (n0 := 1) (n1 := 1024) (n2 := 1024) 0 i n) (ix3 o i n)
    (by intro a; fin_cases a <;> simp))

/-- The keys or values of a block, at an element. -/
theorem kvOf_apply (o : Fin 4) (H : Vec Ideal S2048x4096 .bf16) (p : Fin 2) (k : Fin 2048) (n : Fin 1024) :
    kvOf o H (ix3 p k n) = H (ix2 k (blockCol o n)) :=
  congrArg H (funext fun a => by fin_cases a <;> rfl)

theorem global_idx (p : Fin 2) (j : Fin 128) (n : Fin 1024) :
    (rG p).toLoadRect.idx (ix3 (n0 := 1) (n1 := 128) (n2 := 1024) 0 j n) = ix3 p ⟨j.val, by omega⟩ n :=
  unit_idx (s := S2x2048x1024) (off := ![p.val, 0, 0]) (size := S1x128x1024.size) _ (ix3 (n0 := 1) (n1 := 128) (n2 := 1024) 0 j n) _
    (by intro a; fin_cases a <;> simp)
theorem window_idx (p : Fin 2) (t : Fin 8) (j : Fin 512) (n : Fin 1024) :
    (rN p t).toLoadRect.idx (ix3 (n0 := 1) (n1 := 512) (n2 := 1024) 0 j n)
      = ix3 p ⟨winOff t.val + j.val, by have : winOff t.val ≤ 1536 := Nat.min_le_right _ _; omega⟩ n :=
  unit_idx (s := S2x2048x1024) (off := ![p.val, winOff t.val, 0]) (size := S1x512x1024.size) _ (ix3 (n0 := 1) (n1 := 512) (n2 := 1024) 0 j n) _
    (by intro a; fin_cases a <;> simp)
theorem head_idx (p : Fin 2) (h : Fin 8) (k : Fin 2048) (d : Fin 128) :
    (rH p h).toLoadRect.idx (ix3 (n0 := 1) (n1 := 2048) (n2 := 128) 0 k d) = ix3 p k ⟨128 * h.val + d.val, by omega⟩ :=
  unit_idx (s := S2x2048x1024) (off := ![p.val, 0, 128 * h.val]) (size := S1x2048x128.size) _ (ix3 (n0 := 1) (n1 := 2048) (n2 := 128) 0 k d) _
    (by intro a; fin_cases a <;> simp)

/-- A tile's keys or values at a column. -/
theorem tile_keys (o : Fin 4) (p : Fin 2) (t : Fin 8) (H : Vec Ideal S2048x4096 .bf16) (G : Vec Ideal S1x128x1024 .bf16) (N : Vec Ideal S1x512x1024 .bf16)
    (hG : ∀ j n, G (ix3 0 j n) = kvOf o H ((rG p).toLoadRect.idx (ix3 (n0 := 1) (n1 := 128) (n2 := 1024) 0 j n)))
    (hN : ∀ j n, N (ix3 0 j n) = kvOf o H ((rN p t).toLoadRect.idx (ix3 (n0 := 1) (n1 := 512) (n2 := 1024) 0 j n)))
    (j : Fin 640) (n : Fin 1024) : tileKV G N (ix2 j n) = H (ix2 (keyOf t j) (blockCol o n)) := by
  rw [tileKV_apply]
  by_cases h : j.val < 128
  · rw [dif_pos h, hG, global_idx, kvOf_apply]
    refine congrArg (fun k => H (ix2 k (blockCol o n))) (Fin.ext ?_)
    rw [keyOf_val, if_pos h]
  · rw [dif_neg h, hN, window_idx, kvOf_apply]
    refine congrArg (fun k => H (ix2 k (blockCol o n))) (Fin.ext ?_)
    rw [keyOf_val, if_neg h]

/-! ## A step -/

section Step
variable (x : Fin 2048 → Fin 1024 → ℝ) (w : Fin 1024 → Fin 4096 → ℝ) (kk : Fin 2048 → Fin 4096 → ℝ)
variable (X : Vec Ideal S2048x1024 .bf16) (WQ WO : Vec Ideal S4x1024x1024 .bf16) (KH VH : Vec Ideal S2048x4096 .bf16)
variable (hX : ∀ r i, X (ix2 r i) = (x r i : EReal))
variable (hW : ∀ o i n, WQ (ix3 o i n) = ((w i (blockCol o n) * (Real.sqrt 128)⁻¹ : ℝ) : EReal))
variable (hK : ∀ k n, KH (ix2 k n) = (kk k n : EReal))
include hX hW hK

/-- A tile's step at an element. -/
theorem tile_apply (o : Fin 4) (p : Fin 2) (t : Fin 8) (i : Fin 256) (n : Fin 1024) (h32 : 32 ≤ (rowOf t i).val) :
    tileV o p t X WQ WO (kvOf o KH) (kvOf o VH) biasV (ix2 i n)
      = ∑ c : Fin 1024, context x w kk (fun k n => VH (ix2 k n)) (rowOf t i) (blockCol o c) * WO (ix3 o c n) := by
  unfold tileV
  refine (tileCore_apply _ _ _ _ _ _ _ _ i n).trans (Finset.sum_congr rfl fun c _ => congrArg₂ (· * ·) ?_ (read_o WO o c n))
  have ht : (rowOf t i).val / 256 = t.val := by show (256 * t.val + i.val) / 256 = _; omega
  rw [tileHead_apply]
  have he : ∀ j : Fin 640, (∑ d : Fin 128,
      extractStridedSlice S256x128 ![0, 128 * (headOf c).val] (tileQ (xM.view.readAt (Elt Ideal) (rX t).toLoadRect X) (qB.view.readAt (Elt Ideal) (rW o).toLoadRect WQ)) (head_slices (headOf c)) (ix2 i d)
        * extractStridedSlice S640x128 ![0, 128 * (headOf c).val] (tileKV (kB.view.readAt (Elt Ideal) (rG p).toLoadRect (kvOf o KH)) (kB.view.readAt (Elt Ideal) (rN p t).toLoadRect (kvOf o KH))) (head_slices (headOf c)) (ix2 j d))
      + bM.view.readAt (Elt Ideal) (rB t).toLoadRect biasV (ix2 i j)
      = if keptCol (rowOf t i).val j.val then ((score x w kk (headAt (blockCol o c)) (rowOf t i) (keyOf t j) : ℝ) : EReal) else ⊥ := by
    intro j
    rw [score_scaled x w kk (headAt (blockCol o c)) (rowOf t i) (keyOf t j) _ _
      (fun d => by
        rw [head_apply, tileQ_apply]
        refine Finset.sum_congr rfl fun e _ => congrArg₂ (· * ·) ((read_x X t i e).trans (hX _ _)) ((read_q WQ o e _).trans ((hW _ _ _).trans ?_))
        rw [blockCol_head])
      (fun d => by
        rw [head_apply, tile_keys o p t KH _ _ (fun _ _ => rfl) (fun _ _ => rfl), hK, blockCol_head]),
      read_b, biasV_apply]
    split_ifs
    · exact add_zero _
    · exact EReal.add_bot _
  have hv : ∀ j : Fin 640,
      extractStridedSlice S640x128 ![0, 128 * (headOf c).val] (tileKV (vB.view.readAt (Elt Ideal) (rG p).toLoadRect (kvOf o VH)) (vB.view.readAt (Elt Ideal) (rN p t).toLoadRect (kvOf o VH))) (head_slices (headOf c)) (ix2 j (inHead c))
      = VH (ix2 (keyOf t j) (blockCol o c)) := by
    intro j
    rw [head_apply, tile_keys o p t VH _ _ (fun _ _ => rfl) (fun _ _ => rfl)]
    refine congrArg (fun n => VH (ix2 (keyOf t j) (blockCol o n))) (Fin.ext ?_)
    show 128 * (c.val / 128) + c.val % 128 = c.val
    omega
  have hne : ∃ j : Fin 640, keptCol (rowOf t i).val j.val := by
    obtain ⟨j, hj, -⟩ := kept_surj t (rowOf t i) ht h32 (rowOf t i) (.inl (.inl ⟨by omega, by omega⟩))
    exact ⟨j, hj⟩
  refine (Finset.sum_congr rfl fun j _ => congrArg₂ (· * ·) (weight_reciprocal (keep := fun j : Fin 640 => keptCol (rowOf t i).val j.val) hne he j) (hv j)).trans ?_
  exact weighted_kept (fun k : Fin 2048 => near (rowOf t i).val k.val) (fun j : Fin 640 => keptCol (rowOf t i).val j.val) (keyOf t)
    (kept_near t _ ht h32) (kept_inj t _ ht h32) (kept_surj t _ ht h32) (score x w kk (headAt (blockCol o c)) (rowOf t i)) (fun k => VH (ix2 k (blockCol o c)))

/-- The dense rows' step at an element. -/
theorem dense_apply (o : Fin 4) (p : Fin 2) (i : Fin 32) (n : Fin 1024) :
    denseV o p X WQ WO (kvOf o KH) (kvOf o VH) (ix2 i n)
      = ∑ c : Fin 1024, context x w kk (fun k n => VH (ix2 k n)) ⟨i.val, by omega⟩ (blockCol o c) * WO (ix3 o c n) := by
  unfold denseV
  refine (denseCore_apply _ _ _ _ _ i n).trans (Finset.sum_congr rfl fun c _ => congrArg₂ (· * ·) ?_ (read_o WO o c n))
  rw [denseHead_apply]
  have hread : ∀ (H : Vec Ideal S2048x4096 .bf16) (k : Fin 2048) (d : Fin 128),
      kvOf o H ((rH p (headOf c)).toLoadRect.idx (ix3 (n0 := 1) (n1 := 2048) (n2 := 128) 0 k d)) = H (ix2 k (colOf (headAt (blockCol o c)) d)) := by
    intro H k d
    rw [head_idx, kvOf_apply, blockCol_head]
  have he : ∀ k : Fin 2048, (∑ d : Fin 128,
      extractStridedSlice S32x128 ![0, 128 * (headOf c).val] (denseQ (xM.view.readAt (Elt Ideal) rX32.toLoadRect X) (qB.view.readAt (Elt Ideal) (rW o).toLoadRect WQ)) (head_slices (headOf c)) (ix2 i d)
        * kB.view.readAt (Elt Ideal) (rH p (headOf c)).toLoadRect (kvOf o KH) (ix3 0 k d))
      = if near i.val k.val then ((score x w kk (headAt (blockCol o c)) ⟨i.val, by omega⟩ k : ℝ) : EReal) else ⊥ := by
    intro k
    rw [if_pos (show near i.val k.val from .inr i.isLt)]
    refine score_scaled x w kk (headAt (blockCol o c)) ⟨i.val, by omega⟩ k _ _
      (fun d => by
        rw [head_apply, denseQ_apply]
        refine Finset.sum_congr rfl fun e _ => congrArg₂ (· * ·) ((read_x32 X i e).trans (hX _ _)) ((read_q WQ o e _).trans ((hW _ _ _).trans ?_))
        rw [blockCol_head])
      (fun d => (hread KH k d).trans (hK _ _))
  have hv : ∀ k : Fin 2048, vB.view.readAt (Elt Ideal) (rH p (headOf c)).toLoadRect (kvOf o VH) (ix3 0 k (inHead c)) = VH (ix2 k (blockCol o c)) := by
    intro k
    refine (hread VH k (inHead c)).trans (congrArg (fun n => VH (ix2 k n)) (Fin.ext ?_))
    show 128 * ((1024 * o.val + c.val) / 128) + c.val % 128 = 1024 * o.val + c.val
    omega
  exact Finset.sum_congr rfl fun k _ => congrArg₂ (· * ·)
    (weight_reciprocal (keep := fun k : Fin 2048 => near i.val k.val) ⟨0, .inr i.isLt⟩ he k) (hv k)

/-- A step at an element. -/
theorem block_apply (o : Fin 4) (p : Fin 2) (r : Fin 2048) (n : Fin 1024) :
    blockV o p X WQ WO KH VH (ix3 0 r n)
      = ∑ c : Fin 1024, context x w kk (fun k n => VH (ix2 k n)) r (blockCol o c) * WO (ix3 o c n) := by
  unfold blockV stepV
  by_cases h : r.val < 32
  · refine (if_pos h).trans ?_
    have e : denseRow (ix3 0 r n) = ix2 ⟨r.val, h⟩ n := by
      funext a; fin_cases a
      · exact Fin.ext (Nat.mod_eq_of_lt h)
      · rfl
    rw [e]
    exact dense_apply x w kk X WQ WO KH VH hX hW hK o p ⟨r.val, h⟩ n
  · refine (if_neg h).trans ?_
    have e : tileRow (ix3 0 r n) = ix2 (n0 := 256) (n1 := 1024) ⟨r.val % 256, Nat.mod_lt _ (by decide)⟩ n := by
      funext a; fin_cases a <;> rfl
    have er : rowOf (tileNo (ix3 0 r n)) ⟨r.val % 256, Nat.mod_lt _ (by decide)⟩ = r := Fin.ext (by show 256 * (r.val / 256) + r.val % 256 = r.val; omega)
    rw [e]
    have := tile_apply x w kk X WQ WO KH VH hX hW hK o p (tileNo (ix3 0 r n)) ⟨r.val % 256, Nat.mod_lt _ (by decide)⟩ n (by rw [er]; omega)
    rw [er] at this
    exact this

end Step

end Cert.Attn
-- ==== Proof.Operands.lean ====
/-
The kernel's operands at an element: a device's activations, keys and values, and the gathered weights, read of the arguments.
-/
module

public import proofs.«01_k».proof.Proof.Step
public import proofs.«01_k».proof.Proof.Region
public import Idealize.ShloMosaic.Lib.Pointwise
public import Idealize.ShloMosaic.Lib.Layout
public import Idealize.ShloMosaic.Lib.DynamicIndex
public import Idealize.ShloMosaic.Lib.StableHlo.RunClose
public import Idealize.ShloMosaic.Lib.Tactic.CleanTypes

@[expose] public section

set_option maxRecDepth 16384

noncomputable section

namespace Cert.Attn

open Cert.KernelIdeal Cert.KernelIdeal.Gen
open Idealize.ShloMosaic
open Idealize.ShloMosaic.TcCoe

/-! ## The host's lines -/

section
variable {F : FTy → Type} [FloatOps F] [Named F]
variable (m : (ℓ : Loc nD τ sig) → Buf (Elt F) ℓ)

/-- The device's number as the host computes it, and as an index. -/
abbrev devW (c : Dev nD) : IVec S_ 32 := id (Host.remui (Host.divui (constantI S_ 32 (Dev.word c)) (constantI S_ 32 1#32)) (constantI S_ 32 4#32))
abbrev startW (v : IVec S_ 32) : IVec S_ 32 := select (cmpi .slt v (constantI S_ 32 0#32)) (addi v (constantI S_ 32 4#32)) v
/-- The batch of an array at an index. -/
abbrev batchOf {α : Type} (x : S4x2048x32x128.Idx → α) (v : IVec S_ 32) : S2048x32x128.Idx → α :=
  shapeCast S2048x32x128 (Host.dynamicSlice S1x2048x32x128 x
    (fun k => ((![startW v, constantI S_ 32 0#32, constantI S_ 32 0#32, constantI S_ 32 0#32] : Fin 4 → IVec S_ 32) k (Shape.Idx.first h_S_)).toInt) sliceFits_S4x2048x32x128_S1x2048x32x128) shapeCasts_S1x2048x32x128_S2048x32x128

theorem V1_x (c : Dev nD) : V1 m c main_v1 = shapeCast S2048x1024 (m ((c : Thread nD τ).loc main_arg0)) shapeCasts_S1x2048x1024_S2048x1024 := by
  after_results
  rfl
theorem V1_dev (c : Dev nD) : V1 m c main_v5 = devW c := by
  after_results
theorem after_k (V : Valuation τ sig (Elt F)) : StableHlo.after hostOps0_1 V main_v6 = batchOf (V main_arg2) (V main_v5) := by
  after_results_entrywise []
theorem after_v (V : Valuation τ sig (Elt F)) : StableHlo.after hostOps0_3 V main_v8 = batchOf (V main_arg3) (V main_v5) := by
  after_results_entrywise []
theorem after_k2 (V : Valuation τ sig (Elt F)) : StableHlo.after hostOps0_2 V main_v7 = shapeCast S2048x4096 (V main_v6) shapeCasts_S2048x32x128_S2048x4096 := by
  after_results
  rfl
theorem after_v2 (V : Valuation τ sig (Elt F)) : StableHlo.after hostOps0_4 V main_v9 = shapeCast S2048x4096 (V main_v8) shapeCasts_S2048x32x128_S2048x4096 := by
  after_results
  rfl

/-- A device's activations, -/
theorem xOf_eq (c : Dev nD) : xOf m c = shapeCast S2048x1024 (m ((c : Thread nD τ).loc main_arg0)) shapeCasts_S1x2048x1024_S2048x1024 :=
  ((V5_of m c main_v1 (by decide)).trans <| (V4_of m c main_v1 (by decide)).trans <| (V3_of m c main_v1 (by decide)).trans (V2_of m c main_v1 (by decide))).trans (V1_x m c)
/-- its keys, -/
theorem kOf_eq (c : Dev nD) : kOf m c = shapeCast S2048x4096 (batchOf (m ((c : Thread nD τ).loc main_arg2)) (devW c)) shapeCasts_S2048x32x128_S2048x4096 :=
  ((V5_of m c main_v7 (by decide)).trans (V4_of m c main_v7 (by decide))).trans <| (after_k2 _).trans <|
    congrArg (shapeCast S2048x4096 · shapeCasts_S2048x32x128_S2048x4096) <| (after_k _).trans <|
      congrArg₂ batchOf (V1_of m c main_arg2 (by decide)) (V1_dev m c)
/-- its values, -/
theorem vOf'_eq (c : Dev nD) : vOf' m c = shapeCast S2048x4096 (batchOf (m ((c : Thread nD τ).loc main_arg3)) (devW c)) shapeCasts_S2048x32x128_S2048x4096 :=
  (after_v2 _).trans <| congrArg (shapeCast S2048x4096 · shapeCasts_S2048x32x128_S2048x4096) <| (after_v _).trans <|
    congrArg₂ batchOf ((V3_of m c main_arg3 (by decide)).trans <| (V2_of m c main_arg3 (by decide)).trans (V1_of m c main_arg3 (by decide)))
      ((V3_of m c main_v5 (by decide)).trans <| (V2_of m c main_v5 (by decide)).trans (V1_dev m c))
/-- and its blocks of the weights. -/
theorem qOf_eq (c : Dev nD) : qOf m c = m ((c : Thread nD τ).loc main_arg1) :=
  (V5_of m c main_arg1 (by decide)).trans <| (V4_of m c main_arg1 (by decide)).trans <| (V3_of m c main_arg1 (by decide)).trans <| (V2_of m c main_arg1 (by decide)).trans (V1_of m c main_arg1 (by decide))
theorem oOf_eq (c : Dev nD) : oOf m c = m ((c : Thread nD τ).loc main_arg4) :=
  (V5_of m c main_arg4 (by decide)).trans <| (V4_of m c main_arg4 (by decide)).trans <| (V3_of m c main_arg4 (by decide)).trans <| (V2_of m c main_arg4 (by decide)).trans (V1_of m c main_arg4 (by decide))
end

/-! ## At an element -/

/-- The batch that a device reads is its own. -/
theorem start_eq (c : Dev nD) (k : Fin 4) :
    ((![startW (devW c), constantI S_ 32 0#32, constantI S_ 32 0#32, constantI S_ 32 0#32] : Fin 4 → IVec S_ 32) k (Shape.Idx.first h_S_)).toInt = ((![c.val, 0, 0, 0] : Fin 4 → ℕ) k : Int) := by
  revert c k; decide
theorem slices_batch (c : Dev nD) : S4x2048x32x128.Slices ![c.val, 0, 0, 0] S1x2048x32x128 := by revert c; decide
theorem batch_apply {α : Type} (x : S4x2048x32x128.Idx → α) (c : Dev nD) (k : Fin 2048) (n : Fin 4096) :
    shapeCast S2048x4096 (batchOf x (devW c)) shapeCasts_S2048x32x128_S2048x4096 (ix2 k n)
      = x (ix4 (c : Fin 4) k (headAt n) ⟨n.val % 128, Nat.mod_lt _ (by decide)⟩) := by
  unfold batchOf
  rw [Host.dynamicSlice_eq_extractStridedSlice S1x2048x32x128 x _ ![c.val, 0, 0, 0] _ (slices_batch c) (start_eq c)]
  pointwise []

end Cert.Attn
-- ==== Proof.Consts.lean ====
/-
The constants that the programs spell, as the extended reals that they denote.
-/
module

public import Idealize.ShloMosaic.PureOps.Ideal
public import Idealize.ShloMosaic.Lib.IdealHost

@[expose] public section

noncomputable section

namespace Cert.Attn

open Idealize.ShloMosaic

theorem bits_128 : Ideal.ofBits .f32 0x43000000#32 = ((128 : ℝ) : EReal) := by
  simp [Ideal.ofBits, Ideal.ieee, -EReal.coe_mul]; norm_num

theorem bits_bot : Ideal.ofBits .f32 0xFF800000#32 = (⊥ : EReal) := by
  simp [Ideal.ofBits, Ideal.ieee]

theorem bits_top : Ideal.ofBits .f32 0x7F800000#32 = (⊤ : EReal) := by
  simp [Ideal.ofBits, Ideal.ieee]

end Cert.Attn
-- ==== Proof.Reference.lean ====
/-
The reference's result over the extended reals, at an element: over real activations, weights and keys it is the attention's
output.
-/
module

public import proofs.«01_k».proof.Proof.Step
public import proofs.«01_k».proof.Proof.Consts
public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

set_option maxRecDepth 16384

noncomputable section

namespace Cert.Value

open Cert.ReferenceIdeal Cert.ReferenceIdeal.Gen Cert.ReferenceIdeal.Value
open Idealize.ShloMosaic
open Cert.Attn (colOf headAt near nearW nearW_one or_one select_word bits_128 bits_bot)

/-! ## The reference's terms -/

/-- The row numbers and the key numbers, -/
abbrev rowsR : IVec S2048x1 32 := broadcastInDim S2048x1 ![0] bcast_S2048_S2048x1_0 (iotaInDim S2048 32 0)
abbrev colsR : IVec S1x2048 32 := broadcastInDim S1x2048 ![1] bcast_S2048_S1x2048_1 (iotaInDim S2048 32 0)
/-- the mask, -/
def maskR : IVec S2048x2048 1 :=
  ori (cmpi .sle (absi (subi (broadcastInDim S2048x2048 ![0, 1] bcast_S2048x1_S2048x2048_0_1 rowsR) (broadcastInDim S2048x2048 ![0, 1] bcast_S1x2048_S2048x2048_0_1 colsR)))
      (broadcastInDim S2048x2048 ![] bcast_S_S2048x2048 (constantI S_ 32 128#32)))
    (ori (broadcastInDim S2048x2048 ![0, 1] bcast_S1x2048_S2048x2048_0_1 (cmpi .slt colsR (broadcastInDim S1x2048 ![] bcast_S_S1x2048 (constantI S_ 32 32#32))))
      (broadcastInDim S2048x2048 ![0, 1] bcast_S2048x1_S2048x2048_0_1 (cmpi .slt rowsR (broadcastInDim S2048x1 ![] bcast_S_S2048x1 (constantI S_ 32 32#32)))))
/-- the rows that keep a key, -/
def anyR : IVec S2048 1 := Host.reduce IntOp.ori maskR (constantI S_ 1 0#1) reducesTo_S2048x2048_S2048_d1 h_S_
/-- the queries, -/
def queryR (x : FVec Ideal S4x2048x1024 .bf16) (w : FVec Ideal S1024x4096 .bf16) : FVec Ideal S4x2048x32x128 .bf16 :=
  shapeCast _ (truncf .bf16 (Host.dotGeneral dot_S4x2048x1024_S1024x4096_S4x2048x4096_2_0_01_1_n_n none x w) bitsLt_bf16_f32) shapeCasts_S4x2048x4096_S4x2048x32x128
/-- the scores, -/
def scoreR (q k : FVec Ideal S4x2048x32x128 .bf16) : FVec Ideal S4x32x2048x2048 .f32 :=
  Host.divf (extf .f32 (truncf .bf16 (Host.dotGeneral dot_S4x2048x32x128_S4x2048x32x128_S4x32x2048x2048_3_3_1_1_02_02 none q k) bitsLt_bf16_f32) bitsLt_bf16_f32)
    (broadcastInDim S4x32x2048x2048 ![] bcast_S_S4x32x2048x2048 (Host.sqrt (constant S_ .f32 0x43000000#32)))
/-- the masked scores, -/
def maskedR (s : FVec Ideal S4x32x2048x2048 .f32) : FVec Ideal S4x32x2048x2048 .f32 :=
  select (broadcastInDim S4x32x2048x2048 ![0, 1, 2, 3] bcast_S1x1x2048x2048_S4x32x2048x2048_0_1_2_3 (broadcastInDim S1x1x2048x2048 ![2, 3] bcast_S2048x2048_S1x1x2048x2048_2_3 maskR))
    s (broadcastInDim S4x32x2048x2048 ![] bcast_S_S4x32x2048x2048 (id (constant S_ .f32 0xFF800000#32)))
/-- their exponentials, the row's maximum subtracted, -/
def expR (s : FVec Ideal S4x32x2048x2048 .f32) : FVec Ideal S4x32x2048x2048 .f32 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2
    (Host.reduce FloatOps.maximumf s (constant S_ .f32 0xFF800000#32) reducesTo_S4x32x2048x2048_S4x32x2048_d3 h_S_))))
/-- the weights, -/
def weightR (some : IVec S2048 1) (e : FVec Ideal S4x32x2048x2048 .f32) : FVec Ideal S4x32x2048x2048 .f32 :=
  select (broadcastInDim S4x32x2048x2048 ![0, 1, 2, 3] bcast_S1x1x2048x1_S4x32x2048x2048_0_1_2_3 (broadcastInDim S1x1x2048x1 ![2] bcast_S2048_S1x1x2048x1_2 some))
    (Host.divf e (broadcastInDim S4x32x2048x2048 ![0, 1, 2, 3] bcast_S4x32x2048x1_S4x32x2048x2048_0_1_2_3
      (select (broadcastInDim S4x32x2048x1 ![0, 1, 2, 3] bcast_S1x1x2048x1_S4x32x2048x1_0_1_2_3 (broadcastInDim S1x1x2048x1 ![2] bcast_S2048_S1x1x2048x1_2 some))
        (broadcastInDim S4x32x2048x1 ![0, 1, 2] bcast_S4x32x2048_S4x32x2048x1_0_1_2 (Host.reduceAdd e (constant S_ .f32 0x00000000#32) reducesTo_S4x32x2048x2048_S4x32x2048_d3 h_S_))
        (broadcastInDim S4x32x2048x1 ![] bcast_S_S4x32x2048x1 (id (constant S_ .f32 0x3F800000#32))))))
    (broadcastInDim S4x32x2048x2048 ![] bcast_S_S4x32x2048x2048 (id (constant S_ .f32 0x00000000#32)))
/-- and the result. -/
def resultR (v : FVec Ideal S4x2048x32x128 .bf16) (wo : FVec Ideal S4096x1024 .bf16) (p : FVec Ideal S4x32x2048x2048 .f32) : FVec Ideal S4x2048x1024 .f32 :=
  Host.dotGeneral dot_S4x2048x4096_S4096x1024_S4x2048x1024_2_0_01_1_n_n none (shapeCast _ (transpose S4x2048x32x128 [0, 3, 1, 2]
    (Host.dotGeneral dot_S4x2048x32x128_S4x32x2048x2048_S4x32x128x2048_1_3_3_2_02_01 none v p) transposes_S4x32x128x2048_S4x2048x32x128_0_3_1_2) shapeCasts_S4x2048x32x128_S4x2048x4096) wo

/-- The reference's result is these. -/
theorem res_eq (m : (ℓ : Loc nD τ sig) → Buf (Elt Ideal) ℓ) (c : Dev nD) :
    res_main_v46 m c = resultR (m ((c.tc : Thread nD τ).loc main_arg3)) (m ((c.tc : Thread nD τ).loc main_arg4))
      (weightR anyR (expR (maskedR (scoreR (queryR (m ((c.tc : Thread nD τ).loc main_arg0)) (m ((c.tc : Thread nD τ).loc main_arg1))) (m ((c.tc : Thread nD τ).loc main_arg2)))))) := by
  unfold res_main_v46 resultR weightR expR maskedR scoreR queryR anyR maskR; rfl

/-! ## At an element -/

/-- A row attends to a key. -/
theorem maskR_apply (r k : Fin 2048) : maskR (ix2 r k) = 1#1 ↔ near r.val k.val := by
  rw [← nearW_one r.val k.val (by omega) (by omega)]
  pointwise [maskR]
  rw [nearW, or_one, or_one, or_one, or_one, or_assoc]
/-- A row attends to some key. -/
theorem anyR_apply (r : Fin 2048) : anyR (ix1 r) = 1#1 := by
  pointwise [anyR]
  exact (Routing.fold_ori _ _).2 ⟨r, Finset.mem_univ r, (maskR_apply r r).2 (.inl (.inl ⟨by omega, by omega⟩))⟩
theorem queryR_apply (x : FVec Ideal S4x2048x1024 .bf16) (w : FVec Ideal S1024x4096 .bf16) (b : Fin 4) (r : Fin 2048) (h : Fin 32) (d : Fin 128) :
    queryR x w (ix4 b r h d) = ∑ i : Fin 1024, x (ix3 b r i) * w (ix2 i (colOf h d)) := by
  pointwise [queryR]
  exact Finset.sum_congr rfl fun i _ => congrArg (fun n => x (ix3 b r i) * w (ix2 i n)) (Fin.ext (by show h.val * 128 + d.val = 128 * h.val + d.val; omega))
theorem scoreR_apply (q k : FVec Ideal S4x2048x32x128 .bf16) (b : Fin 4) (h : Fin 32) (r j : Fin 2048) :
    scoreR q k (ix4 b h r j) = (∑ d : Fin 128, q (ix4 b r h d) * k (ix4 b j h d)) * (((Real.sqrt 128)⁻¹ : ℝ) : EReal) := by
  pointwise [scoreR]
  rw [bits_128, Ideal.sqrt_coe, if_neg (show ¬(128 : ℝ) < 0 by norm_num), Ideal.div_coe (show Real.sqrt 128 ≠ 0 from (Real.sqrt_pos.mpr (by norm_num)).ne'), one_div]
theorem maskedR_apply (s : FVec Ideal S4x32x2048x2048 .f32) (b : Fin 4) (h : Fin 32) (r j : Fin 2048) :
    maskedR s (ix4 b h r j) = if near r.val j.val then s (ix4 b h r j) else (⊥ : EReal) := by
  pointwise [maskedR]
  refine (select_word _ _ (maskR_apply r j) _ _).trans ?_
  refine congrArg (fun e : EReal => if near r.val j.val then s (ix4 b h r j) else e) ?_
  exact bits_bot
theorem expR_apply (s : FVec Ideal S4x32x2048x2048 .f32) (b : Fin 4) (h : Fin 32) (r j : Fin 2048) :
    expR s (ix4 b h r j) = Ideal.exp (s (ix4 b h r j) - Finset.univ.fold max (⊥ : EReal) (fun k => s (ix4 b h r k))) := by
  pointwise [expR]
  rw [bits_bot]
theorem weightR_apply (some : IVec S2048 1) (e : FVec Ideal S4x32x2048x2048 .f32) (b : Fin 4) (h : Fin 32) (r j : Fin 2048) (hs : some (ix1 r) = 1#1) :
    weightR some e (ix4 b h r j) = Ideal.div (e (ix4 b h r j)) (∑ k, e (ix4 b h r k)) := by
  pointwise [weightR]
  rw [hs]
  rfl
theorem resultR_apply (v : FVec Ideal S4x2048x32x128 .bf16) (wo : FVec Ideal S4096x1024 .bf16) (p : FVec Ideal S4x32x2048x2048 .f32) (b : Fin 4) (r : Fin 2048) (j : Fin 1024) :
    resultR v wo p (ix3 b r j) = ∑ n : Fin 4096, (∑ k : Fin 2048, p (ix4 b (headAt n) r k) * v (ix4 b k (headAt n) ⟨n.val % 128, Nat.mod_lt _ (by decide)⟩)) * wo (ix2 n j) := by
  pointwise [resultR]
  exact Finset.sum_congr rfl fun n _ => congrArg (· * wo (ix2 n j)) (Finset.sum_congr rfl fun k _ => mul_comm _ _)

end Cert.Value
-- ==== Proof.Algebraic.lean ====
/-
The value claim: over the extended reals every device's result is its block of the reference's, at finite activations, query
weights and keys.
-/
module

public import proofs.«01_k».proof.Defs
public import proofs.«01_k».proof.Proof.Gen.Pre_finite_KernelIdeal
public import proofs.«01_k».proof.Proof.Frames
public import proofs.«01_k».proof.Proof.Operands
public import proofs.«01_k».proof.Proof.Reference

@[expose] public section

set_option maxRecDepth 16384

noncomputable section

namespace Cert.Attn

open Cert.KernelIdeal Cert.KernelIdeal.Gen
open Idealize.ShloMosaic
open Idealize.ShloMosaic.TcCoe

/-! ## The kernel's result at an element -/

theorem whole_q (v : Vec Ideal S1024x1024 .bf16) : qM.view.readAt (Elt Ideal) rFull.toLoadRect v = v := by
  funext j
  exact congrArg v (funext fun a => Fin.ext (by
    show (rFull.emb j a).val = (j a).val
    rw [Rect.emb_apply]; show ![0, 0] a + 1 * (j a).val = (j a).val; fin_cases a <;> simp))
theorem whole_o (v : Vec Ideal S1024x1024 .bf16) : oM.view.readAt (Elt Ideal) rFull.toLoadRect v = v := whole_q v

theorem scaled_apply (v : Vec Ideal S1024x1024 .bf16) (i n : Fin 1024) :
    k0_pay85 (F := Ideal) v (ix3 (0 : Fin 1) i n) = v (ix2 i n) * (((Real.sqrt 128)⁻¹ : ℝ) : EReal) := by
  pointwise [k0_pay85]
  exact congrArg (v (ix2 i n) * ·) (IdealRules.named_const.ideal_named_scalar _ _ _ _ rfl)
theorem plain_apply (v : Vec Ideal S1024x1024 .bf16) (i n : Fin 1024) : k0_pay86 (F := Ideal) v (ix3 (0 : Fin 1) i n) = v (ix2 i n) := by
  pointwise [k0_pay86]

variable (m : (ℓ : Loc nD τ sig) → Buf (Elt Ideal) ℓ)

theorem under_ix (i n : Fin 1024) : under i n = ix3 (0 : Fin 1) i n := by funext a; fin_cases a <;> rfl
theorem WQm_apply (o : Dev nD) (v : S1024x1024.Idx → EReal) (hv : m ((o : Thread nD τ).loc main_arg1) = v) (i n : Fin 1024) :
    WQm m (ix3 (o : Fin 4) i n) = v (ix2 i n) * (((Real.sqrt 128)⁻¹ : ℝ) : EReal) := by
  show k0_pay85 (qM.view.readAt (Elt Ideal) rFull.toLoadRect (qOf m o)) (under i n) = _
  rw [whole_q, qOf_eq, under_ix, hv]
  exact scaled_apply _ i n
theorem WOm_apply (o : Dev nD) (i n : Fin 1024) :
    WOm m (ix3 (o : Fin 4) i n) = (m ((o : Thread nD τ).loc main_arg4) : S1024x1024.Idx → EReal) (ix2 i n) := by
  show k0_pay86 (oM.view.readAt (Elt Ideal) rFull.toLoadRect (oOf m o)) (under i n) = _
  rw [whole_o, oOf_eq, under_ix]
  exact plain_apply _ i n
theorem xOf_apply (c : Dev nD) (r : Fin 2048) (i : Fin 1024) :
    xOf m c (ix2 r i) = (m ((c : Thread nD τ).loc main_arg0) : S1x2048x1024.Idx → EReal) (ix3 (0 : Fin 1) r i) := by
  rw [xOf_eq]
  generalize m ((c : Thread nD τ).loc main_arg0) = v
  clean_types
  pointwise []

/-- The devices' blocks in the order in which a device adds them are all the blocks. -/
theorem sum_devices (f : Fin 4 → EReal) (c : Fin 4) : ((f c + f (c + 1)) + f (c + 3)) + f (c + 2) = ∑ o, f o := by
  rw [Fin.sum_univ_four]
  fin_cases c
  · show ((f 0 + f 1) + f 3) + f 2 = _; abel
  · show ((f 1 + f 2) + f 0) + f 3 = _; abel
  · show ((f 2 + f 3) + f 1) + f 0 = _; abel
  · show ((f 3 + f 0) + f 2) + f 1 = _; abel
theorem sum_cols (g : Fin 4096 → EReal) : ∑ o : Fin 4, ∑ j : Fin 1024, g (blockCol o j) = ∑ n, g n :=
  ((sum_blocks 4 1024 g).trans (Finset.sum_congr rfl fun o _ => Finset.sum_congr rfl fun j _ =>
    congrArg g (Fin.ext (by rw [finProdFinEquiv_apply_val]; show j.val + 1024 * o.val = 1024 * o.val + j.val; omega)))).symm

/-- A device's result, the arguments being the parts of whole arrays. -/
theorem res_apply (c : Dev nD) (x : Fin 2048 → Fin 1024 → ℝ) (w : Fin 1024 → Fin 4096 → ℝ) (kk : Fin 2048 → Fin 4096 → ℝ)
    (v : Fin 2048 → Fin 4096 → EReal) (wo : Fin 4096 → Fin 1024 → EReal)
    (hx : ∀ r i, (m ((c : Thread nD τ).loc main_arg0) : S1x2048x1024.Idx → EReal) (ix3 (0 : Fin 1) r i) = (x r i : EReal))
    (hw : ∀ (o : Dev nD) i n, (m ((o : Thread nD τ).loc main_arg1) : S1024x1024.Idx → EReal) (ix2 i n) = (w i (blockCol o n) : EReal))
    (hk : ∀ k n, (m ((c : Thread nD τ).loc main_arg2) : S4x2048x32x128.Idx → EReal) (ix4 (c : Fin 4) k (headAt n) ⟨n.val % 128, Nat.mod_lt _ (by decide)⟩) = (kk k n : EReal))
    (hv : ∀ k n, (m ((c : Thread nD τ).loc main_arg3) : S4x2048x32x128.Idx → EReal) (ix4 (c : Fin 4) k (headAt n) ⟨n.val % 128, Nat.mod_lt _ (by decide)⟩) = v k n)
    (ho : ∀ (o : Dev nD) i n, (m ((o : Thread nD τ).loc main_arg4) : S1024x1024.Idx → EReal) (ix2 i n) = wo (blockCol o i) n)
    (r : Fin 2048) (n : Fin 1024) : res m c (ix3 (0 : Fin 1) r n) = ∑ j : Fin 4096, context x w kk v r j * wo j n := by
  have hV : (fun k n => vOf' m c (ix2 k n)) = v := by
    funext k n; rw [vOf'_eq]; exact (batch_apply _ c k n).trans (hv k n)
  have hb : ∀ (o : Fin 4) (p : Fin 2), blockV o p (xOf m c) (WQm m) (WOm m) (kOf m c) (vOf' m c) (ix3 (0 : Fin 1) r n)
      = ∑ j : Fin 1024, context x w kk v r (blockCol o j) * wo (blockCol o j) n := fun o p => by
    refine (block_apply x w kk _ _ _ _ _ (fun r i => (xOf_apply m c r i).trans (hx r i))
      (fun o i n => ((WQm_apply m o _ rfl i n).trans (congrArg (· * _) (hw o i n))).trans (EReal.coe_mul _ _).symm)
      (fun k n => by rw [kOf_eq]; exact (batch_apply _ c k n).trans (hk k n)) o p r n).trans ?_
    rw [hV]
    exact Finset.sum_congr rfl fun j _ => congrArg (_ * ·) ((WOm_apply m o j n).trans (ho o j n))
  have hs := sum_devices (fun o => ∑ j : Fin 1024, context x w kk v r (blockCol o j) * wo (blockCol o j) n) c
  rw [sum_cols fun j => context x w kk v r j * wo j n] at hs
  rw [← hs]
  unfold res resV
  exact congrArg₂ (· + ·) (congrArg₂ (· + ·) (congrArg₂ (· + ·) (hb c 0) (hb (c + 1) 1)) (hb (c + 3) 0)) (hb (c + 2) 1)

end Cert.Attn

namespace Cert.Value

open Idealize.ShloMosaic Idealize.SL.Sem
open Cert.Attn (colOf headAt blockCol near wt score context coe_dot weight_quotient)

/-! ## The reference's result at an element -/

theorem reference_apply (A0 : FVec Ideal Cert.ReferenceIdeal.S4x2048x1024 .bf16) (A1 : FVec Ideal Cert.ReferenceIdeal.S1024x4096 .bf16)
    (A2 A3 : FVec Ideal Cert.ReferenceIdeal.S4x2048x32x128 .bf16) (A4 : FVec Ideal Cert.ReferenceIdeal.S4096x1024 .bf16)
    (x : Fin 4 → Fin 2048 → Fin 1024 → ℝ) (w : Fin 1024 → Fin 4096 → ℝ) (kk : Fin 4 → Fin 2048 → Fin 4096 → ℝ)
    (hx : ∀ b r i, A0 (ix3 b r i) = (x b r i : EReal)) (hw : ∀ i n, A1 (ix2 i n) = (w i n : EReal))
    (hk : ∀ b k h d, A2 (ix4 b k h d) = (kk b k (colOf h d) : EReal)) (b : Fin 4) (r : Fin 2048) (j : Fin 1024) :
    resultR A3 A4 (weightR anyR (expR (maskedR (scoreR (queryR A0 A1) A2)))) (ix3 b r j)
      = ∑ n : Fin 4096, context (x b) w (kk b) (fun k n => A3 (ix4 b k (headAt n) ⟨n.val % 128, Nat.mod_lt _ (by decide)⟩)) r n * A4 (ix2 n j) := by
  have hs : ∀ h k, scoreR (queryR A0 A1) A2 (ix4 b h r k) = (score (x b) w (kk b) h r k : EReal) := fun h k => by
    rw [scoreR_apply, score, EReal.coe_mul, ← coe_dot]
    refine congrArg (· * _) (Finset.sum_congr rfl fun d _ => congrArg₂ (· * ·) ?_ (hk b k h d))
    rw [queryR_apply, ← coe_dot]
    exact Finset.sum_congr rfl fun i _ => congrArg₂ (· * ·) (hx b r i) (hw i _)
  rw [resultR_apply]
  refine Finset.sum_congr rfl fun n _ => congrArg (· * A4 (ix2 n j)) ?_
  rw [context]
  refine Finset.sum_congr rfl fun k _ => congrArg (fun e : EReal => e * A3 (ix4 b k (headAt n) ⟨n.val % 128, Nat.mod_lt _ (by decide)⟩)) ?_
  rw [weightR_apply _ _ _ _ _ _ (anyR_apply r), expR_apply]
  rw [Finset.sum_congr rfl fun k _ => expR_apply (maskedR (scoreR (queryR A0 A1) A2)) b (headAt n) r k]
  exact weight_quotient (keep := fun k : Fin 2048 => near r.val k.val) (a := score (x b) w (kk b) (headAt n) r)
    (e := fun k => maskedR (scoreR (queryR A0 A1) A2) (ix4 b (headAt n) r k)) ⟨r, .inl (.inl ⟨by omega, by omega⟩)⟩
    (fun k => by rw [maskedR_apply, hs]) k

/-! ## Finite arguments -/

theorem real_of_abs (a : EReal) (h : Ideal.cmp .olt (max a (-a)) (Ideal.ofBits .f32 0x7F800000#32) = 1#1) : (a.toReal : EReal) = a := by
  rw [Cert.Attn.bits_top] at h
  induction a with
  | bot => exact absurd h (by simp [Ideal.cmp])
  | top => exact absurd h (by simp [Ideal.cmp])
  | coe r => rfl

theorem finite_of {s : Shape} (x : FVec Ideal s .bf16) (hb : FTy.bits .bf16 < FTy.bits .f32) (hc : (⟨0, ![]⟩ : Shape).BroadcastsInDim s (![] : Fin 0 → Fin s.rank))
    (h : cmpf .olt (Host.absf (extf .f32 x hb)) (broadcastInDim s ![] hc (constant ⟨0, ![]⟩ .f32 0x7F800000#32)) = fun _ => 1#1) (i : s.Idx) :
    (EReal.toReal (x i) : EReal) = x i := real_of_abs (x i) (congrFun h i)

/-! ## The claim -/

theorem colOf_head (n : Fin 4096) : colOf (headAt n) ⟨n.val % 128, Nat.mod_lt _ (by decide)⟩ = n :=
  Fin.ext (Nat.div_add_mod n.val 128)
theorem head_col (h : Fin 32) (d : Fin 128) : headAt (colOf h d) = h := Fin.ext (by show (128 * h.val + d.val) / 128 = h.val; omega)
theorem rest_col (h : Fin 32) (d : Fin 128) : (⟨(colOf h d).val % 128, Nat.mod_lt _ (by decide)⟩ : Fin 128) = d :=
  Fin.ext (by show (128 * h.val + d.val) % 128 = d.val; omega)

theorem blockCol_split (n : Fin 4096) : blockCol ⟨n.val / 1024, by omega⟩ ⟨n.val % 1024, Nat.mod_lt _ (by decide)⟩ = n :=
  Fin.ext (Nat.div_add_mod n.val 1024)

theorem row_idx (h : Layout.Tiles ⟨3, ![1, 2048, 1024]⟩ ⟨3, ![4, 2048, 1024]⟩ 0 4) (c : Fin 4) (r : Fin 2048) (j : Fin 1024) :
    h.idx c (ix3 (0 : Fin 1) r j) = ix3 c r j := by
  funext a; fin_cases a
  · exact Fin.ext (by show c.val * 1 + 0 = c.val; omega)
  · rfl
  · rfl
theorem col_idx (h : Layout.Tiles ⟨2, ![1024, 1024]⟩ ⟨2, ![1024, 4096]⟩ 1 4) (c : Fin 4) (i n : Fin 1024) :
    h.idx c (ix2 i n) = ix2 i (blockCol c n) := by
  funext a; fin_cases a
  · rfl
  · exact Fin.ext (by show c.val * 1024 + n.val = 1024 * c.val + n.val; omega)
theorem out_idx (h : Layout.Tiles ⟨2, ![1024, 1024]⟩ ⟨2, ![4096, 1024]⟩ 0 4) (c : Fin 4) (i n : Fin 1024) :
    h.idx c (ix2 i n) = ix2 (blockCol c i) n := by
  funext a; fin_cases a
  · exact Fin.ext (by show c.val * 1024 + i.val = 1024 * c.val + i.val; omega)
  · rfl

theorem algebraic : Cert.algebraic_KernelIdeal_ReferenceIdeal_pre_finite_KernelIdeal := by
  intro m g m' g' hp hm
  generalize hA0 : m' (((0 : Dev Cert.ReferenceIdeal.nD).tc : Thread Cert.ReferenceIdeal.nD Cert.ReferenceIdeal.τ).loc Cert.ReferenceIdeal.main_arg0) = A0 at hm
  generalize hA1 : m' (((0 : Dev Cert.ReferenceIdeal.nD).tc : Thread Cert.ReferenceIdeal.nD Cert.ReferenceIdeal.τ).loc Cert.ReferenceIdeal.main_arg1) = A1 at hm
  generalize hA2 : m' (((0 : Dev Cert.ReferenceIdeal.nD).tc : Thread Cert.ReferenceIdeal.nD Cert.ReferenceIdeal.τ).loc Cert.ReferenceIdeal.main_arg2) = A2 at hm
  generalize hA3 : m' (((0 : Dev Cert.ReferenceIdeal.nD).tc : Thread Cert.ReferenceIdeal.nD Cert.ReferenceIdeal.τ).loc Cert.ReferenceIdeal.main_arg3) = A3 at hm
  generalize hA4 : m' (((0 : Dev Cert.ReferenceIdeal.nD).tc : Thread Cert.ReferenceIdeal.nD Cert.ReferenceIdeal.τ).loc Cert.ReferenceIdeal.main_arg4) = A4 at hm
  have hp0 : ∀ (c : Fin 4) r i, (EReal.toReal (A0 (ix3 c r i)) : EReal) = A0 (ix3 c r i) := fun c r i => by
    have h := finite_of _ _ _ (hp c).1 (ix3 (0 : Fin 1) r i)
    rw [(hm c).1, Layout.block_apply, row_idx] at h
    exact h
  have hp1 : ∀ i n, (EReal.toReal (A1 (ix2 i n)) : EReal) = A1 (ix2 i n) := fun i n => by
    have h := finite_of _ _ _ (hp (⟨n.val / 1024, by omega⟩ : Fin 4)).2.1 (ix2 i (⟨n.val % 1024, Nat.mod_lt _ (by decide)⟩ : Fin 1024))
    rw [(hm (⟨n.val / 1024, by omega⟩ : Fin 4)).2.1, Layout.block_apply, col_idx, blockCol_split] at h
    exact h
  have hp2 : ∀ b k h d, (EReal.toReal (A2 (ix4 b k h d)) : EReal) = A2 (ix4 b k h d) := fun b k h d => by
    have h := finite_of _ _ _ (hp (0 : Fin 4)).2.2 (ix4 b k h d)
    rw [(hm (0 : Fin 4)).2.2.1] at h
    exact h
  have key : ∀ c : Fin 4, Cert.Attn.res m c = Layout.block ⟨3, ![1, 2048, 1024]⟩ ⟨3, ![4, 2048, 1024]⟩ 0 4 c (Cert.ReferenceIdeal.Value.res_main_v46 m' 0) := fun c => by
    funext i
    obtain ⟨z, r, j, rfl⟩ : ∃ (z : Fin 1) (r : Fin 2048) (j : Fin 1024), i = ix3 z r j := ⟨i 0, i 1, i 2, by funext a; fin_cases a <;> rfl⟩
    obtain rfl : z = 0 := Subsingleton.elim _ _
    rw [Layout.block_apply, row_idx, res_eq, hA0, hA1, hA2, hA3, hA4]
    refine (Cert.Attn.res_apply m c (fun r i => (A0 (ix3 c r i)).toReal) (fun i n => (A1 (ix2 i n)).toReal)
      (fun k n => (A2 (ix4 c k (headAt n) ⟨n.val % 128, Nat.mod_lt _ (by decide)⟩)).toReal) (fun k n => A3 (ix4 c k (headAt n) ⟨n.val % 128, Nat.mod_lt _ (by decide)⟩))
      (fun n j => A4 (ix2 n j)) (fun r i => ?_) (fun o i n => ?_) (fun k n => ?_) (fun k n => ?_) (fun o i n => ?_) r j).trans
      (reference_apply A0 A1 A2 A3 A4 (fun b r i => (A0 (ix3 b r i)).toReal) (fun i n => (A1 (ix2 i n)).toReal)
        (fun b k n => (A2 (ix4 b k (headAt n) ⟨n.val % 128, Nat.mod_lt _ (by decide)⟩)).toReal)
        (fun b r i => (hp0 b r i).symm) (fun i n => (hp1 i n).symm) (fun b k h d => ?_) c r j).symm
    · rw [(hm c).1, Layout.block_apply, row_idx]; exact (hp0 c r i).symm
    · rw [(hm o).2.1, Layout.block_apply, col_idx]; exact (hp1 i _).symm
    · rw [(hm c).2.2.1]; exact (hp2 c k _ _).symm
    · rw [(hm c).2.2.2.1]
    · rw [(hm o).2.2.2.2, Layout.block_apply, out_idx]
    · rw [head_col, rest_col]; exact (hp2 b k h d).symm
  subst hA0 hA1 hA2 hA3 hA4
  refine ⟨Cert.ReferenceIdeal.Value.res_main_v46 m' 0, ?_, ?_⟩
  · exact (θ_run _ _ _).mono (fun r h c => ⟨(h.1 c).1.trans (key c), (h.1 c).2⟩) (Cert.Attn.run_args m g)
  · exact (θ_run _ _ _).mono (fun r h => h 0) (Cert.ReferenceIdeal.Value.run (F := Ideal) m' g')

end Cert.Value
-- ==== Proof.lean ====
/- The claims, each from the run of its program. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

/-- The reference has no semaphore: a run of it that keeps its arguments is quiescent. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "s" .bf16 0x3DB5#16 (((Real.sqrt 128)⁻¹ : ℝ) : EReal) rfl,
    IdealRules.named_const.statement Cert.KernelIdeal.κ "mask" .f32 0xC6EA6000#32 ⊥ rfl⟩

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    Cert.Twin.quiescent, Cert.Attn.quiescent_ideal, fun m ρ _ => Cert.Attn.quiescent_ideal m ρ trivial, quiescent_reference,
    fun m ρ _ => quiescent_reference m ρ trivial, preserves, Cert.Value.algebraic⟩

end Cert.Proof

end
